-- ==== Defs.lean ====
def Pre_Kernel [hPre_sizes_fill_the_rows : Cert.Pre_sizes_fill_the_rows.Facts] (m : (ℓ : Loc Cert.Kernel.nD Cert.Kernel.τ Cert.Kernel.sig) → Buf (Elt Bits) ℓ) : Prop :=
  ∀ c : Dev Cert.Kernel.nD,
    (Cert.Pre_sizes_fill_the_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_sizes_fill_the_rows : Cert.Pre_sizes_fill_the_rows.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fill_the_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fill_the_rows [hPre_sizes_fill_the_rows : Cert.Pre_sizes_fill_the_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fill_the_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Dequant (m : (ℓ : Loc Cert.Dequant.nD Cert.Dequant.τ Cert.Dequant.sig) → Buf (Elt Bits) ℓ) : Prop :=
  True

def Pre_DequantIdeal (m : (ℓ : Loc Cert.DequantIdeal.nD Cert.DequantIdeal.τ Cert.DequantIdeal.sig) → Buf (Elt Ideal) ℓ) : Prop :=
  True

def Pre_WeightsIdeal (m : (ℓ : Loc Cert.WeightsIdeal.nD Cert.WeightsIdeal.τ Cert.WeightsIdeal.sig) → Buf (Elt Ideal) ℓ) : Prop :=
  True

def quiescent_Kernel [hKernel : Cert.Kernel.Facts] [hPre_sizes_fill_the_rows : Cert.Pre_sizes_fill_the_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_sizes_fill_the_rows : Cert.Pre_sizes_fill_the_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_sizes_fill_the_rows [hReferenceIdeal : Cert.ReferenceIdeal.Facts] [hPre_sizes_fill_the_rows : Cert.Pre_sizes_fill_the_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fill_the_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Dequant [hDequant : Cert.Dequant.Facts] : Prop :=
  ∀ (m : (ℓ : Loc Cert.Dequant.nD Cert.Dequant.τ Cert.Dequant.sig) → Buf (Elt Bits) ℓ) (g : Dev Cert.Dequant.nD → PrngReg), Pre_Dequant m →
    θ_run (Cert.Dequant.defs (F := Bits)) (onTc (τ := Cert.Dequant.τ) (Cert.Dequant.main (F := Bits))) ⟨m, fun _ => 0, g⟩ (fun r => (∀ c : Dev Cert.Dequant.nD,
      r.2.mem ((c.tc : Thread Cert.Dequant.nD Cert.Dequant.τ).loc Cert.Dequant.main_arg0) = m ((c.tc : Thread Cert.Dequant.nD Cert.Dequant.τ).loc Cert.Dequant.main_arg0)
      ∧ r.2.mem ((c.tc : Thread Cert.Dequant.nD Cert.Dequant.τ).loc Cert.Dequant.main_arg1) = m ((c.tc : Thread Cert.Dequant.nD Cert.Dequant.τ).loc Cert.Dequant.main_arg1))
      ∧ r.2.sem = fun _ => 0)

def quiescent_DequantIdeal [hDequantIdeal : Cert.DequantIdeal.Facts] : Prop :=
  ∀ (m : (ℓ : Loc Cert.DequantIdeal.nD Cert.DequantIdeal.τ Cert.DequantIdeal.sig) → Buf (Elt Ideal) ℓ) (g : Dev Cert.DequantIdeal.nD → PrngReg), Pre_DequantIdeal m →
    θ_run (Cert.DequantIdeal.defs (F := Ideal)) (onTc (τ := Cert.DequantIdeal.τ) (Cert.DequantIdeal.main (F := Ideal))) ⟨m, fun _ => 0, g⟩ (fun r => (∀ c : Dev Cert.DequantIdeal.nD,
      r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
      ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_sizes_fill_the_rows : Cert.Pre_sizes_fill_the_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v63_0)) (v1 : (c : Dev Cert.KernelIdeal.nD) → Buf (Elt Ideal) ((c.tc : Thread Cert.KernelIdeal.nD Cert.KernelIdeal.τ).loc Cert.KernelIdeal.main_v63_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63_0) = v0 c
          ∧ r.2.mem ((c.tc : Thread Cert.KernelIdeal.nD Cert.KernelIdeal.τ).loc Cert.KernelIdeal.main_v63_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Dequant_DequantIdeal : Prop :=
  True

def algebraic_DequantIdeal_WeightsIdeal [hDequantIdeal : Cert.DequantIdeal.Facts] [hWeightsIdeal : Cert.WeightsIdeal.Facts] : Prop :=
  ∀ (m : (ℓ : Loc Cert.DequantIdeal.nD Cert.DequantIdeal.τ Cert.DequantIdeal.sig) → Buf (Elt Ideal) ℓ) (g : Dev Cert.DequantIdeal.nD → PrngReg)
    (m' : (ℓ : Loc Cert.WeightsIdeal.nD Cert.WeightsIdeal.τ Cert.WeightsIdeal.sig) → Buf (Elt Ideal) ℓ) (g' : Dev Cert.WeightsIdeal.nD → PrngReg), Pre_DequantIdeal m →
    (∀ c : Dev Cert.DequantIdeal.nD,
      m' ((c.tc : Thread Cert.WeightsIdeal.nD Cert.WeightsIdeal.τ).loc Cert.WeightsIdeal.main_arg0) = m ((c.tc : Thread Cert.DequantIdeal.nD Cert.DequantIdeal.τ).loc Cert.DequantIdeal.main_arg0)
      ∧ m' ((c.tc : Thread Cert.WeightsIdeal.nD Cert.WeightsIdeal.τ).loc Cert.WeightsIdeal.main_arg1) = m ((c.tc : Thread Cert.DequantIdeal.nD Cert.DequantIdeal.τ).loc Cert.DequantIdeal.main_arg1)) →
    ∃ (v0 : (c : Dev Cert.DequantIdeal.nD) → Buf (Elt Ideal) ((c.tc : Thread Cert.DequantIdeal.nD Cert.DequantIdeal.τ).loc Cert.DequantIdeal.main_v0)),
      θ_run (Cert.DequantIdeal.defs (F := Ideal)) (onTc (τ := Cert.DequantIdeal.τ) (Cert.DequantIdeal.main (F := Ideal))) ⟨m, fun _ => 0, g⟩ (fun r => ∀ c : Dev Cert.DequantIdeal.nD,
          r.2.mem ((c.tc : Thread Cert.DequantIdeal.nD Cert.DequantIdeal.τ).loc Cert.DequantIdeal.main_v0) = v0 c
          ∧ r.2.mem ((c.tc : Thread Cert.DequantIdeal.nD Cert.DequantIdeal.τ).loc Cert.DequantIdeal.main_arg0) = m ((c.tc : Thread Cert.DequantIdeal.nD Cert.DequantIdeal.τ).loc Cert.DequantIdeal.main_arg0)
          ∧ r.2.mem ((c.tc : Thread Cert.DequantIdeal.nD Cert.DequantIdeal.τ).loc Cert.DequantIdeal.main_arg1) = m ((c.tc : Thread Cert.DequantIdeal.nD Cert.DequantIdeal.τ).loc Cert.DequantIdeal.main_arg1))
      ∧ θ_run (Cert.WeightsIdeal.defs (F := Ideal)) (onTc (τ := Cert.WeightsIdeal.τ) (Cert.WeightsIdeal.main (F := Ideal))) ⟨m', fun _ => 0, g'⟩ (fun r => ∀ c : Dev Cert.WeightsIdeal.nD,
          r.2.mem ((c.tc : Thread Cert.WeightsIdeal.nD Cert.WeightsIdeal.τ).loc Cert.WeightsIdeal.main_v0) = v0 c
          ∧ r.2.mem ((c.tc : Thread Cert.WeightsIdeal.nD Cert.WeightsIdeal.τ).loc Cert.WeightsIdeal.main_arg0) = m' ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m' ((c.tc : Thread Cert.WeightsIdeal.nD Cert.WeightsIdeal.τ).loc Cert.WeightsIdeal.main_arg1))

def Claim : Prop :=
  ∃ (hKernel : Cert.Kernel.Facts) (hKernelIdeal : Cert.KernelIdeal.Facts) (hReferenceIdeal : Cert.ReferenceIdeal.Facts) (hDequant : Cert.Dequant.Facts) (hDequantIdeal : Cert.DequantIdeal.Facts) (hWeightsIdeal : Cert.WeightsIdeal.Facts) (hPre_sizes_fill_the_rows : Cert.Pre_sizes_fill_the_rows.Facts),
    quiescent_Kernel (hKernel := hKernel) (hPre_sizes_fill_the_rows := hPre_sizes_fill_the_rows)
    ∧ quiescent_KernelIdeal (hKernelIdeal := hKernelIdeal) (hPre_sizes_fill_the_rows := hPre_sizes_fill_the_rows)
    ∧ quiescent_ReferenceIdeal (hReferenceIdeal := hReferenceIdeal)
    ∧ quiescent_ReferenceIdeal_pre_sizes_fill_the_rows (hReferenceIdeal := hReferenceIdeal) (hPre_sizes_fill_the_rows := hPre_sizes_fill_the_rows)
    ∧ quiescent_Dequant (hDequant := hDequant)
    ∧ quiescent_DequantIdeal (hDequantIdeal := hDequantIdeal)
    ∧ quiescent_WeightsIdeal (hWeightsIdeal := hWeightsIdeal)
    ∧ preserves_Kernel_KernelIdeal
    ∧ algebraic_KernelIdeal_ReferenceIdeal (hKernelIdeal := hKernelIdeal) (hReferenceIdeal := hReferenceIdeal) (hPre_sizes_fill_the_rows := hPre_sizes_fill_the_rows)
    ∧ preserves_Dequant_DequantIdeal
    ∧ algebraic_DequantIdeal_WeightsIdeal (hDequantIdeal := hDequantIdeal) (hWeightsIdeal := hWeightsIdeal)
-- ==== Pre_sizes_fill_the_rows.lean ====
abbrev S24576x7168 : Shape := ⟨2, ![24576, 7168]⟩
abbrev S24576x56 : Shape := ⟨2, ![24576, 56]⟩
abbrev S4x7168x7168 : Shape := ⟨3, ![4, 7168, 7168]⟩
abbrev S4x7168 : Shape := ⟨2, ![4, 7168]⟩
abbrev S4 : Shape := ⟨1, ![4]⟩
abbrev S1 : Shape := ⟨1, ![1]⟩
abbrev S_ : Shape := ⟨0, ![]⟩

class Facts : Prop where
  slices_S4_S1_0 : S4.Slices ![0] S1
  shapeCasts_S1_S_ : S1.ShapeCasts S_
  slices_S4_S1_1 : S4.Slices ![1] S1
  slices_S4_S1_2 : S4.Slices ![2] S1
  slices_S4_S1_3 : S4.Slices ![3] S1
  bcast_S_S4 : S_.BroadcastsInDim S4 (![] : Fin 0 → Fin S4.rank)

variable [Facts]

def fn {F : FTy → Type} [FloatOps F] (main_arg0 : FVec F S24576x7168 .fp8e4m3) (main_arg1 : FVec F S24576x56 .f32) (main_arg2 : FVec F S4x7168x7168 .bf16) (main_arg3 : FVec F S4x7168 .f32) (main_arg4 : IVec S4 32) : IVec S4 1 :=
  let main_v0 : IVec S1 32 := (extractStridedSlice S1 ![0] · slices_S4_S1_0) main_arg4
  let main_v1 : IVec S_ 32 := shapeCast S_ main_v0 shapeCasts_S1_S_
  let main_v2 : IVec S1 32 := (extractStridedSlice S1 ![1] · slices_S4_S1_1) main_arg4
  let main_v3 : IVec S_ 32 := shapeCast S_ main_v2 shapeCasts_S1_S_
  let main_v4 : IVec S_ 32 := addi main_v1 main_v3
  let main_v5 : IVec S1 32 := (extractStridedSlice S1 ![2] · slices_S4_S1_2) main_arg4
  let main_v6 : IVec S_ 32 := shapeCast S_ main_v5 shapeCasts_S1_S_
  let main_v7 : IVec S_ 32 := addi main_v4 main_v6
  let main_v8 : IVec S1 32 := (extractStridedSlice S1 ![3] · slices_S4_S1_3) main_arg4
  let main_v9 : IVec S_ 32 := shapeCast S_ main_v8 shapeCasts_S1_S_
  let main_v10 : IVec S_ 32 := addi main_v7 main_v9
  let main_c : IVec S_ 32 := constantI S_ 32 0#32
  let main_v11 : IVec S4 32 := broadcastInDim S4 ![] bcast_S_S4 main_c
  let main_v12 : IVec S4 1 := cmpi .sge main_arg4 main_v11
  let main_c_0 : IVec S_ 32 := constantI S_ 32 24576#32
  let main_v13 : IVec S4 32 := broadcastInDim S4 ![] bcast_S_S4 main_c_0
  let main_v14 : IVec S4 1 := cmpi .sle main_arg4 main_v13
  let main_v15 : IVec S4 1 := andi main_v12 main_v14
  let main_c_1 : IVec S_ 32 := constantI S_ 32 24576#32
  let main_v16 : IVec S_ 1 := cmpi .eq main_v10 main_c_1
  let main_v17 : IVec S4 1 := broadcastInDim S4 ![] bcast_S_S4 main_v16
  let main_v18 : IVec S4 1 := andi main_v15 main_v17
  main_v18
-- ==== Kernel.lean ====
abbrev S24576x7168 : Shape := ⟨2, ![24576, 7168]⟩
abbrev S24576x56 : Shape := ⟨2, ![24576, 56]⟩
abbrev S4x7168x7168 : Shape := ⟨3, ![4, 7168, 7168]⟩
abbrev S4x7168 : Shape := ⟨2, ![4, 7168]⟩
abbrev S4 : Shape := ⟨1, ![4]⟩
abbrev S_ : Shape := ⟨0, ![]⟩
abbrev S51 : Shape := ⟨1, ![51]⟩
abbrev S1 : Shape := ⟨1, ![1]⟩
abbrev S51x1 : Shape := ⟨2, ![51, 1]⟩
abbrev S1x4 : Shape := ⟨2, ![1, 4]⟩
abbrev S51x4 : Shape := ⟨2, ![51, 4]⟩
abbrev S4x1x7168 : Shape := ⟨3, ![4, 1, 7168]⟩
abbrev S24576x3584 : Shape := ⟨2, ![24576, 3584]⟩
abbrev S14x24576x2 : Shape := ⟨3, ![14, 24576, 2]⟩
abbrev S512x7168 : Shape := ⟨2, ![512, 7168]⟩
abbrev S512x56 : Shape := ⟨2, ![512, 56]⟩
abbrev S1x7168x256 : Shape := ⟨3, ![1, 7168, 256]⟩
abbrev S1x1x256 : Shape := ⟨3, ![1, 1, 256]⟩
abbrev S512x256 : Shape := ⟨2, ![512, 256]⟩
abbrev S1x512x2 : Shape := ⟨3, ![1, 512, 2]⟩
abbrev S512x128 : Shape := ⟨2, ![512, 128]⟩
abbrev S512x1 : Shape := ⟨2, ![512, 1]⟩
abbrev S7168x256 : Shape := ⟨2, ![7168, 256]⟩
abbrev S1x256 : Shape := ⟨2, ![1, 256]⟩
abbrev S512 : Shape := ⟨1, ![512]⟩
abbrev S1x512x1 : Shape := ⟨3, ![1, 512, 1]⟩

abbrev nBuf : Space → Nat
  | .hbm => 126
  | .vmem => 17
  | .smem => 4
  | _ => 0

abbrev bufTy : (tb : Table) → Fin (tcTables nBuf tb) → BufTy
  | .hbm, ⟨0, _⟩ => ⟨S24576x7168, .fp8e4m3⟩
  | .hbm, ⟨1, _⟩ => ⟨S24576x56, .f32⟩
  | .hbm, ⟨2, _⟩ => ⟨S4x7168x7168, .bf16⟩
  | .hbm, ⟨3, _⟩ => ⟨S4x7168, .f32⟩
  | .hbm, ⟨4, _⟩ => ⟨S4, .i32⟩
  | .hbm, ⟨5, _⟩ => ⟨S_, .i32⟩
  | .hbm, ⟨6, _⟩ => ⟨S_, .i32⟩
  | .hbm, ⟨7, _⟩ => ⟨S4, .i32⟩
  | .hbm, ⟨8, _⟩ => ⟨S4, .i32⟩
  | .hbm, ⟨9, _⟩ => ⟨S_, .i32⟩
  | .hbm, ⟨10, _⟩ => ⟨S_, .i32⟩
  | .hbm, ⟨11, _⟩ => ⟨S4, .i32⟩
  | .hbm, ⟨12, _⟩ => ⟨S4, .i32⟩
  | .hbm, ⟨13, _⟩ => ⟨S4, .i32⟩
  | .hbm, ⟨14, _⟩ => ⟨S_, .i32⟩
  | .hbm, ⟨15, _⟩ => ⟨S4, .i32⟩
  | .hbm, ⟨16, _⟩ => ⟨S4, .i1⟩
  | .hbm, ⟨17, _⟩ => ⟨S4, .i32⟩
  | .hbm, ⟨18, _⟩ => ⟨S4, .i32⟩
  | .hbm, ⟨19, _⟩ => ⟨S_, .i32⟩
  | .hbm, ⟨20, _⟩ => ⟨S4, .i32⟩
  | .hbm, ⟨21, _⟩ => ⟨S4, .i1⟩
  | .hbm, ⟨22, _⟩ => ⟨S4, .i1⟩
  | .hbm, ⟨23, _⟩ => ⟨S_, .i32⟩
  | .hbm, ⟨24, _⟩ => ⟨S4, .i32⟩
  | .hbm, ⟨25, _⟩ => ⟨S4, .i32⟩
  | .hbm, ⟨26, _⟩ => ⟨S4, .i32⟩
  | .hbm, ⟨27, _⟩ => ⟨S_, .i32⟩
  | .hbm, ⟨28, _⟩ => ⟨S4, .i32⟩
  | .hbm, ⟨29, _⟩ => ⟨S4, .i1⟩
  | .hbm, ⟨30, _⟩ => ⟨S_, .i32⟩
  | .hbm, ⟨31, _⟩ => ⟨S4, .i32⟩
  | .hbm, ⟨32, _⟩ => ⟨S4, .i32⟩
  | .hbm, ⟨33, _⟩ => ⟨S_, .i32⟩
  | .hbm, ⟨34, _⟩ => ⟨S_, .i32⟩
  | .hbm, ⟨35, _⟩ => ⟨S4, .i32⟩
  | .hbm, ⟨36, _⟩ => ⟨S4, .i32⟩
  | .hbm, ⟨37, _⟩ => ⟨S4, .i32⟩
  | .hbm, ⟨38, _⟩ => ⟨S_, .i32⟩
  | .hbm, ⟨39, _⟩ => ⟨S4, .i32⟩
  | .hbm, ⟨40, _⟩ => ⟨S4, .i1⟩
  | .hbm, ⟨41, _⟩ => ⟨S4, .i32⟩
  | .hbm, ⟨42, _⟩ => ⟨S4, .i32⟩
  | .hbm, ⟨43, _⟩ => ⟨S_, .i32⟩
  | .hbm, ⟨44, _⟩ => ⟨S4, .i32⟩
  | .hbm, ⟨45, _⟩ => ⟨S4, .i1⟩
  | .hbm, ⟨46, _⟩ => ⟨S4, .i1⟩
  | .hbm, ⟨47, _⟩ => ⟨S_, .i32⟩
  | .hbm, ⟨48, _⟩ => ⟨S4, .i32⟩
  | .hbm, ⟨49, _⟩ => ⟨S4, .i32⟩
  | .hbm, ⟨50, _⟩ => ⟨S4, .i32⟩
  | .hbm, ⟨51, _⟩ => ⟨S4, .i32⟩
  | .hbm, ⟨52, _⟩ => ⟨S_, .i32⟩
  | .hbm, ⟨53, _⟩ => ⟨S4, .i32⟩
  | .hbm, ⟨54, _⟩ => ⟨S4, .i32⟩
  | .hbm, ⟨55, _⟩ => ⟨S_, .i32⟩
  | .hbm, ⟨56, _⟩ => ⟨S_, .i32⟩
  | .hbm, ⟨57, _⟩ => ⟨S4, .i32⟩
  | .hbm, ⟨58, _⟩ => ⟨S4, .i32⟩
  | .hbm, ⟨59, _⟩ => ⟨S_, .i32⟩
  | .hbm, ⟨60, _⟩ => ⟨S_, .i32⟩
  | .hbm, ⟨61, _⟩ => ⟨S4, .i32⟩
  | .hbm, ⟨62, _⟩ => ⟨S51, .i32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S51, .i32⟩
  | .hbm, ⟨68, _⟩ => ⟨S51, .i32⟩
  | .hbm, ⟨69, _⟩ => ⟨S51x1, .i32⟩
  | .hbm, ⟨70, _⟩ => ⟨S1x4, .i32⟩
  | .hbm, ⟨71, _⟩ => ⟨S51x4, .i32⟩
  | .hbm, ⟨72, _⟩ => ⟨S51x4, .i32⟩
  | .hbm, ⟨73, _⟩ => ⟨S51x4, .i1⟩
  | .hbm, ⟨74, _⟩ => ⟨S51x4, .i32⟩
  | .hbm, ⟨75, _⟩ => ⟨S_, .i32⟩
  | .hbm, ⟨76, _⟩ => ⟨S_, .i32⟩
  | .hbm, ⟨77, _⟩ => ⟨S51, .i32⟩
  | .hbm, ⟨78, _⟩ => ⟨S51, .i1⟩
  | .hbm, ⟨79, _⟩ => ⟨S_, .i32⟩
  | .hbm, ⟨80, _⟩ => ⟨S51, .i32⟩
  | .hbm, ⟨81, _⟩ => ⟨S51, .i32⟩
  | .hbm, ⟨82, _⟩ => ⟨S51, .i32⟩
  | .hbm, ⟨83, _⟩ => ⟨S51x1, .i32⟩
  | .hbm, ⟨84, _⟩ => ⟨S51, .i32⟩
  | .hbm, ⟨85, _⟩ => ⟨S51, .i32⟩
  | .hbm, ⟨86, _⟩ => ⟨S4, .i32⟩
  | .hbm, ⟨87, _⟩ => ⟨S_, .i32⟩
  | .hbm, ⟨88, _⟩ => ⟨S51, .i32⟩
  | .hbm, ⟨89, _⟩ => ⟨S51, .i1⟩
  | .hbm, ⟨90, _⟩ => ⟨S_, .i32⟩
  | .hbm, ⟨91, _⟩ => ⟨S51, .i32⟩
  | .hbm, ⟨92, _⟩ => ⟨S51, .i32⟩
  | .hbm, ⟨93, _⟩ => ⟨S51, .i32⟩
  | .hbm, ⟨94, _⟩ => ⟨S51x1, .i32⟩
  | .hbm, ⟨95, _⟩ => ⟨S51, .i32⟩
  | .hbm, ⟨96, _⟩ => ⟨S51, .i32⟩
  | .hbm, ⟨97, _⟩ => ⟨S51, .i1⟩
  | .hbm, ⟨98, _⟩ => ⟨S_, .i32⟩
  | .hbm, ⟨99, _⟩ => ⟨S51, .i32⟩
  | .hbm, ⟨100, _⟩ => ⟨S51, .i1⟩
  | .hbm, ⟨101, _⟩ => ⟨S_, .i32⟩
  | .hbm, ⟨102, _⟩ => ⟨S51, .i32⟩
  | .hbm, ⟨103, _⟩ => ⟨S51, .i32⟩
  | .hbm, ⟨104, _⟩ => ⟨S51, .i32⟩
  | .hbm, ⟨105, _⟩ => ⟨S51x1, .i32⟩
  | .hbm, ⟨106, _⟩ => ⟨S51, .i32⟩
  | .hbm, ⟨107, _⟩ => ⟨S_, .i32⟩
  | .hbm, ⟨108, _⟩ => ⟨S_, .i32⟩
  | .hbm, ⟨109, _⟩ => ⟨S51, .i32⟩
  | .hbm, ⟨110, _⟩ => ⟨S_, .i32⟩
  | .hbm, ⟨111, _⟩ => ⟨S51, .i32⟩
  | .hbm, ⟨112, _⟩ => ⟨S51, .i1⟩
  | .hbm, ⟨113, _⟩ => ⟨S_, .i32⟩
  | .hbm, ⟨114, _⟩ => ⟨S51, .i32⟩
  | .hbm, ⟨115, _⟩ => ⟨S51, .i32⟩
  | .hbm, ⟨116, _⟩ => ⟨S51, .i32⟩
  | .hbm, ⟨117, _⟩ => ⟨S51x1, .i32⟩
  | .hbm, ⟨118, _⟩ => ⟨S51, .i32⟩
  | .hbm, ⟨119, _⟩ => ⟨S_, .i32⟩
  | .hbm, ⟨120, _⟩ => ⟨S_, .i32⟩
  | .hbm, ⟨121, _⟩ => ⟨S51, .i32⟩
  | .hbm, ⟨122, _⟩ => ⟨S4x1x7168, .f32⟩
  | .hbm, ⟨123, _⟩ => ⟨S4x1x7168, .f32⟩
  | .hbm, ⟨124, _⟩ => ⟨S24576x3584, .fp8e4m3⟩
  | .hbm, ⟨125, _⟩ => ⟨S14x24576x2, .f32⟩
  | .local _ .vmem, ⟨0, _⟩ => ⟨S512x7168, .fp8e4m3⟩
  | .local _ .vmem, ⟨1, _⟩ => ⟨S512x7168, .fp8e4m3⟩
  | .local _ .vmem, ⟨2, _⟩ => ⟨S512x56, .f32⟩
  | .local _ .vmem, ⟨3, _⟩ => ⟨S512x56, .f32⟩
  | .local _ .vmem, ⟨4, _⟩ => ⟨S1x7168x256, .bf16⟩
  | .local _ .vmem, ⟨5, _⟩ => ⟨S1x7168x256, .bf16⟩
  | .local _ .vmem, ⟨6, _⟩ => ⟨S1x7168x256, .bf16⟩
  | .local _ .vmem, ⟨7, _⟩ => ⟨S1x7168x256, .bf16⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S512x256, .fp8e4m3⟩
  | .local _ .vmem, ⟨13, _⟩ => ⟨S512x256, .fp8e4m3⟩
  | .local _ .vmem, ⟨14, _⟩ => ⟨S1x512x2, .f32⟩
  | .local _ .vmem, ⟨15, _⟩ => ⟨S1x512x2, .f32⟩
  | .local _ .vmem, ⟨16, _⟩ => ⟨S512x7168, .bf16⟩
  | .local _ .smem, ⟨0, _⟩ => ⟨S51, .i32⟩
  | .local _ .smem, ⟨1, _⟩ => ⟨S51, .i32⟩
  | .local _ .smem, ⟨2, _⟩ => ⟨S51, .i32⟩
  | .local _ .smem, ⟨3, _⟩ => ⟨S51, .i32⟩
  | _, _ => ⟨S24576x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_call0_c : Ref sig .tc := ⟨.hbm, 5, rfl⟩
abbrev main_call0_call0_v0 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_call1_v0 : Ref sig .tc := ⟨.hbm, 10, rfl⟩
abbrev main_call1_v1 : Ref sig .tc := ⟨.hbm, 11, rfl⟩
abbrev main_call1_v2 : Ref sig .tc := ⟨.hbm, 12, rfl⟩
abbrev main_call1_v3 : Ref sig .tc := ⟨.hbm, 13, rfl⟩
abbrev main_call1_v4 : Ref sig .tc := ⟨.hbm, 14, rfl⟩
abbrev main_call1_v5 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_c : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_0 : Ref sig .tc := ⟨.hbm, 23, rfl⟩
abbrev main_call1_v12 : Ref sig .tc := ⟨.hbm, 24, rfl⟩
abbrev main_call1_v13 : Ref sig .tc := ⟨.hbm, 25, rfl⟩
abbrev main_v2 : Ref sig .tc := ⟨.hbm, 26, rfl⟩
abbrev main_c_0 : Ref sig .tc := ⟨.hbm, 27, rfl⟩
abbrev main_v3 : Ref sig .tc := ⟨.hbm, 28, rfl⟩
abbrev main_v4 : Ref sig .tc := ⟨.hbm, 29, rfl⟩
abbrev main_c_1 : Ref sig .tc := ⟨.hbm, 30, rfl⟩
abbrev main_v5 : Ref sig .tc := ⟨.hbm, 31, rfl⟩
abbrev main_v6 : Ref sig .tc := ⟨.hbm, 32, rfl⟩
abbrev main_c_2 : Ref sig .tc := ⟨.hbm, 33, rfl⟩
abbrev main_call2_v0 : Ref sig .tc := ⟨.hbm, 34, rfl⟩
abbrev main_call2_v1 : Ref sig .tc := ⟨.hbm, 35, rfl⟩
abbrev main_call2_v2 : Ref sig .tc := ⟨.hbm, 36, rfl⟩
abbrev main_call2_v3 : Ref sig .tc := ⟨.hbm, 37, rfl⟩
abbrev main_call2_v4 : Ref sig .tc := ⟨.hbm, 38, rfl⟩
abbrev main_call2_v5 : Ref sig .tc := ⟨.hbm, 39, rfl⟩
abbrev main_call2_v6 : Ref sig .tc := ⟨.hbm, 40, rfl⟩
abbrev main_call2_v7 : Ref sig .tc := ⟨.hbm, 41, rfl⟩
abbrev main_call2_v8 : Ref sig .tc := ⟨.hbm, 42, rfl⟩
abbrev main_call2_c : Ref sig .tc := ⟨.hbm, 43, rfl⟩
abbrev main_call2_v9 : Ref sig .tc := ⟨.hbm, 44, rfl⟩
abbrev main_call2_v10 : Ref sig .tc := ⟨.hbm, 45, rfl⟩
abbrev main_call2_v11 : Ref sig .tc := ⟨.hbm, 46, rfl⟩
abbrev main_call2_c_0 : Ref sig .tc := ⟨.hbm, 47, rfl⟩
abbrev main_call2_v12 : Ref sig .tc := ⟨.hbm, 48, rfl⟩
abbrev main_call2_v13 : Ref sig .tc := ⟨.hbm, 49, rfl⟩
abbrev main_v7 : Ref sig .tc := ⟨.hbm, 50, rfl⟩
abbrev main_v8 : Ref sig .tc := ⟨.hbm, 51, rfl⟩
abbrev main_c_3 : Ref sig .tc := ⟨.hbm, 52, rfl⟩
abbrev main_v9 : Ref sig .tc := ⟨.hbm, 53, rfl⟩
abbrev main_v10 : Ref sig .tc := ⟨.hbm, 54, rfl⟩
abbrev main_c_4 : Ref sig .tc := ⟨.hbm, 55, rfl⟩
abbrev main_call3_v0 : Ref sig .tc := ⟨.hbm, 56, rfl⟩
abbrev main_call3_v1 : Ref sig .tc := ⟨.hbm, 57, rfl⟩
abbrev main_v11 : Ref sig .tc := ⟨.hbm, 58, rfl⟩
abbrev main_call4_call0_c : Ref sig .tc := ⟨.hbm, 59, rfl⟩
abbrev main_call4_call0_v0 : Ref sig .tc := ⟨.hbm, 60, rfl⟩
abbrev main_v12 : Ref sig .tc := ⟨.hbm, 61, rfl⟩
abbrev main_v13 : Ref sig .tc := ⟨.hbm, 62, rfl⟩
abbrev main_v14 : Ref sig .tc := ⟨.hbm, 63, rfl⟩
abbrev main_v15 : Ref sig .tc := ⟨.hbm, 64, rfl⟩
abbrev main_c_5 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_v20 : Ref sig .tc := ⟨.hbm, 70, rfl⟩
abbrev main_v21 : Ref sig .tc := ⟨.hbm, 71, rfl⟩
abbrev main_v22 : Ref sig .tc := ⟨.hbm, 72, rfl⟩
abbrev main_v23 : Ref sig .tc := ⟨.hbm, 73, rfl⟩
abbrev main_v24 : Ref sig .tc := ⟨.hbm, 74, rfl⟩
abbrev main_c_6 : Ref sig .tc := ⟨.hbm, 75, rfl⟩
abbrev main_c_7 : Ref sig .tc := ⟨.hbm, 76, rfl⟩
abbrev main_v26 : Ref sig .tc := ⟨.hbm, 77, rfl⟩
abbrev main_v27 : Ref sig .tc := ⟨.hbm, 78, rfl⟩
abbrev main_c_8 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_v34 : Ref sig .tc := ⟨.hbm, 86, rfl⟩
abbrev main_c_9 : Ref sig .tc := ⟨.hbm, 87, rfl⟩
abbrev main_v35 : Ref sig .tc := ⟨.hbm, 88, rfl⟩
abbrev main_v36 : Ref sig .tc := ⟨.hbm, 89, rfl⟩
abbrev main_c_10 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_v43 : Ref sig .tc := ⟨.hbm, 96, rfl⟩
abbrev main_v44 : Ref sig .tc := ⟨.hbm, 97, rfl⟩
abbrev main_c_11 : Ref sig .tc := ⟨.hbm, 98, rfl⟩
abbrev main_v45 : Ref sig .tc := ⟨.hbm, 99, rfl⟩
abbrev main_v46 : Ref sig .tc := ⟨.hbm, 100, rfl⟩
abbrev main_c_12 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_c_13 : Ref sig .tc := ⟨.hbm, 107, rfl⟩
abbrev main_call5_v0 : Ref sig .tc := ⟨.hbm, 108, rfl⟩
abbrev main_call5_v1 : Ref sig .tc := ⟨.hbm, 109, rfl⟩
abbrev main_c_14 : Ref sig .tc := ⟨.hbm, 110, rfl⟩
abbrev main_v53 : Ref sig .tc := ⟨.hbm, 111, rfl⟩
abbrev main_v54 : Ref sig .tc := ⟨.hbm, 112, rfl⟩
abbrev main_c_15 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_c_16 : Ref sig .tc := ⟨.hbm, 119, rfl⟩
abbrev main_call6_v0 : Ref sig .tc := ⟨.hbm, 120, rfl⟩
abbrev main_call6_v1 : Ref sig .tc := ⟨.hbm, 121, rfl⟩
abbrev main_v61 : Ref sig .tc := ⟨.hbm, 122, rfl⟩
abbrev main_v62 : Ref sig .tc := ⟨.hbm, 123, rfl⟩
abbrev main_v63_0 : Ref sig .tc := ⟨.hbm, 124, rfl⟩
abbrev main_v63_1 : Ref sig .tc := ⟨.hbm, 125, rfl⟩
abbrev main_v42 : Ref sig .tc := ⟨.smem, 0, rfl⟩
abbrev main_v25 : Ref sig .tc := ⟨.smem, 1, rfl⟩
abbrev main_v52 : Ref sig .tc := ⟨.smem, 2, rfl⟩
abbrev main_v60 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![14, 51], ![false, false]⟩

abbrev pre0 : Pipeline.Prefetch sig := ⟨4, ![main_v42.idx, main_v25.idx, main_v52.idx, main_v60.idx], fun | 0 => main_v42.names | 1 => main_v25.names | 2 => main_v52.names | 3 => main_v60.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let v539 : Index := Scalar.indexCast arg1
  ![v539.toNat]
def k0_cond1 (v1 : BitVec 32) (v3 : BitVec 32) : BitVec 1 :=
  let v4 : BitVec 1 := Scalar.cmpi .sgt v1 v3
  let v5 : BitVec 32 := Scalar.extui v4
  let c0_i32 : BitVec 32 := 0#32
  let v6 : BitVec 1 := Scalar.cmpi .ne v5 c0_i32
  v6

def cc0_transform_0 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S51) ![v0.toNat] S1.size (k0_off1_inb i)) numel1_S1
  let c0_i32 : BitVec 32 := 0#32
  let c0_i32_0 : BitVec 32 := 0#32
  ![v1.toNat, c0_i32.toNat]

def cc0_transform_2 (k0_off1_inb : ∀ i : grid0.Coords, ∀ a, (k0_off1 i) a + S1.size a ≤ S51.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S51) ![v0.toNat] S1.size (k0_off1_inb i)) numel1_S1
  let c0_i32 : BitVec 32 := 0#32
  let c0_i32_0 : BitVec 32 := 0#32
  ![v1.toNat, c0_i32.toNat, arg0.toNat]

def cc0_transform_3 (k0_off1_inb : ∀ i : grid0.Coords, ∀ a, (k0_off1 i) a + S1.size a ≤ S51.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S51) ![v0.toNat] S1.size (k0_off1_inb i)) numel1_S1
  let c14_i32 : BitVec 32 := 14#32
  let v2 : BitVec 32 := Scalar.addi arg0 c14_i32
  let c0_i32 : BitVec 32 := 0#32
  let c0_i32_0 : BitVec 32 := 0#32
  ![v1.toNat, c0_i32.toNat, v2.toNat]

def cc0_transform_4 (k0_off1_inb : ∀ i : grid0.Coords, ∀ a, (k0_off1 i) a + S1.size a ≤ S51.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S51) ![v0.toNat] S1.size (k0_off1_inb i)) numel1_S1
  let c0_i32 : BitVec 32 := 0#32
  let c0_i32_0 : BitVec 32 := 0#32
  ![v1.toNat, c0_i32.toNat, arg0.toNat]

def cc0_transform_5 (k0_off1_inb : ∀ i : grid0.Coords, ∀ a, (k0_off1 i) a + S1.size a ≤ S51.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S51) ![v0.toNat] S1.size (k0_off1_inb i)) numel1_S1
  let c14_i32 : BitVec 32 := 14#32
  let v2 : BitVec 32 := Scalar.addi arg0 c14_i32
  let c0_i32 : BitVec 32 := 0#32
  let c0_i32_0 : BitVec 32 := 0#32
  ![v1.toNat, c0_i32.toNat, v2.toNat]

def cc0_transform_6 (k0_off1_inb : ∀ i : grid0.Coords, ∀ a, (k0_off1 i) a + S1.size a ≤ S51.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S51) ![v0.toNat] S1.size (k0_off1_inb i)) numel1_S1
  let c0_i32 : BitVec 32 := 0#32
  ![v1.toNat, arg0.toNat]

def cc0_transform_7 (k0_off1_inb : ∀ i : grid0.Coords, ∀ a, (k0_off1 i) a + S1.size a ≤ S51.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S51) ![v0.toNat] S1.size (k0_off1_inb i)) numel1_S1
  let c0_i32 : BitVec 32 := 0#32
  let c0_i32_0 : BitVec 32 := 0#32
  ![arg0.toNat, v1.toNat, c0_i32.toNat]

abbrev stage0_0 : Fin 2 → Memref sig .tc .vmem S512x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x7168x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x7168x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x2 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S24576x7168 : Shape := ⟨2, ![24576, 7168]⟩
abbrev S24576x56 : Shape := ⟨2, ![24576, 56]⟩
abbrev S4x7168x7168 : Shape := ⟨3, ![4, 7168, 7168]⟩
abbrev S4x7168 : Shape := ⟨2, ![4, 7168]⟩
abbrev S4 : Shape := ⟨1, ![4]⟩
abbrev S24576x3584 : Shape := ⟨2, ![24576, 3584]⟩
abbrev S14x24576x2 : Shape := ⟨3, ![14, 24576, 2]⟩
abbrev S24576x56x128 : Shape := ⟨3, ![24576, 56, 128]⟩
abbrev S24576x56x1 : Shape := ⟨3, ![24576, 56, 1]⟩
abbrev S24576x1 : Shape := ⟨2, ![24576, 1]⟩
abbrev S1 : Shape := ⟨1, ![1]⟩
abbrev S1x7168x7168 : Shape := ⟨3, ![1, 7168, 7168]⟩
abbrev S7168x7168 : Shape := ⟨2, ![7168, 7168]⟩
abbrev S1x7168 : Shape := ⟨2, ![1, 7168]⟩
abbrev S24576x28x128 : Shape := ⟨3, ![24576, 28, 128]⟩
abbrev S24576x28 : Shape := ⟨2, ![24576, 28]⟩
abbrev S1x1x254 : Shape := ⟨3, ![1, 1, 254]⟩
abbrev S24576x28x1 : Shape := ⟨3, ![24576, 28, 1]⟩
abbrev S24576x28x254 : Shape := ⟨3, ![24576, 28, 254]⟩
abbrev S24576x2 : Shape := ⟨2, ![24576, 2]⟩
abbrev S1x24576x2 : Shape := ⟨3, ![1, 24576, 2]⟩

abbrev nBuf : Space → Nat
  | .hbm => 7
  | .vmem => 6
  | .smem => 1
  | _ => 0

abbrev bufTy : (tb : Table) → Fin (tcTables nBuf tb) → BufTy
  | .hbm, ⟨0, _⟩ => ⟨S24576x7168, .fp8e4m3⟩
  | .hbm, ⟨1, _⟩ => ⟨S24576x56, .f32⟩
  | .hbm, ⟨2, _⟩ => ⟨S4x7168x7168, .bf16⟩
  | .hbm, ⟨3, _⟩ => ⟨S4x7168, .f32⟩
  | .hbm, ⟨4, _⟩ => ⟨S4, .i32⟩
  | .hbm, ⟨5, _⟩ => ⟨S24576x3584, .fp8e4m3⟩
  | .hbm, ⟨6, _⟩ => ⟨S14x24576x2, .f32⟩
  | .local _ .vmem, ⟨0, _⟩ => ⟨S24576x7168, .fp8e4m3⟩
  | .local _ .vmem, ⟨1, _⟩ => ⟨S24576x56, .f32⟩
  | .local _ .vmem, ⟨2, _⟩ => ⟨S4x7168x7168, .bf16⟩
  | .local _ .vmem, ⟨3, _⟩ => ⟨S4x7168, .f32⟩
  | .local _ .vmem, ⟨4, _⟩ => ⟨S24576x3584, .fp8e4m3⟩
  | .local _ .vmem, ⟨5, _⟩ => ⟨S14x24576x2, .f32⟩
  | .local _ .smem, ⟨0, _⟩ => ⟨S4, .i32⟩
  | _, _ => ⟨S24576x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .smem S4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S24576x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S24576x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x7168x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S24576x3584 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S14x24576x2 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Dequant.lean ====
abbrev S4x3584x7168 : Shape := ⟨3, ![4, 3584, 7168]⟩
abbrev S4x224x7168 : Shape := ⟨3, ![4, 224, 7168]⟩
abbrev S4x7168x7168 : Shape := ⟨3, ![4, 7168, 7168]⟩
abbrev S1x512x1024 : Shape := ⟨3, ![1, 512, 1024]⟩
abbrev S1x32x1024 : Shape := ⟨3, ![1, 32, 1024]⟩
abbrev S1x1024x1024 : Shape := ⟨3, ![1, 1024, 1024]⟩
abbrev S512x1024 : Shape := ⟨2, ![512, 1024]⟩
abbrev S512x1x1024 : Shape := ⟨3, ![512, 1, 1024]⟩
abbrev S512x2x1024 : Shape := ⟨3, ![512, 2, 1024]⟩
abbrev S1024x1024 : Shape := ⟨2, ![1024, 1024]⟩
abbrev S32x1024 : Shape := ⟨2, ![32, 1024]⟩
abbrev S32x1x1024 : Shape := ⟨3, ![32, 1, 1024]⟩
abbrev S32x32x1024 : Shape := ⟨3, ![32, 32, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4x3584x7168, .i8⟩
  | .hbm, ⟨1, _⟩ => ⟨S4x224x7168, .i8⟩
  | .hbm, ⟨2, _⟩ => ⟨S4x7168x7168, .bf16⟩
  | .local _ .vmem, ⟨0, _⟩ => ⟨S1x512x1024, .i8⟩
  | .local _ .vmem, ⟨1, _⟩ => ⟨S1x512x1024, .i8⟩
  | .local _ .vmem, ⟨2, _⟩ => ⟨S1x32x1024, .i8⟩
  | .local _ .vmem, ⟨3, _⟩ => ⟨S1x32x1024, .i8⟩
  | .local _ .vmem, ⟨4, _⟩ => ⟨S1x1024x1024, .bf16⟩
  | .local _ .vmem, ⟨5, _⟩ => ⟨S1x1024x1024, .bf16⟩
  | _, _ => ⟨S4x3584x7168, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 7, 7], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x1024 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x1024 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== WeightsIdeal.lean ====
abbrev S4x3584x7168 : Shape := ⟨3, ![4, 3584, 7168]⟩
abbrev S4x224x7168 : Shape := ⟨3, ![4, 224, 7168]⟩
abbrev S4x7168x7168 : Shape := ⟨3, ![4, 7168, 7168]⟩
abbrev S4x3584x1x7168 : Shape := ⟨4, ![4, 3584, 1, 7168]⟩
abbrev S4x3584x2x7168 : Shape := ⟨4, ![4, 3584, 2, 7168]⟩
abbrev S4x224x32x7168 : Shape := ⟨4, ![4, 224, 32, 7168]⟩
abbrev S4x224x1x7168 : Shape := ⟨4, ![4, 224, 1, 7168]⟩

abbrev nBuf : Space → Nat
  | .hbm => 3
  | .vmem => 3
  | .smem => 0
  | _ => 0

abbrev bufTy : (tb : Table) → Fin (tcTables nBuf tb) → BufTy
  | .hbm, ⟨0, _⟩ => ⟨S4x3584x7168, .i8⟩
  | .hbm, ⟨1, _⟩ => ⟨S4x224x7168, .i8⟩
  | .hbm, ⟨2, _⟩ => ⟨S4x7168x7168, .bf16⟩
  | .local _ .vmem, ⟨0, _⟩ => ⟨S4x3584x7168, .i8⟩
  | .local _ .vmem, ⟨1, _⟩ => ⟨S4x224x7168, .i8⟩
  | .local _ .vmem, ⟨2, _⟩ => ⟨S4x7168x7168, .bf16⟩
  | _, _ => ⟨S4x3584x7168, .i8⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x3584x7168 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x224x7168 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x7168x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Proof.Kernel.Launch.lean ====
/- The launch of the kernel as this proof needs it: the host operations that run before the pipelined region, the arrays and the
   four prefetched tables as the region finds them, each input window's block, and the passage from a run of the region to the
   claim that the argument arrays end unchanged. -/
module

public import proofs.«01_k».proof.Proof.Gen.Kernel.Launch
public import proofs.«01_k».proof.Proof.Gen.Kernel.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S51 .i32 := Memref.whole main_v42
abbrev htbM0_0 : tbM0_0.IsWhole := Memref.isWhole_whole _
abbrev tbM0_1 : Memref sig .tc .smem S51 .i32 := Memref.whole main_v25
abbrev htbM0_1 : tbM0_1.IsWhole := Memref.isWhole_whole _
abbrev tbM0_2 : Memref sig .tc .smem S51 .i32 := Memref.whole main_v52
abbrev htbM0_2 : tbM0_2.IsWhole := Memref.isWhole_whole _
abbrev tbM0_3 : Memref sig .tc .smem S51 .i32 := Memref.whole main_v60
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x7168 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x56 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x7168x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x7168x256 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x512x2 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S512x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gate_up (grid0.coords t) (Memref.whole main_v42) (Memref.isWhole_whole _) (Memref.whole main_v25) (Memref.isWhole_whole _) (Memref.whole main_v52) (Memref.isWhole_whole _) (Memref.whole main_v60) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.Kernel.Hand

end
-- ==== Proof.Kernel.Body.lean ====
/- The kernel body's run at a grid point: what it leaves in the two output blocks, from what they held, the input blocks and the
   tables' words. -/
module

public import proofs.«01_k».proof.Proof.Kernel.Launch

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the two outputs' staging memrefs, which it finds at `x6` and `x7`, with the triple of that run: the inputs
    and the tables are left as they were, the scratch at some contents. -/
noncomputable def run (c : Dev nD) (i : grid0.Coords) (arg6 : Memref sig .tc .vmem S512x7168 .fp8e4m3) (harg6 : arg6.IsWhole) (arg7 : Memref sig .tc .vmem S512x56 .f32) (harg7 : arg7.IsWhole) (arg8 : Memref sig .tc .vmem S1x7168x256 .bf16) (harg8 : arg8.IsWhole) (arg9 : Memref sig .tc .vmem S1x7168x256 .bf16) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S512x256 .fp8e4m3) (harg12 : arg12.IsWhole) (arg13 : Memref sig .tc .vmem S1x512x2 .f32) (harg13 : arg13.IsWhole) (arg14 : Memref sig .tc .vmem S512x7168 .bf16) (harg14 : arg14.IsWhole)
    (x0 : Vec F S512x7168 .fp8e4m3) (x1 : Vec F S512x56 .f32) (x2 : Vec F S1x7168x256 .bf16) (x3 : Vec F S1x7168x256 .bf16) (x4 : Vec F S1x1x256 .f32) (x5 : Vec F S1x1x256 .f32) (x6 : Vec F S512x256 .fp8e4m3) (x7 : Vec F S1x512x2 .f32) (xt0 : TbBuf0 (F := F) c tbM0_0) (xt1 : TbBuf0 (F := F) c tbM0_1) (xt2 : TbBuf0 (F := F) c tbM0_2) (xt3 : TbBuf0 (F := F) c tbM0_3) :
    Σ' (X6 : Vec F S512x256 .fp8e4m3), { X7 : Vec F S1x512x2 .f32 //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ (∃ d, owns (c : Thread nD τ) arg14 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare X6 ∗ owns (c : Thread nD τ) arg13 fullShare X7 ∗ (∃ d, owns (c : Thread nD τ) arg14 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_gate_up i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14) K } := by
  refine ⟨?_, ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    obtain rfl := harg12.eq_unread hf6; obtain rfl := harg13.eq_unread hf7
    sl_exec
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]
    · iexists _; isplitr; swap; · iexact H6
      ipureintro; rfl
    isplitl [H7]
    · iexists _; isplitr; swap; · iexact H7
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.Kernel.Hand

end
-- ==== Proof.Kernel.Run.lean ====
/- The run of the kernel with each output block held to a predicate of what the body leaves there, and the frame claim, which takes the
   predicate that holds of everything. -/
module

public import proofs.«01_k».proof.Proof.Kernel.Body
public import Idealize.ShloMosaic.Lib.Pipeline.DatRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows (6, 7): each is held to a predicate instead of named contents. -/
def marked : Fin 8 → Bool := fun w => w.val == 6 || w.val == 7

/-- The proof data of the pipeline on core `c`: the arrays as the region finds them; after the body each input's buffer at its block; the
    outputs' contents are not named here; the invariant holds the scratch, the generator register and the tables' halves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
  Φ _ := iprop(Pipeline.ΦA spec0 c ∗ Pipeline.ΦT pre0 (tbl m) c)
  q w := Pipeline.shareOf spec0 w
  owed _ := 0

/-- The arrays of the proof data are those the region finds. -/
theorem A_eq (hO : Ok m) (c : Dev nD) (w : Fin (cfgM m hO).W) : (dats m hO 0 c).A w = V m c (Pipeline.arrRef spec0 w) := by
  dsimp only [dats]

/-- What the body leaves in each input window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-- What the body leaves in the block of output 1 at point `t`, having found `Y6` and `Y7` in the two output blocks, -/
def out6 (hO : Ok m) (c : Dev nD) (t : Fin (cfgM m hO).N) (Y6 : Vec F S512x256 .fp8e4m3) (Y7 : Vec F S1x512x2 .f32) : Vec F S512x256 .fp8e4m3 :=
  (run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) Y6 Y7 (tbl m 0) (tbl m 1) (tbl m 2) (tbl m 3)).1
/-- and in the block of output 2. -/
def out7 (hO : Ok m) (c : Dev nD) (t : Fin (cfgM m hO).N) (Y6 : Vec F S512x256 .fp8e4m3) (Y7 : Vec F S1x512x2 .f32) : Vec F S1x512x2 .f32 :=
  (run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) Y6 Y7 (tbl m 0) (tbl m 1) (tbl m 2) (tbl m 3)).2.1

/-- The two predicates as one family over the windows. -/
def rel (hO : Ok m) (R6 : Fin (cfgM m hO).N → Vec F S512x256 .fp8e4m3 → Prop) (R7 : Fin (cfgM m hO).N → Vec F S1x512x2 .f32 → Prop)
    (w : Fin (cfgM m hO).W) (t : Fin (cfgM m hO).N) : (((cfgM m hO).win w).block.Idx → Elt F ((cfgM m hO).win w).elt) → Prop :=
  match w with
  | ⟨6, _⟩ => R6 t
  | ⟨7, _⟩ => R7 t
  | _ => fun _ => True

/-- The relational data: `dats` with the two outputs held to `R6` and `R7`, on each core. -/
abbrev rdat (hO : Ok m) (R6 : Dev nD → Fin (cfgM m hO).N → Vec F S512x256 .fp8e4m3 → Prop) (R7 : Dev nD → Fin (cfgM m hO).N → Vec F S1x512x2 .f32 → Prop)
    (c : Dev nD) : Pipeline.RDat τ (Elt F) Unit ℕ (UR sig nD τ) ℕ (cfgM m hO) c :=
  (dats m hO 0 c).toRRel marked (rel m hO (R6 c) (R7 c))

/-- What the body may find in output 1's block at a point: any contents that the run before it allows. -/
abbrev Finds6 (hO : Ok m) (R6 : Dev nD → Fin (cfgM m hO).N → Vec F S512x256 .fp8e4m3 → Prop) (R7 : Dev nD → Fin (cfgM m hO).N → Vec F S1x512x2 .f32 → Prop)
    (c : Dev nD) (t : Fin (cfgM m hO).N) (Y : Vec F S512x256 .fp8e4m3) : Prop := (rdat m hO R6 R7 c).Finds 6 t Y
/-- The same of output 2's. -/
abbrev Finds7 (hO : Ok m) (R6 : Dev nD → Fin (cfgM m hO).N → Vec F S512x256 .fp8e4m3 → Prop) (R7 : Dev nD → Fin (cfgM m hO).N → Vec F S1x512x2 .f32 → Prop)
    (c : Dev nD) (t : Fin (cfgM m hO).N) (Y : Vec F S1x512x2 .f32) : Prop := (rdat m hO R6 R7 c).Finds 7 t Y

/-- The body keeps the two predicates. -/
def Keeps (hO : Ok m) (R6 : Dev nD → Fin (cfgM m hO).N → Vec F S512x256 .fp8e4m3 → Prop) (R7 : Dev nD → Fin (cfgM m hO).N → Vec F S1x512x2 .f32 → Prop) : Prop :=
  ∀ (c : Dev nD) (t : Fin (cfgM m hO).N) (Y6 : Vec F S512x256 .fp8e4m3) (Y7 : Vec F S1x512x2 .f32),
    Finds6 m hO R6 R7 c t Y6 → Finds7 m hO R6 R7 c t Y7 → R6 c t (out6 m hO c t Y6 Y7) ∧ R7 c t (out7 m hO c t Y6 Y7)

variable (hO : Ok m) (R6 : Dev nD → Fin (cfgM m hO).N → Vec F S512x256 .fp8e4m3 → Prop) (R7 : Dev nD → Fin (cfgM m hO).N → Vec F S1x512x2 .f32 → Prop)

/-- What the body is called with at point `t`, the windows one by one, -/
def bodyPre (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ Y, ⌜Finds6 m hO R6 R7 c t Y⌝ ∗ owns (c : Thread nD τ) (ms0_6 m hO t) fullShare Y)
    ∗ (∃ Y, ⌜Finds7 m hO R6 R7 c t Y⌝ ∗ owns (c : Thread nD τ) (ms0_7 m hO t) fullShare Y))

/-- and what it returns. -/
def bodyPost (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (∃ X, ⌜R6 c t X⌝ ∗ owns (c : Thread nD τ) (ms0_6 m hO t) fullShare X)
    ∗ (∃ X, ⌜R7 c t X⌝ ∗ owns (c : Thread nD τ) (ms0_7 m hO t) fullShare X))

set_option maxHeartbeats 800000 in
/-- The body at any point: the run of the body, between what the pipeline hands it and what it takes back. -/
theorem sound_body (hK : Keeps m hO R6 R7) (c : Dev nD) (t : Fin (cfgM m hO).N) :
    bodyPre m hO R6 R7 c t ⊢ wp frame (wpE (defs₀ (F := F)) Variants.none c none) Set.univ (bodyAt0 (adm m hO) t) (fun _ => bodyPost m hO R6 R7 c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨HS0, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩⟩
  iapply ((run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) Y6 Y7 (tbl m 0) (tbl m 1) (tbl m 2) (tbl m 3)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HT0]; · iexact HT0
  isplitl [HT1]; · iexact HT1
  isplitl [HT2]; · iexact HT2
  isplitl [HT3]; · iexact HT3
  iintro ⟨H0, H1, H2, H3, H4, H5, H6, H7, HS0, HT0, HT1, HT2, HT3⟩
  isplitl [HS0 Hg HT0 HT1 HT2 HT3]
  · isplitl [HS0 Hg]
    · isplitl [HS0]
      · iexact HS0
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact (hK c t Y6 Y7 hY6 hY7).1
  iexists _; isplitr; swap; · iexact H7
  ipureintro; exact (hK c t Y6 Y7 hY6 hY7).2

set_option maxHeartbeats 1000000 in
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hK : Keeps m hO R6 R7) (c : Dev nD) :
    Pipeline.BodyObligationRel (dats (F := F) m hO 0 c) (defs₀ (F := F)) Variants.none () Set.univ marked (rel m hO (R6 c) (R7 c)) := fun t => by
  rw [bigSep_W0, bigSep_W0, defs₀_row m hO]
  exact triple_restated (sound_body m hO R6 R7 hK c t) rfl .rfl fun _ => .rfl

-- the launch theorem's implicit arguments are found by unifying its conclusion with this one, which takes unfolding plain
-- definitions in a metavariable's type
set_option maxHeartbeats 2000000 in
set_option backward.isDefEq.respectTransparency.types false in
/-- The launch: every weakly fair execution of @main terminates; every final state has the arrays as the relational data say and every
    semaphore counter at zero. -/
theorem run_main (hK : Keeps m hO R6 R7) : θ_run defs (onTc (τ := τ) (main (F := F))) (s₀ m ρ) (fun r =>
    (Pipeline.RDat.FramePost ((Pipeline.pin pcfgs fun _ => adm m hO) 0) (rdat m hO R6 R7) (V m)) r ∧ r.2.sem = fun _ => 0) :=
  Pipeline.RDat.θ_run_frameP_track_shared (Q' := _) pcfgs (fun _ => adm m hO) (0 : Fin 1) launch₀0 defs₀ Variants.none (rdat m hO R6 R7) m ρ main
    (hbody := fun c => (body_obligation m hO R6 R7 hK c).toRRel) (hq := fun _ _ _ => rfl)
    (howed := fun _ _ => rfl) (V := V m) (hmain := hmain m Variants.none) (hA := A_eq m hO) (hpf := V_pre m)
    (hin := fun _ => .rfl) (hout := fun c => by
      show iprop(Pipeline.ΦA spec0 c ∗ Pipeline.ΦT pre0 (tbl m) c) ⊢ Pipeline.ΦA spec0 c
      iintro ⟨H, -⟩; iexact H)

end Cert.Kernel.Hand

end
-- ==== Proof.Kernel.Frame.lean ====
/- The frame claim of the kernel: the run whose output blocks are held to the predicate that holds of everything. -/
module

public import proofs.«01_k».proof.Proof.Kernel.Run
public import Idealize.ShloMosaic.Lib.Claim
public import Idealize.ShloMosaic.Lib.Pipeline.DatRel

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.Kernel.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution leaves the argument arrays unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (rdat m hO (fun _ _ _ => True) fun _ _ _ => True) (A_eq m hO)
    ((θ_run defs _ _).mono (fun _ h => h.1) (run_main m ρ hO (fun _ _ _ => True) (fun _ _ _ => True) fun _ _ _ _ _ _ => ⟨trivial, trivial⟩))

/-- The frame claim, where the tables meet the side condition `Ok` of the pipeline: the arguments end unchanged and every semaphore is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2)
    (run_main m ρ hO (fun _ _ _ => True) (fun _ _ _ => True) fun _ _ _ _ _ _ => ⟨trivial, trivial⟩))

end Cert.Kernel.Hand

end
-- ==== Proof.Kernel.Host.lean ====
/- The four tables of row ranges as the host operations compute them from the group sizes: each table of the launch is the composed term
   of those operations, stated here stage by stage. -/
module

public import proofs.«01_k».proof.Proof.Kernel.Launch
public import Idealize.ShloMosaic.Lib.StableHlo.ReadAt
public import Idealize.ShloMosaic.Lib.Routing.Words
public import Idealize.ShloMosaic.Lib.Routing.OpsSet

@[expose] public section

set_option maxRecDepth 16384

noncomputable section

namespace Cert.Kernel.Hand

open Idealize.ShloMosaic Idealize.ShloMosaic.TcCoe
open Cert.Kernel.Gen
open Idealize.ShloMosaic.Routing (pyDiv)

variable {F : FTy → Type} [FloatOps F]

/-- A word on every expert, -/
abbrev bc4 (w : BitVec 32) : IVec S4 32 := broadcastInDim S4 ![] bcast_S_S4 (constantI S_ 32 w)
/-- and on every visit. -/
abbrev bc51 (w : BitVec 32) : IVec S51 32 := broadcastInDim S51 ![] bcast_S_S51 (constantI S_ 32 w)

/-- The running sum over the experts. -/
def csum (g : IVec S4 32) : IVec S4 32 :=
  Host.reduceWindow IntOp.addi ![4] ![1] ![3] ![0] g (broadcastInDim S_ ![] bcast_S_S_ (constantI S_ 32 0#32)) reduceWindows_S4_S4_w4s1p3_0 h_S_
/-- Each expert's first row, -/
def starts (g : IVec S4 32) : IVec S4 32 := subi (csum g) g
/-- the block that holds it, -/
def first (g : IVec S4 32) : IVec S4 32 := pyDiv bcast_S_S4 (starts g) (constantI S_ 32 512#32)
/-- the block that holds its last row, -/
def lastBlock (g : IVec S4 32) : IVec S4 32 := pyDiv bcast_S_S4 (subi (csum g) (bc4 1#32)) (constantI S_ 32 512#32)
/-- and its number of blocks. -/
def cnt (g : IVec S4 32) : IVec S4 32 :=
  select (cmpi .sgt g (bc4 0#32)) (addi (subi (lastBlock g) (first g)) (bc4 1#32)) (bc4 0#32)
/-- The number of visits up to each expert, -/
def cum (g : IVec S4 32) : IVec S4 32 := csum (cnt g)
/-- and the last visit. -/
def last (g : IVec S4 32) : IVec S_ 32 := subi (shapeCast S_ (extractStridedSlice S1 ![3] (cum g) slices_S4_S1_3) shapeCasts_S1_S_) (constantI S_ 32 1#32)
/-- Each visit, those past the last read as the last. -/
def vv (g : IVec S4 32) : IVec S51 32 := minsi (iotaInDim S51 32 0) (broadcastInDim S51 ![] bcast_S_S51 (last g))
/-- Each visit's expert: the number of experts whose visits end at or before it. -/
def ve (g : IVec S4 32) : IVec S51 32 :=
  Host.reduce IntOp.addi
    (extui 32 (cmpi .sge (broadcastInDim S51x4 ![0, 1] bcast_S51x1_S51x4_0_1 (broadcastInDim S51x1 ![0] bcast_S51_S51x1_0 (vv g)))
      (broadcastInDim S51x4 ![0, 1] bcast_S1x4_S51x4_0_1 (broadcastInDim S1x4 ![1] bcast_S4_S1x4_1 (cum g)))) natLt_1_32)
    (constantI S_ 32 0#32) reducesTo_S51x4_S51_d1 h_S_
/-- The entries of a table over the experts at each visit's expert. -/
def take (x : IVec S4 32) (e : IVec S51 32) : IVec S51 32 :=
  Host.gather gather_S4_S51x1_S51_n_0_n_n_0_1_1 x
    (broadcastInDim S51x1 ![0] bcast_S51_S51x1_0 (select (cmpi .slt e (bc51 0#32)) (addi e (bc51 4#32)) e))
/-- Each visit's block. -/
def vt (g : IVec S4 32) : IVec S51 32 := subi (addi (take (first g) (ve g)) (vv g)) (take (subi (cum g) (cnt g)) (ve g))
/-- Whether a visit is not past the last. -/
def valid (g : IVec S4 32) : IVec S51 1 := cmpi .sle (iotaInDim S51 32 0) (broadcastInDim S51 ![] bcast_S_S51 (last g))
/-- Each visit's first row, -/
def st (g : IVec S4 32) : IVec S51 32 := select (valid g) (take (starts g) (ve g)) (bc51 0#32)
/-- and the row past its last. -/
def en (g : IVec S4 32) : IVec S51 32 := select (valid g) (take (csum g) (ve g)) (bc51 0#32)

variable (m : (ℓ : Loc nD τ sig) → Buf (Elt F) ℓ)

/-- The group sizes as the launch memory holds them. -/
abbrev sizes : IVec S4 32 := m (((0 : Dev nD) : Thread nD τ).loc main_arg4)

set_option maxHeartbeats 4000000 in
/-- The table of experts is `ve` of the group sizes. -/
theorem V_ve : V m (0 : Dev nD) main_v25 = ve (sizes m) := by
  unfold V
  after_reads_simp
  all_goals try simp -implicitDefEqProofs only [StableHlo.TRef.toBuf, StableHlo.TRef.ofBuf, cast_cast, cast_eq]
  rfl

set_option maxHeartbeats 4000000 in
/-- The table of blocks is `vt` of the group sizes. -/
theorem V_vt : V m (0 : Dev nD) main_v42 = vt (sizes m) := by
  unfold V
  after_reads_simp
  all_goals try simp -implicitDefEqProofs only [StableHlo.TRef.toBuf, StableHlo.TRef.ofBuf, cast_cast, cast_eq]
  rfl

set_option maxHeartbeats 4000000 in
/-- The table of first rows is `st` of the group sizes. -/
theorem V_st : V m (0 : Dev nD) main_v52 = st (sizes m) := by
  unfold V
  after_reads_simp
  all_goals try simp -implicitDefEqProofs only [StableHlo.TRef.toBuf, StableHlo.TRef.ofBuf, cast_cast, cast_eq]
  rfl

set_option maxHeartbeats 4000000 in
/-- The table of rows past the last is `en` of the group sizes. -/
theorem V_en : V m (0 : Dev nD) main_v60 = en (sizes m) := by
  unfold V
  after_reads_simp
  all_goals try simp -implicitDefEqProofs only [StableHlo.TRef.toBuf, StableHlo.TRef.ofBuf, cast_cast, cast_eq]
  rfl

/-- The bias of each expert with a unit axis between. -/
theorem V_v61 : V m (0 : Dev nD) main_v61 = shapeCast S4x1x7168 (m (((0 : Dev nD) : Thread nD τ).loc main_arg3)) shapeCasts_S4x7168_S4x1x7168 := by
  unfold V
  after_reads_simp
  all_goals try simp -implicitDefEqProofs only [StableHlo.TRef.toBuf, StableHlo.TRef.ofBuf, cast_cast, cast_eq]
  rfl

/-- The bias of each expert with a unit axis between. -/
theorem V_v62 : V m (0 : Dev nD) main_v62 = shapeCast S4x1x7168 (m (((0 : Dev nD) : Thread nD τ).loc main_arg3)) shapeCasts_S4x7168_S4x1x7168 := by
  unfold V
  after_reads_simp
  all_goals try simp -implicitDefEqProofs only [StableHlo.TRef.toBuf, StableHlo.TRef.ofBuf, cast_cast, cast_eq]
  rfl

end Cert.Kernel.Hand

end
-- ==== Proof.Plan.lean ====
/- The plan of visits over natural numbers: 24576 rows in blocks of 512, split among four experts by their group sizes; each expert visits
   each block that holds a row of its own, the experts in order. What the kernel's tables hold, and what they guarantee: every row is
   covered by a visit to its own block, and the visits' blocks do not decrease. -/
module

public import Mathlib.Order.Interval.Finset.Nat
public import Mathlib.Data.Nat.Count
public import Mathlib.Algebra.BigOperators.Group.List.Basic
public import Mathlib.Tactic.Ring

@[expose] public section

namespace Cert.Plan

/-- The row past expert `e`'s last, -/
def E (f : ℕ → ℕ) (e : ℕ) : ℕ := ((List.range (e + 1)).map f).sum
/-- its first row, -/
def S (f : ℕ → ℕ) (e : ℕ) : ℕ := E f e - f e
/-- and the number of blocks that hold a row of its own. -/
def C (f : ℕ → ℕ) (e : ℕ) : ℕ := if 0 < f e then (E f e - 1) / 512 - S f e / 512 + 1 else 0
/-- The number of visits of the experts up to `e`, -/
def K (f : ℕ → ℕ) (e : ℕ) : ℕ := ((List.range (e + 1)).map (C f)).sum
/-- and the last visit. -/
def last (f : ℕ → ℕ) : ℕ := K f 3 - 1
/-- Visit `v`, a visit past the last read as the last, -/
def vv (f : ℕ → ℕ) (v : ℕ) : ℕ := min v (last f)
/-- its expert, -/
def ve (f : ℕ → ℕ) (v : ℕ) : ℕ := Nat.count (fun q => K f q ≤ vv f v) 4
/-- its block, -/
def vt (f : ℕ → ℕ) (v : ℕ) : ℕ := S f (ve f v) / 512 + vv f v - (K f (ve f v) - C f (ve f v))
/-- its first row -/
def st (f : ℕ → ℕ) (v : ℕ) : ℕ := if v ≤ last f then S f (ve f v) else 0
/-- and the row past its last. -/
def en (f : ℕ → ℕ) (v : ℕ) : ℕ := if v ≤ last f then E f (ve f v) else 0

variable (f : ℕ → ℕ)

theorem E_succ (e : ℕ) : E f (e + 1) = E f e + f (e + 1) := by
  simp only [E, List.range_succ, List.map_append, List.sum_append, List.map_cons, List.map_nil, List.sum_cons, List.sum_nil, Nat.add_zero]
theorem E_zero : E f 0 = f 0 := by simp [E]
theorem K_succ (e : ℕ) : K f (e + 1) = K f e + C f (e + 1) := by
  simp only [K, List.range_succ, List.map_append, List.sum_append, List.map_cons, List.map_nil, List.sum_cons, List.sum_nil, Nat.add_zero]
theorem K_zero : K f 0 = C f 0 := by simp [K]

/-- The rows of the experts before `e` end where `e`'s begin. -/
theorem S_zero : S f 0 = 0 := by simp [S, E_zero]
theorem S_succ (e : ℕ) : S f (e + 1) = E f e := by simp [S, E_succ]

theorem E_eq (e : ℕ) : E f e = S f e + f e := by
  cases e with
  | zero => rw [S_zero, E_zero, Nat.zero_add]
  | succ e => rw [S_succ, E_succ]

theorem C_le (e : ℕ) : C f e ≤ (E f e + 511) / 512 - S f e / 512 := by
  have := E_eq f e
  unfold C; split <;> omega

theorem K_mono {a b : ℕ} (h : a ≤ b) : K f a ≤ K f b := by
  induction h with
  | refl => exact le_rfl
  | step _ ih => exact ih.trans (by rw [K_succ]; omega)
theorem E_mono {a b : ℕ} (h : a ≤ b) : E f a ≤ E f b := by
  induction h with
  | refl => exact le_rfl
  | step _ ih => exact ih.trans (by rw [E_succ]; omega)

theorem K_le (e : ℕ) : K f e ≤ (E f e + 511) / 512 + e := by
  induction e with
  | zero => rw [K_zero]; have := C_le f 0; have := S_zero f; omega
  | succ e ih => rw [K_succ]; have := C_le f (e + 1); have := S_succ f e; have : E f e ≤ E f (e + 1) := E_mono f (by omega); omega

/-- Before expert `e`'s visits stand the visits of the experts before it. -/
theorem K_sub_C (e : ℕ) (he : 0 < e) : K f e - C f e = K f (e - 1) := by
  obtain ⟨e, rfl⟩ := Nat.exists_eq_succ_of_ne_zero he.ne'
  rw [Nat.succ_eq_add_one, K_succ, Nat.add_sub_cancel, Nat.add_sub_cancel]

theorem C_le_K (e : ℕ) : C f e ≤ K f e := by
  cases e with
  | zero => rw [K_zero]
  | succ e => rw [K_succ]; omega

variable (hf : f 0 + f 1 + f 2 + f 3 = 24576)
include hf

theorem E_three : E f 3 = 24576 := by rw [E_succ, E_succ, E_succ, E_zero]; omega
theorem E_le (e : ℕ) (he : e < 4) : E f e ≤ 24576 := (E_mono f (by omega : e ≤ 3)).trans (E_three f hf).le

theorem K_three_pos : 0 < K f 3 := by
  have h := C_le_K f
  have hp : ∀ e, 0 < f e → 0 < C f e := fun e h => by unfold C; rw [if_pos h]; omega
  have h0 := K_mono f (by omega : 0 ≤ 3); have h1 := K_mono f (by omega : 1 ≤ 3); have h2 := K_mono f (by omega : 2 ≤ 3)
  by_cases a : 0 < f 0; · have := hp 0 a; have := h 0; omega
  by_cases b : 0 < f 1; · have := hp 1 b; have := h 1; omega
  by_cases c : 0 < f 2; · have := hp 2 c; have := h 2; omega
  have := hp 3 (by omega); have := h 3; omega

theorem K_three_le : K f 3 ≤ 51 := by
  have h := K_le f 3; rw [E_three f hf] at h; omega

theorem last_lt : last f < K f 3 := by have := K_three_pos f hf; unfold last; omega

theorem vv_lt (v : ℕ) : vv f v < K f 3 := by have := last_lt f hf; unfold vv; omega

omit hf in
/-- The expert of a visit is the one whose visits hold it. -/
theorem ve_eq (v e : ℕ) (he : e < 4) (h1 : K f e - C f e ≤ vv f v) (h2 : vv f v < K f e) : ve f v = e := by
  have m01 := K_mono f (by omega : 0 ≤ 1); have m12 := K_mono f (by omega : 1 ≤ 2); have m23 := K_mono f (by omega : 2 ≤ 3)
  unfold ve
  simp only [Nat.count_succ, Nat.count_zero]
  rcases (by omega : e = 0 ∨ e = 1 ∨ e = 2 ∨ e = 3) with rfl | rfl | rfl | rfl
  · rw [if_neg (by omega), if_neg (by omega), if_neg (by omega), if_neg (by omega)]
  · rw [K_sub_C f 1 (by omega)] at h1
    rw [if_pos (by simpa using h1), if_neg (by omega), if_neg (by omega), if_neg (by omega)]
  · rw [K_sub_C f 2 (by omega)] at h1; simp only [Nat.reduceSub] at h1
    rw [if_pos (by omega), if_pos (by omega), if_neg (by omega), if_neg (by omega)]
  · rw [K_sub_C f 3 (by omega)] at h1; simp only [Nat.reduceSub] at h1
    rw [if_pos (by omega), if_pos (by omega), if_pos (by omega), if_neg (by omega)]

/-- Every visit has an expert, whose visits hold it. -/
theorem ve_spec (v : ℕ) : ve f v < 4 ∧ K f (ve f v) - C f (ve f v) ≤ vv f v ∧ vv f v < K f (ve f v) := by
  have hv := vv_lt f hf v
  have key : ∃ e, e < 4 ∧ K f e - C f e ≤ vv f v ∧ vv f v < K f e := by
    by_cases a : vv f v < K f 0
    · exact ⟨0, by omega, by rw [K_zero]; omega, a⟩
    by_cases b : vv f v < K f 1
    · exact ⟨1, by omega, by rw [K_sub_C f 1 (by omega)]; simp only [Nat.reduceSub]; omega, b⟩
    by_cases c : vv f v < K f 2
    · exact ⟨2, by omega, by rw [K_sub_C f 2 (by omega)]; simp only [Nat.reduceSub]; omega, c⟩
    · exact ⟨3, by omega, by rw [K_sub_C f 3 (by omega)]; simp only [Nat.reduceSub]; omega, hv⟩
  obtain ⟨e, he, h1, h2⟩ := key
  rw [ve_eq f v e he h1 h2]; exact ⟨he, h1, h2⟩

theorem ve_lt (v : ℕ) : ve f v < 4 := (ve_spec f hf v).1

/-- A visit's block lies between its expert's first block and last. -/
theorem vt_spec (v : ℕ) : 0 < f (ve f v) ∧ S f (ve f v) / 512 ≤ vt f v ∧ vt f v ≤ (E f (ve f v) - 1) / 512
    ∧ vt f v = S f (ve f v) / 512 + (vv f v - (K f (ve f v) - C f (ve f v))) := by
  obtain ⟨_, h1, h2⟩ := ve_spec f hf v
  have hE := E_eq f (ve f v)
  have hp : 0 < f (ve f v) := by
    by_contra h
    have : C f (ve f v) = 0 := by unfold C; rw [if_neg h]
    omega
  have hC : C f (ve f v) = (E f (ve f v) - 1) / 512 - S f (ve f v) / 512 + 1 := by unfold C; rw [if_pos hp]
  have : S f (ve f v) / 512 ≤ (E f (ve f v) - 1) / 512 := Nat.div_le_div_right (by omega)
  have hk := C_le_K f (ve f v)
  unfold vt
  refine ⟨hp, ?_, ?_, ?_⟩ <;> omega

theorem vt_lt (v : ℕ) : vt f v < 48 := by
  have h := (vt_spec f hf v).2.2.1
  have := E_le f hf _ (ve_lt f hf v)
  omega

/-- The visits' blocks do not decrease. -/
theorem vt_mono {v w : ℕ} (h : v ≤ w) : vt f v ≤ vt f w := by
  have hvv : vv f v ≤ vv f w := by unfold vv; omega
  obtain ⟨a1, a2, a3⟩ := ve_spec f hf v
  obtain ⟨b1, b2, b3⟩ := ve_spec f hf w
  obtain ⟨c1, c2, c3, c4⟩ := vt_spec f hf v
  obtain ⟨d1, d2, d3, d4⟩ := vt_spec f hf w
  have hle : ve f v ≤ ve f w := by
    by_contra hlt
    have hh := K_mono f (by omega : ve f w ≤ ve f v - 1)
    rw [K_sub_C f (ve f v) (by omega)] at a2
    omega
  rcases Nat.eq_or_lt_of_le hle with he | he
  · rw [he] at c4
    omega
  · have hS : E f (ve f v) ≤ S f (ve f w) := by
      obtain ⟨k, hk⟩ := Nat.exists_eq_succ_of_ne_zero (by omega : ve f w ≠ 0)
      rw [hk, Nat.succ_eq_add_one, S_succ]; exact E_mono f (by omega)
    have : (E f (ve f v) - 1) / 512 ≤ S f (ve f w) / 512 := Nat.div_le_div_right (by omega)
    omega

omit hf in
/-- A visit that is not past the last spans its expert's rows. -/
theorem st_en (v r : ℕ) (h : st f v ≤ r) (h' : r < en f v) : S f (ve f v) ≤ r ∧ r < E f (ve f v) := by
  unfold st en at *
  by_cases hv : v ≤ last f
  · rw [if_pos hv] at h h'; exact ⟨h, h'⟩
  · rw [if_neg hv] at h'; omega

/-- Every row is covered by a visit to the row's block. -/
theorem cover (r : ℕ) (hr : r < 24576) : ∃ v, v < 51 ∧ vt f v = r / 512 ∧ st f v ≤ r ∧ r < en f v := by
  have key : ∃ e, e < 4 ∧ S f e ≤ r ∧ r < E f e := by
    have h3 := E_three f hf
    by_cases a : r < E f 0
    · exact ⟨0, by omega, by rw [S_zero]; omega, a⟩
    by_cases b : r < E f 1
    · exact ⟨1, by omega, by rw [S_succ]; omega, b⟩
    by_cases c : r < E f 2
    · exact ⟨2, by omega, by rw [S_succ]; omega, c⟩
    · exact ⟨3, by omega, by rw [S_succ]; omega, by omega⟩
  obtain ⟨e, he, h1, h2⟩ := key
  have hE := E_eq f e
  have hC : C f e = (E f e - 1) / 512 - S f e / 512 + 1 := by unfold C; rw [if_pos (by omega)]
  have hk := C_le_K f e
  have hK3 := K_mono f (by omega : e ≤ 3)
  have h51 := K_three_le f hf
  have d1 : S f e / 512 ≤ r / 512 := Nat.div_le_div_right h1
  have d2 : r / 512 ≤ (E f e - 1) / 512 := Nat.div_le_div_right (by omega)
  obtain ⟨v, hv⟩ : ∃ v, v = K f e - C f e + (r / 512 - S f e / 512) := ⟨_, rfl⟩
  have hvv : vv f v = v := by unfold vv last; omega
  have hve : ve f v = e := ve_eq f v e he (by omega) (by omega)
  have hl : v ≤ last f := by unfold last; omega
  refine ⟨v, by omega, ?_, ?_, ?_⟩
  · have := (vt_spec f hf v).2.2.2
    rw [hve, hvv] at this; omega
  · unfold st; rw [if_pos hl, hve]; exact h1
  · unfold en; rw [if_pos hl, hve]; exact h2

end Cert.Plan
-- ==== Proof.Kernel.Tables.lean ====
/- The tables of the launch hold the plan of visits (`Plan`), where the group sizes are naturals that add up to the number of rows. -/
module

public import proofs.«01_k».proof.Proof.Kernel.Host
public import proofs.«01_k».proof.Proof.Plan
public import Idealize.ShloMosaic.Lib.Tactic.WordOmega

@[expose] public section

set_option maxRecDepth 16384

noncomputable section

namespace Cert.Kernel.Hand

open Idealize.ShloMosaic hiding ix1 ix2
open Idealize.ShloMosaic.TcCoe
open Idealize.ShloMosaic.ValueIdx (ix1 ix2)
open Cert.Kernel.Gen
open Idealize.ShloMosaic.Routing

theorem const_at (s : Shape) (b : BitVec 32) (i : s.Idx) : constantI s 32 b i = b := rfl
theorem sel_pos {α : Type} {c : BitVec 1} (h : c = 1#1) (a b : α) : Scalar.select c a b = a := if_pos h
theorem sel_neg {α : Type} {c : BitVec 1} (h : ¬c = 1#1) (a b : α) : Scalar.select c a b = b := if_neg h
theorem ofNat_sub {a b : ℕ} (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega
theorem ofNat_add (a b : ℕ) : BitVec.ofNat 32 a + BitVec.ofNat 32 b = BitVec.ofNat 32 (a + b) := (BitVec.ofNat_add ..).symm
theorem toInt_of {a : ℕ} (ha : a < 2 ^ 31) : (BitVec.ofNat 32 a).toInt = (a : ℤ) := StableHlo.Predicate.toInt_ofNat_small _ ha
theorem sge_ofNat {a b : ℕ} (ha : a < 2 ^ 31) (hb : b < 2 ^ 31) : IntOp.cmpi .sge (BitVec.ofNat 32 a) (BitVec.ofNat 32 b) = 1#1 ↔ b ≤ a := by
  have h := toInt_of ha; have h' := toInt_of hb
  unfold IntOp.cmpi; simp only [WordCmp.ofBool_eq_one_iff, BitVec.sle, decide_eq_true_eq]; omega
theorem sgt_ofNat {a b : ℕ} (ha : a < 2 ^ 31) (hb : b < 2 ^ 31) : IntOp.cmpi .sgt (BitVec.ofNat 32 a) (BitVec.ofNat 32 b) = 1#1 ↔ b < a := by
  have h := toInt_of ha; have h' := toInt_of hb
  unfold IntOp.cmpi; simp only [WordCmp.ofBool_eq_one_iff, BitVec.slt, decide_eq_true_eq]; omega
theorem sle_ofNat {a b : ℕ} (ha : a < 2 ^ 31) (hb : b < 2 ^ 31) : IntOp.cmpi .sle (BitVec.ofNat 32 a) (BitVec.ofNat 32 b) = 1#1 ↔ a ≤ b := by
  have h := toInt_of ha; have h' := toInt_of hb
  unfold IntOp.cmpi; simp only [WordCmp.ofBool_eq_one_iff, BitVec.sle, decide_eq_true_eq]; omega
theorem slt_ofNat {a b : ℕ} (ha : a < 2 ^ 31) (hb : b < 2 ^ 31) : IntOp.cmpi .slt (BitVec.ofNat 32 a) (BitVec.ofNat 32 b) = 1#1 ↔ a < b := by
  have h := toInt_of ha; have h' := toInt_of hb
  unfold IntOp.cmpi; simp only [WordCmp.ofBool_eq_one_iff, BitVec.slt, decide_eq_true_eq]; omega
theorem minsi_ofNat {a b : ℕ} (ha : a < 2 ^ 31) (hb : b < 2 ^ 31) : IntOp.minsi (BitVec.ofNat 32 a) (BitVec.ofNat 32 b) = BitVec.ofNat 32 (min a b) := by
  have h := toInt_of ha; have h' := toInt_of hb
  unfold IntOp.minsi; simp only [BitVec.slt, decide_eq_true_eq]
  split
  · rw [Nat.min_eq_left (by omega)]
  · rw [Nat.min_eq_right (by omega)]

/-- The running sum of words that hold naturals. -/
theorem csum_ap (g : IVec S4 32) (f : ℕ → ℕ) (hg : ∀ e : Fin 4, g (ix1 e) = BitVec.ofNat 32 (f e.val)) (e : Fin 4) :
    csum g (ix1 e) = BitVec.ofNat 32 ((List.range (e.val + 1)).map f).sum :=
  cumsum1 (N := 4) (Nm1 := 3) rfl g f hg _ (bc0 _ _ _) reduceWindows_S4_S4_w4s1p3_0 h_S_ e

variable (g : IVec S4 32) (f : ℕ → ℕ) (hg : ∀ e : Fin 4, g (ix1 e) = BitVec.ofNat 32 (f e.val)) (hf : f 0 + f 1 + f 2 + f 3 = 24576)
include hg hf

omit hg in
theorem f_le (e : Fin 4) : f e.val ≤ Plan.E f e.val ∧ Plan.E f e.val ≤ 24576 :=
  ⟨by have := Plan.E_eq f e.val; omega, Plan.E_le f hf e.val e.isLt⟩

theorem starts_ap (e : Fin 4) : starts g (ix1 e) = BitVec.ofNat 32 (Plan.S f e.val) := by
  have h := f_le f hf e
  unfold starts
  rw [subi_ap, csum_ap g f hg, hg]
  exact ofNat_sub h.1 (by change Plan.E f e.val < _; omega)

theorem first_ap (e : Fin 4) : first g (ix1 e) = BitVec.ofNat 32 (Plan.S f e.val / 512) := by
  have h := f_le f hf e
  have := Plan.E_eq f e.val
  exact pyDiv_ap bcast_S_S4 _ _ _ (starts_ap g f hg hf e) rfl (by omega) (by omega) (by omega)

theorem cnt_ap (e : Fin 4) : cnt g (ix1 e) = BitVec.ofNat 32 (Plan.C f e.val) := by
  have h := f_le f hf e
  have hE := Plan.E_eq f e.val
  show Scalar.select (IntOp.cmpi .sgt (g (ix1 e)) (bc4 0#32 (ix1 e))) (lastBlock g (ix1 e) - first g (ix1 e) + bc4 1#32 (ix1 e)) (bc4 0#32 (ix1 e)) = _
  rw [bc4, bc4, bc0, bc0, hg, const_at, const_at]
  have hc := sgt_ofNat (a := f e.val) (b := 0) (by omega) (by omega)
  unfold Plan.C
  by_cases hp : 0 < f e.val
  · have hd : lastBlock g (ix1 e) = BitVec.ofNat 32 ((Plan.E f e.val - 1) / 512) := by
      refine pyDiv_ap bcast_S_S4 _ _ _ (a := Plan.E f e.val - 1) ?_ rfl (by omega) (by omega) (by omega)
      rw [subi_ap, csum_ap g f hg, bc4, bc0]
      exact ofNat_sub (b := 1) (by change 1 ≤ Plan.E f e.val; omega) (by change Plan.E f e.val < _; omega)
    rw [sel_pos (hc.2 hp), if_pos hp, hd, first_ap g f hg hf, ofNat_sub (Nat.div_le_div_right (by omega)) (by omega)]
    exact ofNat_add _ 1
  · rw [sel_neg (fun h => hp (hc.1 h)), if_neg hp]

theorem cum_ap (e : Fin 4) : cum g (ix1 e) = BitVec.ofNat 32 (Plan.K f e.val) :=
  csum_ap (cnt g) (Plan.C f) (cnt_ap g f hg hf) e

omit hg in
theorem K_le51 (e : ℕ) (he : e < 4) : Plan.K f e ≤ 51 := (Plan.K_mono f (by omega : e ≤ 3)).trans (Plan.K_three_le f hf)

theorem last_ap : last g ValueIdx.ix0 = BitVec.ofNat 32 (Plan.last f) := by
  have h := Plan.K_three_pos f hf
  have h51 := Plan.K_three_le f hf
  unfold last
  rw [subi_ap, const_at]
  have e : shapeCast S_ (extractStridedSlice S1 ![3] (cum g) slices_S4_S1_3) shapeCasts_S1_S_ ValueIdx.ix0 = cum g (ix1 (3 : Fin 4)) := by
    pointwise
    rfl
  rw [e, cum_ap g f hg hf]
  exact ofNat_sub (b := 1) h (by change Plan.K f 3 < _; omega)

theorem vv_ap (v : Fin 51) : vv g (ix1 v) = BitVec.ofNat 32 (Plan.vv f v.val) := by
  have h := Plan.last_lt f hf
  have h51 := Plan.K_three_le f hf
  show IntOp.minsi (BitVec.ofNat 32 v.val) (broadcastInDim S51 ![] bcast_S_S51 (last g) (ix1 v)) = _
  rw [bc0, last_ap g f hg hf, minsi_ofNat (by omega) (by omega)]
  rfl

theorem ve_ap (v : Fin 51) : ve g (ix1 v) = BitVec.ofNat 32 (Plan.ve f v.val) := by
  refine reduce_count (n := 51) (m := 4) (by omega) _ natLt_1_32 reducesTo_S51x4_S51_d1 h_S_ v (fun q => Plan.K f q ≤ Plan.vv f v.val) fun q => ?_
  have h := Plan.last_lt f hf
  have h51 := Plan.K_three_le f hf
  have hk := K_le51 f hf q.val q.isLt
  have hv : Plan.vv f v.val ≤ 51 := by unfold Plan.vv; omega
  show IntOp.cmpi .sge (broadcastInDim S51x4 ![0, 1] bcast_S51x1_S51x4_0_1 (broadcastInDim S51x1 ![0] bcast_S51_S51x1_0 (vv g)) (ix2 v q))
    (broadcastInDim S51x4 ![0, 1] bcast_S1x4_S51x4_0_1 (broadcastInDim S1x4 ![1] bcast_S4_S1x4_1 (cum g)) (ix2 v q)) = 1#1 ↔ _
  rw [bcRows, bcCols, vv_ap g f hg hf, cum_ap g f hg hf]
  exact sge_ofNat (by omega) (by omega)

/-- A table over the experts, taken at each visit's expert. -/
theorem take_ap (x : IVec S4 32) (v : Fin 51) : take x (ve g) (ix1 v) = x (ix1 ⟨Plan.ve f v.val, Plan.ve_lt f hf v.val⟩) := by
  have h := Plan.ve_lt f hf v.val
  refine gather_take1 (N := 4) (n := 51) gather_S4_S51x1_S51_n_0_n_n_0_1_1 rfl rfl rfl rfl x _ v ⟨Plan.ve f v.val, h⟩ ?_ (by omega)
  rw [bcCol]
  show Scalar.select (IntOp.cmpi .slt (ve g (ix1 v)) (bc51 0#32 (ix1 v))) (ve g (ix1 v) + bc51 4#32 (ix1 v)) (ve g (ix1 v)) = _
  rw [bc51, bc51, bc0, ve_ap g f hg hf, const_at, sel_neg]
  intro hh
  have := (slt_ofNat (a := Plan.ve f v.val) (b := 0) (by omega) (by omega)).1 hh
  omega

theorem vt_ap (v : Fin 51) : vt g (ix1 v) = BitVec.ofNat 32 (Plan.vt f v.val) := by
  have h := Plan.vt_spec f hf v.val
  have h' := Plan.ve_spec f hf v.val
  have hl := Plan.vv_lt f hf v.val
  have h51 := Plan.K_three_le f hf
  have hE := Plan.E_le f hf _ h'.1
  unfold vt
  rw [subi_ap, addi_ap, take_ap g f hg hf, take_ap g f hg hf, subi_ap, first_ap g f hg hf, vv_ap g f hg hf, cum_ap g f hg hf, cnt_ap g f hg hf,
    ofNat_sub (Plan.C_le_K f _) (by have := K_le51 f hf _ h'.1; show Plan.K f (Plan.ve f v.val) < _; omega), ofNat_add,
    ofNat_sub (by simp only; omega) (by have := Plan.E_eq f (Plan.ve f v.val); simp only; omega)]
  rfl

theorem valid_ap (v : Fin 51) : valid g (ix1 v) = 1#1 ↔ v.val ≤ Plan.last f := by
  have h := Plan.last_lt f hf
  have h51 := Plan.K_three_le f hf
  show IntOp.cmpi .sle (BitVec.ofNat 32 v.val) (broadcastInDim S51 ![] bcast_S_S51 (last g) (ix1 v)) = 1#1 ↔ _
  rw [bc0, last_ap g f hg hf]
  exact sle_ofNat (by omega) (by omega)

theorem st_ap (v : Fin 51) : st g (ix1 v) = BitVec.ofNat 32 (Plan.st f v.val) := by
  show Scalar.select (valid g (ix1 v)) (take (starts g) (ve g) (ix1 v)) (bc51 0#32 (ix1 v)) = _
  rw [bc51, bc0, take_ap g f hg hf, starts_ap g f hg hf, const_at]
  unfold Plan.st
  by_cases hv : v.val ≤ Plan.last f
  · rw [sel_pos ((valid_ap g f hg hf v).2 hv), if_pos hv]
  · rw [sel_neg (fun h => hv ((valid_ap g f hg hf v).1 h)), if_neg hv]

theorem en_ap (v : Fin 51) : en g (ix1 v) = BitVec.ofNat 32 (Plan.en f v.val) := by
  show Scalar.select (valid g (ix1 v)) (take (csum g) (ve g) (ix1 v)) (bc51 0#32 (ix1 v)) = _
  rw [bc51, bc0, take_ap g f hg hf, csum_ap g f hg, const_at]
  unfold Plan.en
  by_cases hv : v.val ≤ Plan.last f
  · rw [sel_pos ((valid_ap g f hg hf v).2 hv), if_pos hv]; rfl
  · rw [sel_neg (fun h => hv ((valid_ap g f hg hf v).1 h)), if_neg hv]

end Cert.Kernel.Hand

end
-- ==== Proof.Kernel.Admit.lean ====
/- The precondition read: the group sizes are naturals that add up to the number of rows; and with such sizes every block of the launch
   lies inside its array. -/
module

public import proofs.«01_k».proof.Proof.Kernel.Tables
public import proofs.«01_k».proof.Proof.Gen.Pre_sizes_fill_the_rows
public import Idealize.ShloMosaic.Lib.StableHlo.Predicate

@[expose] public section

set_option maxRecDepth 16384

noncomputable section

namespace Cert.Kernel.Hand

open Idealize.ShloMosaic hiding ix1 ix2
open Idealize.ShloMosaic.TcCoe
open Idealize.ShloMosaic.ValueIdx (ix1 ix2)
open Cert.Kernel.Gen

variable {F : FTy → Type} [FloatOps F] (m : (ℓ : Loc nD τ sig) → Buf (Elt F) ℓ)

/-- The group sizes as naturals. -/
def nat (e : ℕ) : ℕ := if h : e < 4 then (sizes m (ix1 ⟨e, h⟩)).toNat else 0

/-- The group sizes are naturals that add up to the number of rows. -/
structure Fills : Prop where
  sizes : ∀ e : Fin 4, sizes m (ix1 e) = BitVec.ofNat 32 (nat m e.val)
  total : nat m 0 + nat m 1 + nat m 2 + nat m 3 = 24576

theorem toNat_of {a : ℕ} (h : a < 2 ^ 32) : (BitVec.ofNat 32 a).toNat = a := by rw [BitVec.toNat_ofNat, Nat.mod_eq_of_lt h]

/-- The cell of a table that a visit reads is the visit's own. -/
theorem cell (i : grid0.Coords) :
    (Rect.unit (s := S51) ![(Scalar.indexCast (BitVec.ofNat 32 (i 1).val) : Index).toNat] S1.size (k0_off1_inb i)).emb
      (Shape.Idx.first (numel1_S1.symm ▸ Nat.one_pos)) = ix1 (i 1) := by
  funext a
  have ha : a = 0 := Subsingleton.elim _ _
  subst ha
  apply Fin.ext
  have h0 : (Shape.Idx.first (s := S1) (numel1_S1.symm ▸ Nat.one_pos) 0).val < 1 := (Shape.Idx.first (s := S1) (numel1_S1.symm ▸ Nat.one_pos) 0).isLt
  have hi : (i 1).val < 51 := (i 1).isLt
  show (Scalar.indexCast (BitVec.ofNat 32 (i 1).val) : Index).toNat + 1 * (Shape.Idx.first (s := S1) (numel1_S1.symm ▸ Nat.one_pos) 0).val = (i 1).val
  have : (Scalar.indexCast (BitVec.ofNat 32 (i 1).val) : Index).toNat = (i 1).val := by
    show (BitVec.ofNat 32 (i 1).val).toNat = _
    rw [BitVec.toNat_ofNat, Nat.mod_eq_of_lt (by omega)]
  omega

theorem vt_word (h : Fills m) (i : grid0.Coords) :
    (tbl m).at 0 (Rect.unit (s := S51) ![(Scalar.indexCast (BitVec.ofNat 32 (i 1).val) : Index).toNat] S1.size (k0_off1_inb i)) numel1_S1
      = BitVec.ofNat 32 (Plan.vt (nat m) (i 1).val) := by
  have e : (tbl m).at 0 (Rect.unit (s := S51) ![(Scalar.indexCast (BitVec.ofNat 32 (i 1).val) : Index).toNat] S1.size (k0_off1_inb i)) numel1_S1
      = V m (0 : Dev nD) main_v42 (ix1 (i 1)) := congrArg (V m (0 : Dev nD) main_v42) (cell i)
  exact (e.trans (congrFun (V_vt m) _)).trans (vt_ap _ _ h.sizes h.total (i 1))

theorem ve_word (h : Fills m) (i : grid0.Coords) :
    (tbl m).at 1 (Rect.unit (s := S51) ![(Scalar.indexCast (BitVec.ofNat 32 (i 1).val) : Index).toNat] S1.size (k0_off1_inb i)) numel1_S1
      = BitVec.ofNat 32 (Plan.ve (nat m) (i 1).val) := by
  have e : (tbl m).at 1 (Rect.unit (s := S51) ![(Scalar.indexCast (BitVec.ofNat 32 (i 1).val) : Index).toNat] S1.size (k0_off1_inb i)) numel1_S1
      = V m (0 : Dev nD) main_v25 (ix1 (i 1)) := congrArg (V m (0 : Dev nD) main_v25) (cell i)
  exact (e.trans (congrFun (V_ve m) _)).trans (ve_ap _ _ h.sizes h.total (i 1))

/-- The blocks of the windows, as naturals. -/
theorem ix_vt0 (h : Fills m) (i : grid0.Coords) : cc0_transform_0 k0_off1_inb numel1_S1 (tbl m) i = ![Plan.vt (nat m) (i 1).val, 0] := by
  have hv := Plan.vt_lt (nat m) h.total (i 1).val
  show ![((tbl m).at 0 (Rect.unit (s := S51) ![(Scalar.indexCast (BitVec.ofNat 32 (i 1).val) : Index).toNat] S1.size (k0_off1_inb i)) numel1_S1).toNat, _] = _
  rw [vt_word m h, BitVec.toNat_ofNat, Nat.mod_eq_of_lt (by omega)]
  rfl
theorem ix_vt1 (h : Fills m) (i : grid0.Coords) : cc0_transform_1 k0_off1_inb numel1_S1 (tbl m) i = ![Plan.vt (nat m) (i 1).val, 0] :=
  ix_vt0 m h i
theorem ix_ve2 (h : Fills m) (i : grid0.Coords) : cc0_transform_2 k0_off1_inb numel1_S1 (tbl m) i = ![Plan.ve (nat m) (i 1).val, 0, (i 0).val] := by
  have hv := Plan.ve_lt (nat m) h.total (i 1).val
  have hi : (i 0).val < 14 := (i 0).isLt
  show ![((tbl m).at 1 (Rect.unit (s := S51) ![(Scalar.indexCast (BitVec.ofNat 32 (i 1).val) : Index).toNat] S1.size (k0_off1_inb i)) numel1_S1).toNat, _,
    (BitVec.ofNat 32 (i 0).val).toNat] = _
  rw [ve_word m h, toNat_of (by omega), toNat_of (a := (i 0).val) (by omega)]
  rfl
theorem ix_ve3 (h : Fills m) (i : grid0.Coords) : cc0_transform_3 k0_off1_inb numel1_S1 (tbl m) i = ![Plan.ve (nat m) (i 1).val, 0, (i 0).val + 14] := by
  have hv := Plan.ve_lt (nat m) h.total (i 1).val
  have hi : (i 0).val < 14 := (i 0).isLt
  show ![((tbl m).at 1 (Rect.unit (s := S51) ![(Scalar.indexCast (BitVec.ofNat 32 (i 1).val) : Index).toNat] S1.size (k0_off1_inb i)) numel1_S1).toNat, _,
    (BitVec.ofNat 32 (i 0).val + 14#32).toNat] = _
  rw [ve_word m h, toNat_of (by omega), ofNat_add, toNat_of (a := (i 0).val + 14) (by omega)]
  rfl
theorem ix_ve4 (h : Fills m) (i : grid0.Coords) : cc0_transform_4 k0_off1_inb numel1_S1 (tbl m) i = ![Plan.ve (nat m) (i 1).val, 0, (i 0).val] :=
  ix_ve2 m h i
theorem ix_ve5 (h : Fills m) (i : grid0.Coords) : cc0_transform_5 k0_off1_inb numel1_S1 (tbl m) i = ![Plan.ve (nat m) (i 1).val, 0, (i 0).val + 14] :=
  ix_ve3 m h i
theorem ix_vt6 (h : Fills m) (i : grid0.Coords) : cc0_transform_6 k0_off1_inb numel1_S1 (tbl m) i = ![Plan.vt (nat m) (i 1).val, (i 0).val] := by
  have hv := Plan.vt_lt (nat m) h.total (i 1).val
  have hi : (i 0).val < 14 := (i 0).isLt
  show ![((tbl m).at 0 (Rect.unit (s := S51) ![(Scalar.indexCast (BitVec.ofNat 32 (i 1).val) : Index).toNat] S1.size (k0_off1_inb i)) numel1_S1).toNat,
    (BitVec.ofNat 32 (i 0).val).toNat] = _
  rw [vt_word m h, toNat_of (by omega), toNat_of (by omega)]
theorem ix_vt7 (h : Fills m) (i : grid0.Coords) : cc0_transform_7 k0_off1_inb numel1_S1 (tbl m) i = ![(i 0).val, Plan.vt (nat m) (i 1).val, 0] := by
  have hv := Plan.vt_lt (nat m) h.total (i 1).val
  have hi : (i 0).val < 14 := (i 0).isLt
  show ![(BitVec.ofNat 32 (i 0).val).toNat,
    ((tbl m).at 0 (Rect.unit (s := S51) ![(Scalar.indexCast (BitVec.ofNat 32 (i 1).val) : Index).toNat] S1.size (k0_off1_inb i)) numel1_S1).toNat, _] = _
  rw [vt_word m h, toNat_of (by omega), toNat_of (by omega)]
  rfl

/-- A block of packed rows whose row count the packing divides is whole words. -/
theorem words_of_dvd {s : Shape} {size ix : Fin s.rank → ℕ} (h : ∀ a, (ix a + 1) * size a ≤ s.size a) {p : ℕ} (h2 : 2 ≤ s.rank)
    (hd : p ∣ size (s.rowAx h2)) : (Rect.block size ix h).WholeWords p :=
  .inl (.inr ⟨h2, rfl, .inl ⟨hd.mul_left _, hd⟩⟩)

/-- Where the group sizes fill the rows, every block of the launch lies inside its array. -/
theorem ok (h : Fills m) : Ok m := by
  have hvt := fun i : grid0.Coords => Plan.vt_lt (nat m) h.total (i 1).val
  have hve := fun i : grid0.Coords => Plan.ve_lt (nat m) h.total (i 1).val
  have hn := fun i : grid0.Coords => show (i 0).val < 14 from (i 0).isLt
  refine ⟨fun i => ?_, fun i => ?_, fun i => ?_, fun i => ?_, fun i => ?_, fun i => ?_, fun i => ?_, fun i => ?_⟩ <;>
    have h1 := hvt i <;> have h2 := hve i <;> have h3 := hn i
  · refine ⟨?_, .inr (words_of_dvd _ (by decide) (by decide))⟩
    rw [ix_vt0 m h]
    intro a
    match a with
    | 0 => show (Plan.vt (nat m) (i 1).val + 1) * 512 ≤ 24576; omega
    | 1 => show (0 + 1) * 7168 ≤ 7168; omega
  · refine ⟨?_, .inl rfl⟩
    rw [ix_vt1 m h]
    intro a
    match a with
    | 0 => show (Plan.vt (nat m) (i 1).val + 1) * 512 ≤ 24576; omega
    | 1 => show (0 + 1) * 56 ≤ 56; omega
  · refine ⟨?_, .inr (words_of_dvd _ (by decide) (by decide))⟩
    rw [ix_ve2 m h]
    intro a
    match a with
    | 0 => show (Plan.ve (nat m) (i 1).val + 1) * 1 ≤ 4; omega
    | 1 => show (0 + 1) * 7168 ≤ 7168; omega
    | 2 => show ((i 0).val + 1) * 256 ≤ 7168; omega
  · refine ⟨?_, .inr (words_of_dvd _ (by decide) (by decide))⟩
    rw [ix_ve3 m h]
    intro a
    match a with
    | 0 => show (Plan.ve (nat m) (i 1).val + 1) * 1 ≤ 4; omega
    | 1 => show (0 + 1) * 7168 ≤ 7168; omega
    | 2 => show ((i 0).val + 14 + 1) * 256 ≤ 7168; omega
  · refine ⟨?_, .inl rfl⟩
    rw [ix_ve4 m h]
    intro a
    match a with
    | 0 => show (Plan.ve (nat m) (i 1).val + 1) * 1 ≤ 4; omega
    | 1 => show (0 + 1) * 1 ≤ 1; omega
    | 2 => show ((i 0).val + 1) * 256 ≤ 7168; omega
  · refine ⟨?_, .inl rfl⟩
    rw [ix_ve5 m h]
    intro a
    match a with
    | 0 => show (Plan.ve (nat m) (i 1).val + 1) * 1 ≤ 4; omega
    | 1 => show (0 + 1) * 1 ≤ 1; omega
    | 2 => show ((i 0).val + 14 + 1) * 256 ≤ 7168; omega
  · refine ⟨?_, .inr (words_of_dvd _ (by decide) (by decide))⟩
    rw [ix_vt6 m h]
    intro a
    match a with
    | 0 => show (Plan.vt (nat m) (i 1).val + 1) * 512 ≤ 24576; omega
    | 1 => show ((i 0).val + 1) * 256 ≤ 3584; omega
  · refine ⟨?_, .inl rfl⟩
    rw [ix_vt7 m h]
    intro a
    match a with
    | 0 => show ((i 0).val + 1) * 1 ≤ 14; omega
    | 1 => show (Plan.vt (nat m) (i 1).val + 1) * 512 ≤ 24576; omega
    | 2 => show (0 + 1) * 2 ≤ 2; omega

theorem and_one (a b : BitVec 1) : a &&& b = 1#1 ↔ a = 1#1 ∧ b = 1#1 := by revert a b; decide

/-- The printed precondition says that the sizes fill the rows. -/
theorem fills (h : ∀ c : Dev nD, Cert.Pre_sizes_fill_the_rows.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : Fills m := by
  have key : ∀ e : Fin 4, (IntOp.cmpi .sge (sizes m (ix1 e)) 0#32 &&& IntOp.cmpi .sle (sizes m (ix1 e)) 24576#32) &&&
      IntOp.cmpi .eq (sizes m (ix1 (0 : Fin 4)) + sizes m (ix1 (1 : Fin 4)) + sizes m (ix1 (2 : Fin 4)) + sizes m (ix1 (3 : Fin 4))) 24576#32 = 1#1 := by
    intro e
    have e' := congrFun (h 0) (ix1 e)
    rw [← e']
    have r : ∀ (k : Fin 4) (hs : S4.Slices ![k.val] S1),
        sizes m (ix1 k) = shapeCast S_ (extractStridedSlice S1 ![k.val] (sizes m) hs) shapeCasts_S1_S_ ValueIdx.ix0 := by
      intro k hs
      pointwise
      rfl
    rw [r 0 Cert.Pre_sizes_fill_the_rows.Facts.slices_S4_S1_0, r 1 Cert.Pre_sizes_fill_the_rows.Facts.slices_S4_S1_1, r 2 Cert.Pre_sizes_fill_the_rows.Facts.slices_S4_S1_2, r 3 Cert.Pre_sizes_fill_the_rows.Facts.slices_S4_S1_3]
    rfl
  have b : ∀ e : Fin 4, (sizes m (ix1 e)).toNat ≤ 24576 := fun e => by
    have h0 := ((and_one _ _).1 ((and_one _ _).1 (key e)).1).1
    have h1 := ((and_one _ _).1 ((and_one _ _).1 (key e)).1).2
    unfold IntOp.cmpi at h0 h1
    simp only [WordCmp.ofBool_eq_one_iff, BitVec.sle, decide_eq_true_eq] at h0 h1
    have e0 : (0#32 : BitVec 32).toInt = 0 := by decide
    have e1 : (24576#32 : BitVec 32).toInt = 24576 := by decide
    rw [e0] at h0
    rw [e1] at h1
    rw [BitVec.toInt_eq_toNat_cond] at h0 h1
    have := (sizes m (ix1 e)).isLt
    split at h1 <;> omega
  constructor
  · intro e
    simp [nat]
  · have h0 := b 0; have h1 := b 1; have h2 := b 2; have h3 := b 3
    have hs : sizes m (ix1 (0 : Fin 4)) + sizes m (ix1 (1 : Fin 4)) + sizes m (ix1 (2 : Fin 4)) + sizes m (ix1 (3 : Fin 4)) = 24576#32 :=
      StableHlo.Predicate.cmpi_eq_iff.1 ((and_one _ _).1 (key 0)).2
    have := congrArg BitVec.toNat hs
    simp only [BitVec.toNat_add, BitVec.toNat_ofNat] at this
    simp only [nat, show (0:ℕ) < 4 by omega, show (1:ℕ) < 4 by omega, show (2:ℕ) < 4 by omega, show (3:ℕ) < 4 by omega, dite_true]
    change (sizes m (ix1 (0 : Fin 4))).toNat + (sizes m (ix1 (1 : Fin 4))).toNat + (sizes m (ix1 (2 : Fin 4))).toNat + (sizes m (ix1 (3 : Fin 4))).toNat = 24576
    omega

end Cert.Kernel.Hand

end
-- ==== Proof.KernelIdeal.Launch.lean ====
/- The launch of the kernel as this proof needs it: the host operations that run before the pipelined region, the arrays and the
   four prefetched tables as the region finds them, each input window's block, and the passage from a run of the region to the
   claim that the argument arrays end unchanged. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0`, `hostOps0_1`, `hostOps0_2`, `hostOps0_3`, `hostOps0_4`, `hostOps0_5`, `hostOps0_6`, `hostOps0_7`, `hostOps0_8`, `hostOps0_9`, `hostOps0_10`, `hostOps0_11`, `hostOps0_12`. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9, hostOps0_10, hostOps0_11, hostOps0_12]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor

set_option maxHeartbeats 800000 in
/-- @main up to the region, at the certificate's variants `𝒱₀`: the lines of host operations then the region
    (`Pipeline.hmain_prefixes`, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9, hostOps0_10, hostOps0_11, hostOps0_12] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S51 .i32 := Memref.whole main_v42
abbrev htbM0_0 : tbM0_0.IsWhole := Memref.isWhole_whole _
abbrev tbM0_1 : Memref sig .tc .smem S51 .i32 := Memref.whole main_v25
abbrev htbM0_1 : tbM0_1.IsWhole := Memref.isWhole_whole _
abbrev tbM0_2 : Memref sig .tc .smem S51 .i32 := Memref.whole main_v52
abbrev htbM0_2 : tbM0_2.IsWhole := Memref.isWhole_whole _
abbrev tbM0_3 : Memref sig .tc .smem S51 .i32 := Memref.whole main_v60
abbrev htbM0_3 : tbM0_3.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(Pipeline.RDat.FramePost.arr_in h c 0 rfl).trans ((hA c 0).trans (V_main_arg0 m c)),
      (Pipeline.RDat.FramePost.arr_in h c 1 rfl).trans ((hA c 1).trans (V_main_arg1 m c)),
      (Pipeline.RDat.FramePost.arr_in h c 3 rfl).trans ((hA c 3).trans (V_main_arg2 m c)),
      ((h c).2 main_arg3 (by decide : main_arg3 ∈ Pipeline.restRefs sig spec0)).trans (V_main_arg3 m c),
      ((h c).2 main_arg4 (by decide : main_arg4 ∈ Pipeline.restRefs sig spec0)).trans (V_main_arg4 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S512x7168 .fp8e4m3 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x56 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x7168x256 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x7168x256 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x256 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x256 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S512x256 .fp8e4m3 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x512x2 .f32 := spec0_7.stage ((cfgM m hO).slots t 7)
abbrev hs0_7 (hO : Ok m) (t : Fin (cfgM m hO).N) : (ms0_7 m hO t).IsWhole := hstage0_7 (((cfgM m hO).slots t 7).cast nbuf0_7)
/-- The scratch operands: whole scoped buffers of the kernel's own, passed beside the windows. -/
abbrev scM0_0 : Memref sig .tc .vmem S512x7168 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_gate_up (grid0.coords t) (Memref.whole main_v42) (Memref.isWhole_whole _) (Memref.whole main_v25) (Memref.isWhole_whole _) (Memref.whole main_v52) (Memref.isWhole_whole _) (Memref.whole main_v60) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _)

end Cert.KernelIdeal.Hand

end
-- ==== Proof.KernelIdeal.Body.lean ====
/- The kernel body's run at a grid point: what it leaves in the two output blocks, from what they held, the input blocks and the
   tables' words. -/
module

public import proofs.«01_k».proof.Proof.KernelIdeal.Launch

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body leaves in the two outputs' staging memrefs, which it finds at `x6` and `x7`, with the triple of that run: the inputs
    and the tables are left as they were, the scratch at some contents. -/
noncomputable def run (c : Dev nD) (i : grid0.Coords) (arg6 : Memref sig .tc .vmem S512x7168 .fp8e4m3) (harg6 : arg6.IsWhole) (arg7 : Memref sig .tc .vmem S512x56 .f32) (harg7 : arg7.IsWhole) (arg8 : Memref sig .tc .vmem S1x7168x256 .bf16) (harg8 : arg8.IsWhole) (arg9 : Memref sig .tc .vmem S1x7168x256 .bf16) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S512x256 .fp8e4m3) (harg12 : arg12.IsWhole) (arg13 : Memref sig .tc .vmem S1x512x2 .f32) (harg13 : arg13.IsWhole) (arg14 : Memref sig .tc .vmem S512x7168 .bf16) (harg14 : arg14.IsWhole)
    (x0 : Vec F S512x7168 .fp8e4m3) (x1 : Vec F S512x56 .f32) (x2 : Vec F S1x7168x256 .bf16) (x3 : Vec F S1x7168x256 .bf16) (x4 : Vec F S1x1x256 .f32) (x5 : Vec F S1x1x256 .f32) (x6 : Vec F S512x256 .fp8e4m3) (x7 : Vec F S1x512x2 .f32) (xt0 : TbBuf0 (F := F) c tbM0_0) (xt1 : TbBuf0 (F := F) c tbM0_1) (xt2 : TbBuf0 (F := F) c tbM0_2) (xt3 : TbBuf0 (F := F) c tbM0_3) :
    Σ' (X6 : Vec F S512x256 .fp8e4m3), { X7 : Vec F S1x512x2 .f32 //
      ∀ (E : Set ℕ) (K : PUnit → sProp 𝕄),
        iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ (∃ d, owns (c : Thread nD τ) arg14 fullShare d) ∗ tbPt0 c tbM0_0 xt0 ∗ tbPt0 c tbM0_1 xt1 ∗ tbPt0 c tbM0_2 xt2 ∗ tbPt0 c tbM0_3 xt3
            ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare X6 ∗ owns (c : Thread nD τ) arg13 fullShare X7 ∗ (∃ d, owns (c : Thread nD τ) arg14 fullShare d) ∗ tbPt0 c tbM0_0 xt0 ∗ tbPt0 c tbM0_1 xt1 ∗ tbPt0 c tbM0_2 xt2 ∗ tbPt0 c tbM0_3 xt3) -∗ K ⟨⟩))
          ⊢ wp frame (wpE (defs₀ (F := F)) Variants.none c none) E (cc0_gate_up i tbM0_0 htbM0_0 tbM0_1 htbM0_1 tbM0_2 htbM0_2 tbM0_3 htbM0_3 arg6 harg6 arg7 harg7 arg8 harg8 arg9 harg9 arg10 harg10 arg11 harg11 arg12 harg12 arg13 harg13 arg14 harg14) K } := by
  refine ⟨?_, ?_, fun E K => ?run⟩
  case run =>
    simp only [cc0_gate_up_eq_skeleton]; unfold cc0_gate_up_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, HT0, HT1, HT2, HT3, Hk⟩
    obtain rfl := harg6.eq_unread hf0; obtain rfl := harg7.eq_unread hf1; obtain rfl := harg8.eq_unread hf2; obtain rfl := harg9.eq_unread hf3; obtain rfl := harg10.eq_unread hf4; obtain rfl := harg11.eq_unread hf5
    obtain rfl := harg12.eq_unread hf6; obtain rfl := harg13.eq_unread hf7
    sl_exec
    sl_step
    iapply Hk
    isplitl [H0]
    · iexists _; isplitr; · ipureintro; exact harg6.read_unread _
      iexact H0
    isplitl [H1]
    · iexists _; isplitr; · ipureintro; exact harg7.read_unread _
      iexact H1
    isplitl [H2]
    · iexists _; isplitr; · ipureintro; exact harg8.read_unread _
      iexact H2
    isplitl [H3]
    · iexists _; isplitr; · ipureintro; exact harg9.read_unread _
      iexact H3
    isplitl [H4]
    · iexists _; isplitr; · ipureintro; exact harg10.read_unread _
      iexact H4
    isplitl [H5]
    · iexists _; isplitr; · ipureintro; exact harg11.read_unread _
      iexact H5
    isplitl [H6]
    · iexists _; isplitr; swap; · iexact H6
      ipureintro; rfl
    isplitl [H7]
    · iexists _; isplitr; swap; · iexact H7
      ipureintro; rfl
    isplitl [HS0]
    · iexists _, _; isplitr; swap; · iexact HS0
      ipureintro; rfl
    isplitl [HT0]; · iexact HT0
    isplitl [HT1]; · iexact HT1
    isplitl [HT2]; · iexact HT2
    iexact HT3

end Cert.KernelIdeal.Hand

end
-- ==== Proof.KernelIdeal.Run.lean ====
/- The run of the kernel with each output block held to a predicate of what the body leaves there, and the frame claim, which takes the
   predicate that holds of everything. -/
module

public import proofs.«01_k».proof.Proof.KernelIdeal.Body
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output windows (6, 7): each is held to a predicate instead of named contents. -/
def marked : Fin 8 → Bool := fun w => w.val == 6 || w.val == 7

/-- The proof data of the pipeline on core `c`: the arrays as the region finds them; after the body each input's buffer at its block; the
    outputs' contents are not named here; the invariant holds the scratch, the generator register and the tables' halves. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, h⟩ => Pipeline.Dat.unnamed (cfg := (cfgM m hO)) ⟨6, h⟩ t
    | ⟨7, h⟩ => Pipeline.Dat.unnamed (cfg := (cfgM m hO)) ⟨7, h⟩ t
  Φ _ := iprop(Pipeline.ΦA spec0 c ∗ Pipeline.ΦT pre0 (tbl m) c)
  q w := Pipeline.shareOf spec0 w
  owed _ := 0

/-- The arrays of the proof data are those the region finds. -/
theorem A_eq (hO : Ok m) (c : Dev nD) (w : Fin (cfgM m hO).W) : (dats m hO 0 c).A w = V m c (Pipeline.arrRef spec0 w) := by
  dsimp only [dats]

/-- What the body leaves in each input window. -/
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl

/-- Each input's current staging buffer holds its block at every point. -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d

/-- What the body leaves in the block of output 1 at point `t`, having found `Y6` and `Y7` in the two output blocks, -/
def out6 (hO : Ok m) (c : Dev nD) (t : Fin (cfgM m hO).N) (Y6 : Vec F S512x256 .fp8e4m3) (Y7 : Vec F S1x512x2 .f32) : Vec F S512x256 .fp8e4m3 :=
  (run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) Y6 Y7 (tbl m 0) (tbl m 1) (tbl m 2) (tbl m 3)).1
/-- and in the block of output 2. -/
def out7 (hO : Ok m) (c : Dev nD) (t : Fin (cfgM m hO).N) (Y6 : Vec F S512x256 .fp8e4m3) (Y7 : Vec F S1x512x2 .f32) : Vec F S1x512x2 .f32 :=
  (run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) Y6 Y7 (tbl m 0) (tbl m 1) (tbl m 2) (tbl m 3)).2.1

/-- The two predicates as one family over the windows. -/
def rel (hO : Ok m) (R6 : Fin (cfgM m hO).N → Vec F S512x256 .fp8e4m3 → Prop) (R7 : Fin (cfgM m hO).N → Vec F S1x512x2 .f32 → Prop)
    (w : Fin (cfgM m hO).W) (t : Fin (cfgM m hO).N) : (((cfgM m hO).win w).block.Idx → Elt F ((cfgM m hO).win w).elt) → Prop :=
  match w with
  | ⟨6, _⟩ => R6 t
  | ⟨7, _⟩ => R7 t
  | _ => fun _ => True

/-- The relational data: `dats` with the two outputs held to `R6` and `R7`, on each core. -/
abbrev rdat (hO : Ok m) (R6 : Dev nD → Fin (cfgM m hO).N → Vec F S512x256 .fp8e4m3 → Prop) (R7 : Dev nD → Fin (cfgM m hO).N → Vec F S1x512x2 .f32 → Prop)
    (c : Dev nD) : Pipeline.RDat τ (Elt F) Unit ℕ (UR sig nD τ) ℕ (cfgM m hO) c :=
  (dats m hO 0 c).toRRel marked (rel m hO (R6 c) (R7 c))

/-- What the body may find in output 1's block at a point: any contents that the run before it allows. -/
abbrev Finds6 (hO : Ok m) (R6 : Dev nD → Fin (cfgM m hO).N → Vec F S512x256 .fp8e4m3 → Prop) (R7 : Dev nD → Fin (cfgM m hO).N → Vec F S1x512x2 .f32 → Prop)
    (c : Dev nD) (t : Fin (cfgM m hO).N) (Y : Vec F S512x256 .fp8e4m3) : Prop := (rdat m hO R6 R7 c).Finds 6 t Y
/-- The same of output 2's. -/
abbrev Finds7 (hO : Ok m) (R6 : Dev nD → Fin (cfgM m hO).N → Vec F S512x256 .fp8e4m3 → Prop) (R7 : Dev nD → Fin (cfgM m hO).N → Vec F S1x512x2 .f32 → Prop)
    (c : Dev nD) (t : Fin (cfgM m hO).N) (Y : Vec F S1x512x2 .f32) : Prop := (rdat m hO R6 R7 c).Finds 7 t Y

/-- The body keeps the two predicates. -/
def Keeps (hO : Ok m) (R6 : Dev nD → Fin (cfgM m hO).N → Vec F S512x256 .fp8e4m3 → Prop) (R7 : Dev nD → Fin (cfgM m hO).N → Vec F S1x512x2 .f32 → Prop) : Prop :=
  ∀ (c : Dev nD) (t : Fin (cfgM m hO).N) (Y6 : Vec F S512x256 .fp8e4m3) (Y7 : Vec F S1x512x2 .f32),
    Finds6 m hO R6 R7 c t Y6 → Finds7 m hO R6 R7 c t Y7 → R6 c t (out6 m hO c t Y6 Y7) ∧ R7 c t (out7 m hO c t Y6 Y7)

variable (hO : Ok m) (R6 : Dev nD → Fin (cfgM m hO).N → Vec F S512x256 .fp8e4m3 → Prop) (R7 : Dev nD → Fin (cfgM m hO).N → Vec F S1x512x2 .f32 → Prop)

/-- What the body is called with at point `t`, the windows one by one, -/
def bodyPre (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ Y, ⌜Finds6 m hO R6 R7 c t Y⌝ ∗ owns (c : Thread nD τ) (ms0_6 m hO t) fullShare Y)
    ∗ (∃ Y, ⌜Finds7 m hO R6 R7 c t Y⌝ ∗ owns (c : Thread nD τ) (ms0_7 m hO t) fullShare Y))

/-- and what it returns. -/
def bodyPost (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ (∃ X, ⌜R6 c t X⌝ ∗ owns (c : Thread nD τ) (ms0_6 m hO t) fullShare X)
    ∗ (∃ X, ⌜R7 c t X⌝ ∗ owns (c : Thread nD τ) (ms0_7 m hO t) fullShare X))

set_option maxHeartbeats 800000 in
/-- The body at any point: the run of the body, between what the pipeline hands it and what it takes back. -/
theorem sound_body (hK : Keeps m hO R6 R7) (c : Dev nD) (t : Fin (cfgM m hO).N) :
    bodyPre m hO R6 R7 c t ⊢ wp frame (wpE (defs₀ (F := F)) Variants.none c none) Set.univ (bodyAt0 (adm m hO) t) (fun _ => bodyPost m hO R6 R7 c t) := by
  unfold bodyPre bodyPost bodyAt0
  simp only [before0_0, before0_1, before0_2, before0_3, before0_4, before0_5]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5]
  rw [show (dats m hO 0 c).Φ t.castSucc = iprop(Pipeline.ΦA spec0 c ∗ Pipeline.ΦT pre0 (tbl m) c) from rfl, PhiT0_eq, PhiA0_eq]
  iintro ⟨⟨⟨HS0, Hg⟩, ⟨HT0, HT1, HT2, HT3⟩⟩, Ho, ⟨%d0, H0⟩, ⟨%d1, H1⟩, ⟨%d2, H2⟩, ⟨%d3, H3⟩, ⟨%d4, H4⟩, ⟨%d5, H5⟩, ⟨%Y6, %hY6, H6⟩, ⟨%Y7, %hY7, H7⟩⟩
  iapply ((run c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) scM0_0 (Memref.isWhole_whole _) (iblk m hO c 0 t) (iblk m hO c 1 t) (iblk m hO c 2 t) (iblk m hO c 3 t) (iblk m hO c 4 t) (iblk m hO c 5 t) Y6 Y7 (tbl m 0) (tbl m 1) (tbl m 2) (tbl m 3)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HT0]; · iexact HT0
  isplitl [HT1]; · iexact HT1
  isplitl [HT2]; · iexact HT2
  isplitl [HT3]; · iexact HT3
  iintro ⟨H0, H1, H2, H3, H4, H5, H6, H7, HS0, HT0, HT1, HT2, HT3⟩
  isplitl [HS0 Hg HT0 HT1 HT2 HT3]
  · isplitl [HS0 Hg]
    · isplitl [HS0]
      · iexact HS0
      iexact Hg
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact (hK c t Y6 Y7 hY6 hY7).1
  iexists _; isplitr; swap; · iexact H7
  ipureintro; exact (hK c t Y6 Y7 hY6 hY7).2

set_option maxHeartbeats 1000000 in
/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point. -/
theorem body_obligation (hK : Keeps m hO R6 R7) (c : Dev nD) :
    Pipeline.BodyObligationRel (dats (F := F) m hO 0 c) (defs₀ (F := F)) Variants.none () Set.univ marked (rel m hO (R6 c) (R7 c)) := fun t => by
  rw [bigSep_W0, bigSep_W0, defs₀_row m hO]
  exact triple_restated (sound_body m hO R6 R7 hK c t) rfl .rfl fun _ => .rfl

-- the launch theorem's implicit arguments are found by unifying its conclusion with this one, which takes unfolding plain
-- definitions in a metavariable's type
set_option maxHeartbeats 2000000 in
set_option backward.isDefEq.respectTransparency.types false in
/-- The launch: every weakly fair execution of @main terminates; every final state has the arrays as the relational data say and every
    semaphore counter at zero. -/
theorem run_main (hK : Keeps m hO R6 R7) : θ_run defs (onTc (τ := τ) (main (F := F))) (s₀ m ρ) (fun r =>
    (Pipeline.RDat.FramePost ((Pipeline.pin pcfgs fun _ => adm m hO) 0) (rdat m hO R6 R7) (V m)) r ∧ r.2.sem = fun _ => 0) :=
  Pipeline.RDat.θ_run_frameP_track_shared (Q' := _) pcfgs (fun _ => adm m hO) (0 : Fin 1) launch₀0 defs₀ Variants.none (rdat m hO R6 R7) m ρ main
    (hbody := fun c => (body_obligation m hO R6 R7 hK c).toRRel) (hq := fun _ _ _ => rfl)
    (howed := fun _ _ => rfl) (V := V m) (hmain := hmain m Variants.none) (hA := A_eq m hO) (hpf := V_pre m)
    (hin := fun _ => .rfl) (hout := fun c => by
      show iprop(Pipeline.ΦA spec0 c ∗ Pipeline.ΦT pre0 (tbl m) c) ⊢ Pipeline.ΦA spec0 c
      iintro ⟨H, -⟩; iexact H)

end Cert.KernelIdeal.Hand

end
-- ==== Proof.KernelIdeal.Frame.lean ====
/- The frame claim of the kernel: the run whose output blocks are held to the predicate that holds of everything. -/
module

public import proofs.«01_k».proof.Proof.KernelIdeal.Run
public import Idealize.ShloMosaic.Lib.Claim
public import Idealize.ShloMosaic.Lib.Pipeline.DatRel

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal.Gen
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every execution leaves the argument arrays unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ hO (rdat m hO (fun _ _ _ => True) fun _ _ _ => True) (A_eq m hO)
    ((θ_run defs _ _).mono (fun _ h => h.1) (run_main m ρ hO (fun _ _ _ => True) (fun _ _ _ => True) fun _ _ _ _ _ _ => ⟨trivial, trivial⟩))

/-- The frame claim, where the tables meet the side condition `Ok` of the pipeline: the arguments end unchanged and every semaphore is zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ hO) ((θ_run defs _ _).mono (fun _ h => h.2)
    (run_main m ρ hO (fun _ _ _ => True) (fun _ _ _ => True) fun _ _ _ _ _ _ => ⟨trivial, trivial⟩))

end Cert.KernelIdeal.Hand

end
-- ==== Proof.KernelIdeal.Host.lean ====
/- The four tables of row ranges as the host operations compute them from the group sizes: each table of the launch is the composed term
   of those operations, stated here stage by stage. -/
module

public import proofs.«01_k».proof.Proof.KernelIdeal.Launch
public import Idealize.ShloMosaic.Lib.StableHlo.ReadAt
public import Idealize.ShloMosaic.Lib.Routing.Words
public import Idealize.ShloMosaic.Lib.Routing.OpsSet

@[expose] public section

set_option maxRecDepth 16384

noncomputable section

namespace Cert.KernelIdeal.Hand

open Idealize.ShloMosaic Idealize.ShloMosaic.TcCoe
open Cert.KernelIdeal.Gen
open Idealize.ShloMosaic.Routing (pyDiv)

variable {F : FTy → Type} [FloatOps F]

/-- A word on every expert, -/
abbrev bc4 (w : BitVec 32) : IVec S4 32 := broadcastInDim S4 ![] bcast_S_S4 (constantI S_ 32 w)
/-- and on every visit. -/
abbrev bc51 (w : BitVec 32) : IVec S51 32 := broadcastInDim S51 ![] bcast_S_S51 (constantI S_ 32 w)

/-- The running sum over the experts. -/
def csum (g : IVec S4 32) : IVec S4 32 :=
  Host.reduceWindow IntOp.addi ![4] ![1] ![3] ![0] g (broadcastInDim S_ ![] bcast_S_S_ (constantI S_ 32 0#32)) reduceWindows_S4_S4_w4s1p3_0 h_S_
/-- Each expert's first row, -/
def starts (g : IVec S4 32) : IVec S4 32 := subi (csum g) g
/-- the block that holds it, -/
def first (g : IVec S4 32) : IVec S4 32 := pyDiv bcast_S_S4 (starts g) (constantI S_ 32 512#32)
/-- the block that holds its last row, -/
def lastBlock (g : IVec S4 32) : IVec S4 32 := pyDiv bcast_S_S4 (subi (csum g) (bc4 1#32)) (constantI S_ 32 512#32)
/-- and its number of blocks. -/
def cnt (g : IVec S4 32) : IVec S4 32 :=
  select (cmpi .sgt g (bc4 0#32)) (addi (subi (lastBlock g) (first g)) (bc4 1#32)) (bc4 0#32)
/-- The number of visits up to each expert, -/
def cum (g : IVec S4 32) : IVec S4 32 := csum (cnt g)
/-- and the last visit. -/
def last (g : IVec S4 32) : IVec S_ 32 := subi (shapeCast S_ (extractStridedSlice S1 ![3] (cum g) slices_S4_S1_3) shapeCasts_S1_S_) (constantI S_ 32 1#32)
/-- Each visit, those past the last read as the last. -/
def vv (g : IVec S4 32) : IVec S51 32 := minsi (iotaInDim S51 32 0) (broadcastInDim S51 ![] bcast_S_S51 (last g))
/-- Each visit's expert: the number of experts whose visits end at or before it. -/
def ve (g : IVec S4 32) : IVec S51 32 :=
  Host.reduce IntOp.addi
    (extui 32 (cmpi .sge (broadcastInDim S51x4 ![0, 1] bcast_S51x1_S51x4_0_1 (broadcastInDim S51x1 ![0] bcast_S51_S51x1_0 (vv g)))
      (broadcastInDim S51x4 ![0, 1] bcast_S1x4_S51x4_0_1 (broadcastInDim S1x4 ![1] bcast_S4_S1x4_1 (cum g)))) natLt_1_32)
    (constantI S_ 32 0#32) reducesTo_S51x4_S51_d1 h_S_
/-- The entries of a table over the experts at each visit's expert. -/
def take (x : IVec S4 32) (e : IVec S51 32) : IVec S51 32 :=
  Host.gather gather_S4_S51x1_S51_n_0_n_n_0_1_1 x
    (broadcastInDim S51x1 ![0] bcast_S51_S51x1_0 (select (cmpi .slt e (bc51 0#32)) (addi e (bc51 4#32)) e))
/-- Each visit's block. -/
def vt (g : IVec S4 32) : IVec S51 32 := subi (addi (take (first g) (ve g)) (vv g)) (take (subi (cum g) (cnt g)) (ve g))
/-- Whether a visit is not past the last. -/
def valid (g : IVec S4 32) : IVec S51 1 := cmpi .sle (iotaInDim S51 32 0) (broadcastInDim S51 ![] bcast_S_S51 (last g))
/-- Each visit's first row, -/
def st (g : IVec S4 32) : IVec S51 32 := select (valid g) (take (starts g) (ve g)) (bc51 0#32)
/-- and the row past its last. -/
def en (g : IVec S4 32) : IVec S51 32 := select (valid g) (take (csum g) (ve g)) (bc51 0#32)

variable (m : (ℓ : Loc nD τ sig) → Buf (Elt F) ℓ)

/-- The group sizes as the launch memory holds them. -/
abbrev sizes : IVec S4 32 := m (((0 : Dev nD) : Thread nD τ).loc main_arg4)

set_option maxHeartbeats 4000000 in
/-- The table of experts is `ve` of the group sizes. -/
theorem V_ve : V m (0 : Dev nD) main_v25 = ve (sizes m) := by
  unfold V
  after_reads_simp
  all_goals try simp -implicitDefEqProofs only [StableHlo.TRef.toBuf, StableHlo.TRef.ofBuf, cast_cast, cast_eq]
  rfl

set_option maxHeartbeats 4000000 in
/-- The table of blocks is `vt` of the group sizes. -/
theorem V_vt : V m (0 : Dev nD) main_v42 = vt (sizes m) := by
  unfold V
  after_reads_simp
  all_goals try simp -implicitDefEqProofs only [StableHlo.TRef.toBuf, StableHlo.TRef.ofBuf, cast_cast, cast_eq]
  rfl

set_option maxHeartbeats 4000000 in
/-- The table of first rows is `st` of the group sizes. -/
theorem V_st : V m (0 : Dev nD) main_v52 = st (sizes m) := by
  unfold V
  after_reads_simp
  all_goals try simp -implicitDefEqProofs only [StableHlo.TRef.toBuf, StableHlo.TRef.ofBuf, cast_cast, cast_eq]
  rfl

set_option maxHeartbeats 4000000 in
/-- The table of rows past the last is `en` of the group sizes. -/
theorem V_en : V m (0 : Dev nD) main_v60 = en (sizes m) := by
  unfold V
  after_reads_simp
  all_goals try simp -implicitDefEqProofs only [StableHlo.TRef.toBuf, StableHlo.TRef.ofBuf, cast_cast, cast_eq]
  rfl

/-- The bias of each expert with a unit axis between. -/
theorem V_v61 : V m (0 : Dev nD) main_v61 = shapeCast S4x1x7168 (m (((0 : Dev nD) : Thread nD τ).loc main_arg3)) shapeCasts_S4x7168_S4x1x7168 := by
  unfold V
  after_reads_simp
  all_goals try simp -implicitDefEqProofs only [StableHlo.TRef.toBuf, StableHlo.TRef.ofBuf, cast_cast, cast_eq]
  rfl

/-- The bias of each expert with a unit axis between. -/
theorem V_v62 : V m (0 : Dev nD) main_v62 = shapeCast S4x1x7168 (m (((0 : Dev nD) : Thread nD τ).loc main_arg3)) shapeCasts_S4x7168_S4x1x7168 := by
  unfold V
  after_reads_simp
  all_goals try simp -implicitDefEqProofs only [StableHlo.TRef.toBuf, StableHlo.TRef.ofBuf, cast_cast, cast_eq]
  rfl

end Cert.KernelIdeal.Hand

end
-- ==== Proof.KernelIdeal.Tables.lean ====
/- The tables of the launch hold the plan of visits (`Plan`), where the group sizes are naturals that add up to the number of rows. -/
module

public import proofs.«01_k».proof.Proof.KernelIdeal.Host
public import proofs.«01_k».proof.Proof.Plan
public import Idealize.ShloMosaic.Lib.Tactic.WordOmega

@[expose] public section

set_option maxRecDepth 16384

noncomputable section

namespace Cert.KernelIdeal.Hand

open Idealize.ShloMosaic hiding ix1 ix2
open Idealize.ShloMosaic.TcCoe
open Idealize.ShloMosaic.ValueIdx (ix1 ix2)
open Cert.KernelIdeal.Gen
open Idealize.ShloMosaic.Routing

theorem const_at (s : Shape) (b : BitVec 32) (i : s.Idx) : constantI s 32 b i = b := rfl
theorem sel_pos {α : Type} {c : BitVec 1} (h : c = 1#1) (a b : α) : Scalar.select c a b = a := if_pos h
theorem sel_neg {α : Type} {c : BitVec 1} (h : ¬c = 1#1) (a b : α) : Scalar.select c a b = b := if_neg h
theorem ofNat_sub {a b : ℕ} (h : b ≤ a) (ha : a < 2 ^ 32) : BitVec.ofNat 32 a - BitVec.ofNat 32 b = BitVec.ofNat 32 (a - b) := by
  apply BitVec.eq_of_toNat_eq
  simp only [BitVec.toNat_sub, BitVec.toNat_ofNat]
  omega
theorem ofNat_add (a b : ℕ) : BitVec.ofNat 32 a + BitVec.ofNat 32 b = BitVec.ofNat 32 (a + b) := (BitVec.ofNat_add ..).symm
theorem toInt_of {a : ℕ} (ha : a < 2 ^ 31) : (BitVec.ofNat 32 a).toInt = (a : ℤ) := StableHlo.Predicate.toInt_ofNat_small _ ha
theorem sge_ofNat {a b : ℕ} (ha : a < 2 ^ 31) (hb : b < 2 ^ 31) : IntOp.cmpi .sge (BitVec.ofNat 32 a) (BitVec.ofNat 32 b) = 1#1 ↔ b ≤ a := by
  have h := toInt_of ha; have h' := toInt_of hb
  unfold IntOp.cmpi; simp only [WordCmp.ofBool_eq_one_iff, BitVec.sle, decide_eq_true_eq]; omega
theorem sgt_ofNat {a b : ℕ} (ha : a < 2 ^ 31) (hb : b < 2 ^ 31) : IntOp.cmpi .sgt (BitVec.ofNat 32 a) (BitVec.ofNat 32 b) = 1#1 ↔ b < a := by
  have h := toInt_of ha; have h' := toInt_of hb
  unfold IntOp.cmpi; simp only [WordCmp.ofBool_eq_one_iff, BitVec.slt, decide_eq_true_eq]; omega
theorem sle_ofNat {a b : ℕ} (ha : a < 2 ^ 31) (hb : b < 2 ^ 31) : IntOp.cmpi .sle (BitVec.ofNat 32 a) (BitVec.ofNat 32 b) = 1#1 ↔ a ≤ b := by
  have h := toInt_of ha; have h' := toInt_of hb
  unfold IntOp.cmpi; simp only [WordCmp.ofBool_eq_one_iff, BitVec.sle, decide_eq_true_eq]; omega
theorem slt_ofNat {a b : ℕ} (ha : a < 2 ^ 31) (hb : b < 2 ^ 31) : IntOp.cmpi .slt (BitVec.ofNat 32 a) (BitVec.ofNat 32 b) = 1#1 ↔ a < b := by
  have h := toInt_of ha; have h' := toInt_of hb
  unfold IntOp.cmpi; simp only [WordCmp.ofBool_eq_one_iff, BitVec.slt, decide_eq_true_eq]; omega
theorem minsi_ofNat {a b : ℕ} (ha : a < 2 ^ 31) (hb : b < 2 ^ 31) : IntOp.minsi (BitVec.ofNat 32 a) (BitVec.ofNat 32 b) = BitVec.ofNat 32 (min a b) := by
  have h := toInt_of ha; have h' := toInt_of hb
  unfold IntOp.minsi; simp only [BitVec.slt, decide_eq_true_eq]
  split
  · rw [Nat.min_eq_left (by omega)]
  · rw [Nat.min_eq_right (by omega)]

/-- The running sum of words that hold naturals. -/
theorem csum_ap (g : IVec S4 32) (f : ℕ → ℕ) (hg : ∀ e : Fin 4, g (ix1 e) = BitVec.ofNat 32 (f e.val)) (e : Fin 4) :
    csum g (ix1 e) = BitVec.ofNat 32 ((List.range (e.val + 1)).map f).sum :=
  cumsum1 (N := 4) (Nm1 := 3) rfl g f hg _ (bc0 _ _ _) reduceWindows_S4_S4_w4s1p3_0 h_S_ e

variable (g : IVec S4 32) (f : ℕ → ℕ) (hg : ∀ e : Fin 4, g (ix1 e) = BitVec.ofNat 32 (f e.val)) (hf : f 0 + f 1 + f 2 + f 3 = 24576)
include hg hf

omit hg in
theorem f_le (e : Fin 4) : f e.val ≤ Plan.E f e.val ∧ Plan.E f e.val ≤ 24576 :=
  ⟨by have := Plan.E_eq f e.val; omega, Plan.E_le f hf e.val e.isLt⟩

theorem starts_ap (e : Fin 4) : starts g (ix1 e) = BitVec.ofNat 32 (Plan.S f e.val) := by
  have h := f_le f hf e
  unfold starts
  rw [subi_ap, csum_ap g f hg, hg]
  exact ofNat_sub h.1 (by change Plan.E f e.val < _; omega)

theorem first_ap (e : Fin 4) : first g (ix1 e) = BitVec.ofNat 32 (Plan.S f e.val / 512) := by
  have h := f_le f hf e
  have := Plan.E_eq f e.val
  exact pyDiv_ap bcast_S_S4 _ _ _ (starts_ap g f hg hf e) rfl (by omega) (by omega) (by omega)

theorem cnt_ap (e : Fin 4) : cnt g (ix1 e) = BitVec.ofNat 32 (Plan.C f e.val) := by
  have h := f_le f hf e
  have hE := Plan.E_eq f e.val
  show Scalar.select (IntOp.cmpi .sgt (g (ix1 e)) (bc4 0#32 (ix1 e))) (lastBlock g (ix1 e) - first g (ix1 e) + bc4 1#32 (ix1 e)) (bc4 0#32 (ix1 e)) = _
  rw [bc4, bc4, bc0, bc0, hg, const_at, const_at]
  have hc := sgt_ofNat (a := f e.val) (b := 0) (by omega) (by omega)
  unfold Plan.C
  by_cases hp : 0 < f e.val
  · have hd : lastBlock g (ix1 e) = BitVec.ofNat 32 ((Plan.E f e.val - 1) / 512) := by
      refine pyDiv_ap bcast_S_S4 _ _ _ (a := Plan.E f e.val - 1) ?_ rfl (by omega) (by omega) (by omega)
      rw [subi_ap, csum_ap g f hg, bc4, bc0]
      exact ofNat_sub (b := 1) (by change 1 ≤ Plan.E f e.val; omega) (by change Plan.E f e.val < _; omega)
    rw [sel_pos (hc.2 hp), if_pos hp, hd, first_ap g f hg hf, ofNat_sub (Nat.div_le_div_right (by omega)) (by omega)]
    exact ofNat_add _ 1
  · rw [sel_neg (fun h => hp (hc.1 h)), if_neg hp]

theorem cum_ap (e : Fin 4) : cum g (ix1 e) = BitVec.ofNat 32 (Plan.K f e.val) :=
  csum_ap (cnt g) (Plan.C f) (cnt_ap g f hg hf) e

omit hg in
theorem K_le51 (e : ℕ) (he : e < 4) : Plan.K f e ≤ 51 := (Plan.K_mono f (by omega : e ≤ 3)).trans (Plan.K_three_le f hf)

theorem last_ap : last g ValueIdx.ix0 = BitVec.ofNat 32 (Plan.last f) := by
  have h := Plan.K_three_pos f hf
  have h51 := Plan.K_three_le f hf
  unfold last
  rw [subi_ap, const_at]
  have e : shapeCast S_ (extractStridedSlice S1 ![3] (cum g) slices_S4_S1_3) shapeCasts_S1_S_ ValueIdx.ix0 = cum g (ix1 (3 : Fin 4)) := by
    pointwise
    rfl
  rw [e, cum_ap g f hg hf]
  exact ofNat_sub (b := 1) h (by change Plan.K f 3 < _; omega)

theorem vv_ap (v : Fin 51) : vv g (ix1 v) = BitVec.ofNat 32 (Plan.vv f v.val) := by
  have h := Plan.last_lt f hf
  have h51 := Plan.K_three_le f hf
  show IntOp.minsi (BitVec.ofNat 32 v.val) (broadcastInDim S51 ![] bcast_S_S51 (last g) (ix1 v)) = _
  rw [bc0, last_ap g f hg hf, minsi_ofNat (by omega) (by omega)]
  rfl

theorem ve_ap (v : Fin 51) : ve g (ix1 v) = BitVec.ofNat 32 (Plan.ve f v.val) := by
  refine reduce_count (n := 51) (m := 4) (by omega) _ natLt_1_32 reducesTo_S51x4_S51_d1 h_S_ v (fun q => Plan.K f q ≤ Plan.vv f v.val) fun q => ?_
  have h := Plan.last_lt f hf
  have h51 := Plan.K_three_le f hf
  have hk := K_le51 f hf q.val q.isLt
  have hv : Plan.vv f v.val ≤ 51 := by unfold Plan.vv; omega
  show IntOp.cmpi .sge (broadcastInDim S51x4 ![0, 1] bcast_S51x1_S51x4_0_1 (broadcastInDim S51x1 ![0] bcast_S51_S51x1_0 (vv g)) (ix2 v q))
    (broadcastInDim S51x4 ![0, 1] bcast_S1x4_S51x4_0_1 (broadcastInDim S1x4 ![1] bcast_S4_S1x4_1 (cum g)) (ix2 v q)) = 1#1 ↔ _
  rw [bcRows, bcCols, vv_ap g f hg hf, cum_ap g f hg hf]
  exact sge_ofNat (by omega) (by omega)

/-- A table over the experts, taken at each visit's expert. -/
theorem take_ap (x : IVec S4 32) (v : Fin 51) : take x (ve g) (ix1 v) = x (ix1 ⟨Plan.ve f v.val, Plan.ve_lt f hf v.val⟩) := by
  have h := Plan.ve_lt f hf v.val
  refine gather_take1 (N := 4) (n := 51) gather_S4_S51x1_S51_n_0_n_n_0_1_1 rfl rfl rfl rfl x _ v ⟨Plan.ve f v.val, h⟩ ?_ (by omega)
  rw [bcCol]
  show Scalar.select (IntOp.cmpi .slt (ve g (ix1 v)) (bc51 0#32 (ix1 v))) (ve g (ix1 v) + bc51 4#32 (ix1 v)) (ve g (ix1 v)) = _
  rw [bc51, bc51, bc0, ve_ap g f hg hf, const_at, sel_neg]
  intro hh
  have := (slt_ofNat (a := Plan.ve f v.val) (b := 0) (by omega) (by omega)).1 hh
  omega

theorem vt_ap (v : Fin 51) : vt g (ix1 v) = BitVec.ofNat 32 (Plan.vt f v.val) := by
  have h := Plan.vt_spec f hf v.val
  have h' := Plan.ve_spec f hf v.val
  have hl := Plan.vv_lt f hf v.val
  have h51 := Plan.K_three_le f hf
  have hE := Plan.E_le f hf _ h'.1
  unfold vt
  rw [subi_ap, addi_ap, take_ap g f hg hf, take_ap g f hg hf, subi_ap, first_ap g f hg hf, vv_ap g f hg hf, cum_ap g f hg hf, cnt_ap g f hg hf,
    ofNat_sub (Plan.C_le_K f _) (by have := K_le51 f hf _ h'.1; show Plan.K f (Plan.ve f v.val) < _; omega), ofNat_add,
    ofNat_sub (by simp only; omega) (by have := Plan.E_eq f (Plan.ve f v.val); simp only; omega)]
  rfl

theorem valid_ap (v : Fin 51) : valid g (ix1 v) = 1#1 ↔ v.val ≤ Plan.last f := by
  have h := Plan.last_lt f hf
  have h51 := Plan.K_three_le f hf
  show IntOp.cmpi .sle (BitVec.ofNat 32 v.val) (broadcastInDim S51 ![] bcast_S_S51 (last g) (ix1 v)) = 1#1 ↔ _
  rw [bc0, last_ap g f hg hf]
  exact sle_ofNat (by omega) (by omega)

theorem st_ap (v : Fin 51) : st g (ix1 v) = BitVec.ofNat 32 (Plan.st f v.val) := by
  show Scalar.select (valid g (ix1 v)) (take (starts g) (ve g) (ix1 v)) (bc51 0#32 (ix1 v)) = _
  rw [bc51, bc0, take_ap g f hg hf, starts_ap g f hg hf, const_at]
  unfold Plan.st
  by_cases hv : v.val ≤ Plan.last f
  · rw [sel_pos ((valid_ap g f hg hf v).2 hv), if_pos hv]
  · rw [sel_neg (fun h => hv ((valid_ap g f hg hf v).1 h)), if_neg hv]

theorem en_ap (v : Fin 51) : en g (ix1 v) = BitVec.ofNat 32 (Plan.en f v.val) := by
  show Scalar.select (valid g (ix1 v)) (take (csum g) (ve g) (ix1 v)) (bc51 0#32 (ix1 v)) = _
  rw [bc51, bc0, take_ap g f hg hf, csum_ap g f hg, const_at]
  unfold Plan.en
  by_cases hv : v.val ≤ Plan.last f
  · rw [sel_pos ((valid_ap g f hg hf v).2 hv), if_pos hv]; rfl
  · rw [sel_neg (fun h => hv ((valid_ap g f hg hf v).1 h)), if_neg hv]

end Cert.KernelIdeal.Hand

end
-- ==== Proof.KernelIdeal.Admit.lean ====
/- The precondition read: the group sizes are naturals that add up to the number of rows; and with such sizes every block of the launch
   lies inside its array. -/
module

public import proofs.«01_k».proof.Proof.KernelIdeal.Tables
public import proofs.«01_k».proof.Proof.Gen.Pre_sizes_fill_the_rows
public import Idealize.ShloMosaic.Lib.StableHlo.Predicate

@[expose] public section

set_option maxRecDepth 16384

noncomputable section

namespace Cert.KernelIdeal.Hand

open Idealize.ShloMosaic hiding ix1 ix2
open Idealize.ShloMosaic.TcCoe
open Idealize.ShloMosaic.ValueIdx (ix1 ix2)
open Cert.KernelIdeal.Gen

variable {F : FTy → Type} [FloatOps F] (m : (ℓ : Loc nD τ sig) → Buf (Elt F) ℓ)

/-- The group sizes as naturals. -/
def nat (e : ℕ) : ℕ := if h : e < 4 then (sizes m (ix1 ⟨e, h⟩)).toNat else 0

/-- The group sizes are naturals that add up to the number of rows. -/
structure Fills : Prop where
  sizes : ∀ e : Fin 4, sizes m (ix1 e) = BitVec.ofNat 32 (nat m e.val)
  total : nat m 0 + nat m 1 + nat m 2 + nat m 3 = 24576

theorem toNat_of {a : ℕ} (h : a < 2 ^ 32) : (BitVec.ofNat 32 a).toNat = a := by rw [BitVec.toNat_ofNat, Nat.mod_eq_of_lt h]

/-- The cell of a table that a visit reads is the visit's own. -/
theorem cell (i : grid0.Coords) :
    (Rect.unit (s := S51) ![(Scalar.indexCast (BitVec.ofNat 32 (i 1).val) : Index).toNat] S1.size (k0_off1_inb i)).emb
      (Shape.Idx.first (numel1_S1.symm ▸ Nat.one_pos)) = ix1 (i 1) := by
  funext a
  have ha : a = 0 := Subsingleton.elim _ _
  subst ha
  apply Fin.ext
  have h0 : (Shape.Idx.first (s := S1) (numel1_S1.symm ▸ Nat.one_pos) 0).val < 1 := (Shape.Idx.first (s := S1) (numel1_S1.symm ▸ Nat.one_pos) 0).isLt
  have hi : (i 1).val < 51 := (i 1).isLt
  show (Scalar.indexCast (BitVec.ofNat 32 (i 1).val) : Index).toNat + 1 * (Shape.Idx.first (s := S1) (numel1_S1.symm ▸ Nat.one_pos) 0).val = (i 1).val
  have : (Scalar.indexCast (BitVec.ofNat 32 (i 1).val) : Index).toNat = (i 1).val := by
    show (BitVec.ofNat 32 (i 1).val).toNat = _
    rw [BitVec.toNat_ofNat, Nat.mod_eq_of_lt (by omega)]
  omega

theorem vt_word (h : Fills m) (i : grid0.Coords) :
    (tbl m).at 0 (Rect.unit (s := S51) ![(Scalar.indexCast (BitVec.ofNat 32 (i 1).val) : Index).toNat] S1.size (k0_off1_inb i)) numel1_S1
      = BitVec.ofNat 32 (Plan.vt (nat m) (i 1).val) := by
  have e : (tbl m).at 0 (Rect.unit (s := S51) ![(Scalar.indexCast (BitVec.ofNat 32 (i 1).val) : Index).toNat] S1.size (k0_off1_inb i)) numel1_S1
      = V m (0 : Dev nD) main_v42 (ix1 (i 1)) := congrArg (V m (0 : Dev nD) main_v42) (cell i)
  exact (e.trans (congrFun (V_vt m) _)).trans (vt_ap _ _ h.sizes h.total (i 1))

theorem ve_word (h : Fills m) (i : grid0.Coords) :
    (tbl m).at 1 (Rect.unit (s := S51) ![(Scalar.indexCast (BitVec.ofNat 32 (i 1).val) : Index).toNat] S1.size (k0_off1_inb i)) numel1_S1
      = BitVec.ofNat 32 (Plan.ve (nat m) (i 1).val) := by
  have e : (tbl m).at 1 (Rect.unit (s := S51) ![(Scalar.indexCast (BitVec.ofNat 32 (i 1).val) : Index).toNat] S1.size (k0_off1_inb i)) numel1_S1
      = V m (0 : Dev nD) main_v25 (ix1 (i 1)) := congrArg (V m (0 : Dev nD) main_v25) (cell i)
  exact (e.trans (congrFun (V_ve m) _)).trans (ve_ap _ _ h.sizes h.total (i 1))

/-- The blocks of the windows, as naturals. -/
theorem ix_vt0 (h : Fills m) (i : grid0.Coords) : cc0_transform_0 k0_off1_inb numel1_S1 (tbl m) i = ![Plan.vt (nat m) (i 1).val, 0] := by
  have hv := Plan.vt_lt (nat m) h.total (i 1).val
  show ![((tbl m).at 0 (Rect.unit (s := S51) ![(Scalar.indexCast (BitVec.ofNat 32 (i 1).val) : Index).toNat] S1.size (k0_off1_inb i)) numel1_S1).toNat, _] = _
  rw [vt_word m h, BitVec.toNat_ofNat, Nat.mod_eq_of_lt (by omega)]
  rfl
theorem ix_vt1 (h : Fills m) (i : grid0.Coords) : cc0_transform_1 k0_off1_inb numel1_S1 (tbl m) i = ![Plan.vt (nat m) (i 1).val, 0] :=
  ix_vt0 m h i
theorem ix_ve2 (h : Fills m) (i : grid0.Coords) : cc0_transform_2 k0_off1_inb numel1_S1 (tbl m) i = ![Plan.ve (nat m) (i 1).val, 0, (i 0).val] := by
  have hv := Plan.ve_lt (nat m) h.total (i 1).val
  have hi : (i 0).val < 14 := (i 0).isLt
  show ![((tbl m).at 1 (Rect.unit (s := S51) ![(Scalar.indexCast (BitVec.ofNat 32 (i 1).val) : Index).toNat] S1.size (k0_off1_inb i)) numel1_S1).toNat, _,
    (BitVec.ofNat 32 (i 0).val).toNat] = _
  rw [ve_word m h, toNat_of (by omega), toNat_of (a := (i 0).val) (by omega)]
  rfl
theorem ix_ve3 (h : Fills m) (i : grid0.Coords) : cc0_transform_3 k0_off1_inb numel1_S1 (tbl m) i = ![Plan.ve (nat m) (i 1).val, 0, (i 0).val + 14] := by
  have hv := Plan.ve_lt (nat m) h.total (i 1).val
  have hi : (i 0).val < 14 := (i 0).isLt
  show ![((tbl m).at 1 (Rect.unit (s := S51) ![(Scalar.indexCast (BitVec.ofNat 32 (i 1).val) : Index).toNat] S1.size (k0_off1_inb i)) numel1_S1).toNat, _,
    (BitVec.ofNat 32 (i 0).val + 14#32).toNat] = _
  rw [ve_word m h, toNat_of (by omega), ofNat_add, toNat_of (a := (i 0).val + 14) (by omega)]
  rfl
theorem ix_ve4 (h : Fills m) (i : grid0.Coords) : cc0_transform_4 k0_off1_inb numel1_S1 (tbl m) i = ![Plan.ve (nat m) (i 1).val, 0, (i 0).val] :=
  ix_ve2 m h i
theorem ix_ve5 (h : Fills m) (i : grid0.Coords) : cc0_transform_5 k0_off1_inb numel1_S1 (tbl m) i = ![Plan.ve (nat m) (i 1).val, 0, (i 0).val + 14] :=
  ix_ve3 m h i
theorem ix_vt6 (h : Fills m) (i : grid0.Coords) : cc0_transform_6 k0_off1_inb numel1_S1 (tbl m) i = ![Plan.vt (nat m) (i 1).val, (i 0).val] := by
  have hv := Plan.vt_lt (nat m) h.total (i 1).val
  have hi : (i 0).val < 14 := (i 0).isLt
  show ![((tbl m).at 0 (Rect.unit (s := S51) ![(Scalar.indexCast (BitVec.ofNat 32 (i 1).val) : Index).toNat] S1.size (k0_off1_inb i)) numel1_S1).toNat,
    (BitVec.ofNat 32 (i 0).val).toNat] = _
  rw [vt_word m h, toNat_of (by omega), toNat_of (by omega)]
theorem ix_vt7 (h : Fills m) (i : grid0.Coords) : cc0_transform_7 k0_off1_inb numel1_S1 (tbl m) i = ![(i 0).val, Plan.vt (nat m) (i 1).val, 0] := by
  have hv := Plan.vt_lt (nat m) h.total (i 1).val
  have hi : (i 0).val < 14 := (i 0).isLt
  show ![(BitVec.ofNat 32 (i 0).val).toNat,
    ((tbl m).at 0 (Rect.unit (s := S51) ![(Scalar.indexCast (BitVec.ofNat 32 (i 1).val) : Index).toNat] S1.size (k0_off1_inb i)) numel1_S1).toNat, _] = _
  rw [vt_word m h, toNat_of (by omega), toNat_of (by omega)]
  rfl

/-- A block of packed rows whose row count the packing divides is whole words. -/
theorem words_of_dvd {s : Shape} {size ix : Fin s.rank → ℕ} (h : ∀ a, (ix a + 1) * size a ≤ s.size a) {p : ℕ} (h2 : 2 ≤ s.rank)
    (hd : p ∣ size (s.rowAx h2)) : (Rect.block size ix h).WholeWords p :=
  .inl (.inr ⟨h2, rfl, .inl ⟨hd.mul_left _, hd⟩⟩)

/-- Where the group sizes fill the rows, every block of the launch lies inside its array. -/
theorem ok (h : Fills m) : Ok m := by
  have hvt := fun i : grid0.Coords => Plan.vt_lt (nat m) h.total (i 1).val
  have hve := fun i : grid0.Coords => Plan.ve_lt (nat m) h.total (i 1).val
  have hn := fun i : grid0.Coords => show (i 0).val < 14 from (i 0).isLt
  refine ⟨fun i => ?_, fun i => ?_, fun i => ?_, fun i => ?_, fun i => ?_, fun i => ?_, fun i => ?_, fun i => ?_⟩ <;>
    have h1 := hvt i <;> have h2 := hve i <;> have h3 := hn i
  · refine ⟨?_, .inr (words_of_dvd _ (by decide) (by decide))⟩
    rw [ix_vt0 m h]
    intro a
    match a with
    | 0 => show (Plan.vt (nat m) (i 1).val + 1) * 512 ≤ 24576; omega
    | 1 => show (0 + 1) * 7168 ≤ 7168; omega
  · refine ⟨?_, .inl rfl⟩
    rw [ix_vt1 m h]
    intro a
    match a with
    | 0 => show (Plan.vt (nat m) (i 1).val + 1) * 512 ≤ 24576; omega
    | 1 => show (0 + 1) * 56 ≤ 56; omega
  · refine ⟨?_, .inr (words_of_dvd _ (by decide) (by decide))⟩
    rw [ix_ve2 m h]
    intro a
    match a with
    | 0 => show (Plan.ve (nat m) (i 1).val + 1) * 1 ≤ 4; omega
    | 1 => show (0 + 1) * 7168 ≤ 7168; omega
    | 2 => show ((i 0).val + 1) * 256 ≤ 7168; omega
  · refine ⟨?_, .inr (words_of_dvd _ (by decide) (by decide))⟩
    rw [ix_ve3 m h]
    intro a
    match a with
    | 0 => show (Plan.ve (nat m) (i 1).val + 1) * 1 ≤ 4; omega
    | 1 => show (0 + 1) * 7168 ≤ 7168; omega
    | 2 => show ((i 0).val + 14 + 1) * 256 ≤ 7168; omega
  · refine ⟨?_, .inl rfl⟩
    rw [ix_ve4 m h]
    intro a
    match a with
    | 0 => show (Plan.ve (nat m) (i 1).val + 1) * 1 ≤ 4; omega
    | 1 => show (0 + 1) * 1 ≤ 1; omega
    | 2 => show ((i 0).val + 1) * 256 ≤ 7168; omega
  · refine ⟨?_, .inl rfl⟩
    rw [ix_ve5 m h]
    intro a
    match a with
    | 0 => show (Plan.ve (nat m) (i 1).val + 1) * 1 ≤ 4; omega
    | 1 => show (0 + 1) * 1 ≤ 1; omega
    | 2 => show ((i 0).val + 14 + 1) * 256 ≤ 7168; omega
  · refine ⟨?_, .inr (words_of_dvd _ (by decide) (by decide))⟩
    rw [ix_vt6 m h]
    intro a
    match a with
    | 0 => show (Plan.vt (nat m) (i 1).val + 1) * 512 ≤ 24576; omega
    | 1 => show ((i 0).val + 1) * 256 ≤ 3584; omega
  · refine ⟨?_, .inl rfl⟩
    rw [ix_vt7 m h]
    intro a
    match a with
    | 0 => show ((i 0).val + 1) * 1 ≤ 14; omega
    | 1 => show (Plan.vt (nat m) (i 1).val + 1) * 512 ≤ 24576; omega
    | 2 => show (0 + 1) * 2 ≤ 2; omega

theorem and_one (a b : BitVec 1) : a &&& b = 1#1 ↔ a = 1#1 ∧ b = 1#1 := by revert a b; decide

/-- The printed precondition says that the sizes fill the rows. -/
theorem fills (h : ∀ c : Dev nD, Cert.Pre_sizes_fill_the_rows.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1) : Fills m := by
  have key : ∀ e : Fin 4, (IntOp.cmpi .sge (sizes m (ix1 e)) 0#32 &&& IntOp.cmpi .sle (sizes m (ix1 e)) 24576#32) &&&
      IntOp.cmpi .eq (sizes m (ix1 (0 : Fin 4)) + sizes m (ix1 (1 : Fin 4)) + sizes m (ix1 (2 : Fin 4)) + sizes m (ix1 (3 : Fin 4))) 24576#32 = 1#1 := by
    intro e
    have e' := congrFun (h 0) (ix1 e)
    rw [← e']
    have r : ∀ (k : Fin 4) (hs : S4.Slices ![k.val] S1),
        sizes m (ix1 k) = shapeCast S_ (extractStridedSlice S1 ![k.val] (sizes m) hs) shapeCasts_S1_S_ ValueIdx.ix0 := by
      intro k hs
      pointwise
      rfl
    rw [r 0 Cert.Pre_sizes_fill_the_rows.Facts.slices_S4_S1_0, r 1 Cert.Pre_sizes_fill_the_rows.Facts.slices_S4_S1_1, r 2 Cert.Pre_sizes_fill_the_rows.Facts.slices_S4_S1_2, r 3 Cert.Pre_sizes_fill_the_rows.Facts.slices_S4_S1_3]
    rfl
  have b : ∀ e : Fin 4, (sizes m (ix1 e)).toNat ≤ 24576 := fun e => by
    have h0 := ((and_one _ _).1 ((and_one _ _).1 (key e)).1).1
    have h1 := ((and_one _ _).1 ((and_one _ _).1 (key e)).1).2
    unfold IntOp.cmpi at h0 h1
    simp only [WordCmp.ofBool_eq_one_iff, BitVec.sle, decide_eq_true_eq] at h0 h1
    have e0 : (0#32 : BitVec 32).toInt = 0 := by decide
    have e1 : (24576#32 : BitVec 32).toInt = 24576 := by decide
    rw [e0] at h0
    rw [e1] at h1
    rw [BitVec.toInt_eq_toNat_cond] at h0 h1
    have := (sizes m (ix1 e)).isLt
    split at h1 <;> omega
  constructor
  · intro e
    simp [nat]
  · have h0 := b 0; have h1 := b 1; have h2 := b 2; have h3 := b 3
    have hs : sizes m (ix1 (0 : Fin 4)) + sizes m (ix1 (1 : Fin 4)) + sizes m (ix1 (2 : Fin 4)) + sizes m (ix1 (3 : Fin 4)) = 24576#32 :=
      StableHlo.Predicate.cmpi_eq_iff.1 ((and_one _ _).1 (key 0)).2
    have := congrArg BitVec.toNat hs
    simp only [BitVec.toNat_add, BitVec.toNat_ofNat] at this
    simp only [nat, show (0:ℕ) < 4 by omega, show (1:ℕ) < 4 by omega, show (2:ℕ) < 4 by omega, show (3:ℕ) < 4 by omega, dite_true]
    change (sizes m (ix1 (0 : Fin 4))).toNat + (sizes m (ix1 (1 : Fin 4))).toNat + (sizes m (ix1 (2 : Fin 4))).toNat + (sizes m (ix1 (3 : Fin 4))).toNat = 24576
    omega

end Cert.KernelIdeal.Hand

end
-- ==== Proof.Quant.lean ====
/- The quantiser on one group of values: the exponent that a bisection over the powers of two finds is the one that a count over them
   finds, and the scales that the two make of it are equal. -/
module

public import Idealize.ShloMosaic.PureOps.Ideal
public import Idealize.ShloMosaic.Lib.WordCmp
public import Idealize.ShloMosaic.Lib.IdealHost
public import Mathlib.Order.Nat
public import Mathlib.Data.Nat.Count
public import Mathlib.Data.EReal.Operations

@[expose] public section

set_option maxRecDepth 16384

noncomputable section

namespace Cert.Quant

open Idealize.ShloMosaic

/-- The float whose exponent field is `k` and whose other bits are zero. -/
def field (k : ℕ) : EReal := Ideal.ofBits .f32 (BitVec.ofNat 32 k <<< 23)

theorem field_exp : ∀ k < 256, ((BitVec.ofNat 32 k <<< 23).extractLsb' 23 8).toNat = k := by decide +kernel
theorem field_neg : ∀ k < 256, ((BitVec.ofNat 32 k <<< 23).extractLsb' 31 1 == 1#1) = false := by decide +kernel
theorem field_frac : ∀ k < 256, ((BitVec.ofNat 32 k <<< 23).extractLsb' 0 23).toNat = 0 := by decide +kernel

/-- At a field of a normal number it is a power of two. -/
theorem field_eq {k : ℕ} (h0 : 0 < k) (h : k < 255) : field k = (((2 : ℝ) ^ ((k : ℤ) - 127) : ℝ) : EReal) := by
  have h1 := field_exp k (by omega); have h2 := field_neg k (by omega); have h3 := field_frac k (by omega)
  unfold field Ideal.ofBits Ideal.ieee
  generalize (BitVec.ofNat 32 k <<< 23) = b at h1 h2 h3 ⊢
  simp only [show 8 + 23 = 31 from rfl, h1, h2, h3]
  rw [if_neg (by norm_num; omega), if_neg (by omega)]
  congr 1
  have : (2 : ℝ) ^ ((k : ℤ) - 127) = 2 ^ (23 : ℤ) * 2 ^ ((k : ℤ) - (2 ^ (8 - 1) - 1) - 23) := by
    rw [← zpow_add₀ (by norm_num)]; congr 1; norm_num
  rw [this]
  norm_num

/-- The infinite float's field. -/
theorem field_top : field 255 = ⊤ := by
  have h1 := field_exp 255 (by omega); have h2 := field_neg 255 (by omega); have h3 := field_frac 255 (by omega)
  unfold field Ideal.ofBits Ideal.ieee
  generalize (BitVec.ofNat 32 255 <<< 23) = b at h1 h2 h3 ⊢
  simp only [show 8 + 23 = 31 from rfl, h1, h2, h3]
  norm_num

theorem field_mono {j k : ℕ} (h0 : 0 < j) (h : j ≤ k) (hk : k < 255) : field j ≤ field k := by
  rw [field_eq h0 (by omega), field_eq (by omega) hk, EReal.coe_le_coe_iff]
  exact zpow_le_zpow_right₀ (by norm_num) (by omega)

/-! ## The count -/

open Classical in
/-- How many of the powers of two from the smallest normal number on are at most `m`. -/
def expo (m : EReal) : ℕ := Nat.count (fun k => field (k + 1) ≤ m) 254

theorem count_iff (P : ℕ → Prop) [DecidablePred P] (hP : ∀ j k, j ≤ k → k < 254 → P k → P j) :
    ∀ n ≤ 254, ∀ k < n, P k ↔ k < Nat.count P n := by
  intro n
  induction n with
  | zero => intro _ k hk; omega
  | succ n ih =>
    intro hn k hk
    rw [Nat.count_succ]
    by_cases hp : P n
    · have hall : Nat.count P n = n := Nat.count_iff_forall.2 fun j hj => hP j n (by omega) (by omega) hp
      rw [if_pos hp, hall]
      exact ⟨fun _ => hk, fun _ => hP k n (by omega) (by omega) hp⟩
    · rw [if_neg hp, Nat.add_zero]
      rcases Nat.lt_or_ge k n with h | h
      · exact ih (by omega) k h
      · obtain rfl : k = n := by omega
        exact ⟨fun h => absurd h hp, fun h => absurd h (Nat.not_lt.2 (Nat.count_le _))⟩

/-- A field's float is at most `m` exactly up to the count. -/
theorem field_le_iff {m : EReal} {k : ℕ} (h0 : 0 < k) (h : k < 255) : field k ≤ m ↔ k ≤ expo m := by
  classical
  have := count_iff (fun k => field (k + 1) ≤ m) (fun i j hij hj h => (field_mono (by omega) (by omega) (by omega)).trans h) 254 le_rfl (k - 1) (by omega)
  simp only [show k - 1 + 1 = k by omega] at this
  have e : Nat.count (fun k => field (k + 1) ≤ m) 254 = expo m := by unfold expo; congr
  rw [e] at this
  rw [this]; omega

theorem expo_le (m : EReal) : expo m ≤ 254 := Nat.count_le _

/-- Below two to the 126th the count is at most 252. -/
theorem expo_le_of_lt {m : EReal} (hm : m < (((2 : ℝ) ^ (126 : ℤ) : ℝ) : EReal)) : expo m ≤ 252 := by
  by_contra hc
  have := (field_le_iff (m := m) (k := 253) (by omega) (by omega)).2 (by omega)
  rw [field_eq (by omega) (by omega)] at this
  norm_num at this hm
  exact absurd hm (not_lt.2 this)

/-! ## The bisection -/

/-- One step of the bisection: the exponent raised by `b` if its float is still at most `m`. -/
def step (m : EReal) (b : BitVec 32) (e : BitVec 32) : BitVec 32 :=
  Scalar.select (FloatOps.cmpf (F := Ideal) (φ := .f32) .oge m (FloatOps.ofBits (F := Ideal) .f32 (IntOp.shli .vector (IntOp.addi e b) 23#32))) (IntOp.addi e b) e

/-- The bisection. -/
def bisect (m : EReal) : BitVec 32 :=
  step m 1#32 (step m 2#32 (step m 4#32 (step m 8#32 (step m 16#32 (step m 32#32 (step m 64#32 (step m 128#32 0#32)))))))

theorem step_eq {m : EReal} (hm : m ≠ ⊤) {a b : ℕ} (hb : 0 < b) (h : a + b < 256) (ha : a ≤ expo m) (ha' : expo m < a + 2 * b) :
    ∃ a', step m (BitVec.ofNat 32 b) (BitVec.ofNat 32 a) = BitVec.ofNat 32 a' ∧ a' ≤ expo m ∧ expo m < a' + b ∧ a' ≤ a + b := by
  have hadd : IntOp.addi (BitVec.ofNat 32 a) (BitVec.ofNat 32 b) = BitVec.ofNat 32 (a + b) := (BitVec.ofNat_add ..).symm
  have hf : FloatOps.ofBits (F := Ideal) .f32 (IntOp.shli .vector (BitVec.ofNat 32 (a + b)) 23#32) = field (a + b) := rfl
  have hiff : FloatOps.cmpf (F := Ideal) (φ := .f32) .oge m (field (a + b)) = 1#1 ↔ a + b ≤ expo m := by
    have e : FloatOps.cmpf (F := Ideal) (φ := .f32) .oge m (field (a + b)) = BitVec.ofBool (decide (m ≥ field (a + b))) := rfl
    rw [e, WordCmp.ofBool_eq_one_iff, decide_eq_true_eq]
    rcases Nat.lt_or_ge (a + b) 255 with h' | h'
    · exact field_le_iff (by omega) h'
    · have h255 : a + b = 255 := by omega
      rw [h255, field_top]
      have := expo_le m
      exact ⟨fun h => absurd (top_le_iff.1 h) hm, fun h => by omega⟩
  unfold step
  rw [hadd, hf]
  by_cases hc : a + b ≤ expo m
  · exact ⟨a + b, if_pos (hiff.2 hc), hc, by omega, le_rfl⟩
  · exact ⟨a, if_neg (fun h => hc (hiff.1 h)), ha, by omega, by omega⟩

/-- The bisection finds the count. -/
theorem bisect_eq {m : EReal} (hm : m ≠ ⊤) : bisect m = BitVec.ofNat 32 (expo m) := by
  have hle := expo_le m
  unfold bisect
  obtain ⟨a1, e1, l1, u1, b1⟩ := step_eq hm (a := 0) (b := 128) (by omega) (by omega) (by omega) (by omega)
  rw [show (0#32 : BitVec 32) = BitVec.ofNat 32 0 from rfl, show (128#32 : BitVec 32) = BitVec.ofNat 32 128 from rfl, e1]
  obtain ⟨a2, e2, l2, u2, b2⟩ := step_eq hm (a := a1) (b := 64) (by omega) (by omega) (by omega) (by omega)
  rw [show (64#32 : BitVec 32) = BitVec.ofNat 32 64 from rfl, e2]
  obtain ⟨a3, e3, l3, u3, b3⟩ := step_eq hm (a := a2) (b := 32) (by omega) (by omega) (by omega) (by omega)
  rw [show (32#32 : BitVec 32) = BitVec.ofNat 32 32 from rfl, e3]
  obtain ⟨a4, e4, l4, u4, b4⟩ := step_eq hm (a := a3) (b := 16) (by omega) (by omega) (by omega) (by omega)
  rw [show (16#32 : BitVec 32) = BitVec.ofNat 32 16 from rfl, e4]
  obtain ⟨a5, e5, l5, u5, b5⟩ := step_eq hm (a := a4) (b := 8) (by omega) (by omega) (by omega) (by omega)
  rw [show (8#32 : BitVec 32) = BitVec.ofNat 32 8 from rfl, e5]
  obtain ⟨a6, e6, l6, u6, b6⟩ := step_eq hm (a := a5) (b := 4) (by omega) (by omega) (by omega) (by omega)
  rw [show (4#32 : BitVec 32) = BitVec.ofNat 32 4 from rfl, e6]
  obtain ⟨a7, e7, l7, u7, b7⟩ := step_eq hm (a := a6) (b := 2) (by omega) (by omega) (by omega) (by omega)
  rw [show (2#32 : BitVec 32) = BitVec.ofNat 32 2 from rfl, e7]
  obtain ⟨a8, e8, l8, u8, b8⟩ := step_eq hm (a := a7) (b := 1) (by omega) (by omega) (by omega) (by omega)
  rw [show (1#32 : BitVec 32) = BitVec.ofNat 32 1 from rfl, e8]
  congr 1
  omega

/-! ## The scales -/

/-- The scale of a group whose largest magnitude, over the largest code, is `m`: the power of two above `m`; -/
def scale (m : EReal) : EReal := if expo m = 0 then 1 else (((2 : ℝ) ^ ((expo m : ℤ) - 126) : ℝ) : EReal)
/-- and its inverse. -/
def inv (m : EReal) : EReal := if expo m = 0 then 1 else (((2 : ℝ) ^ (126 - (expo m : ℤ)) : ℝ) : EReal)

/-- The scale as the bisection's exponent makes it: from its bits. -/
def scaleB (e : BitVec 32) : EReal :=
  FloatOps.ofBits (F := Ideal) .f32 (Scalar.select (IntOp.cmpi .eq e 0#32) 1065353216#32 (IntOp.shli .vector (IntOp.addi e 1#32) 23#32))
def invB (e : BitVec 32) : EReal :=
  FloatOps.ofBits (F := Ideal) .f32 (Scalar.select (IntOp.cmpi .eq e 0#32) 1065353216#32 (IntOp.shli .vector (IntOp.subi 253#32 e) 23#32))

theorem eq_zero_iff {k : ℕ} (h : k < 256) : IntOp.cmpi .eq (BitVec.ofNat 32 k) 0#32 = 1#1 ↔ k = 0 := by
  unfold IntOp.cmpi
  rw [WordCmp.ofBool_eq_one_iff, beq_iff_eq]
  constructor
  · intro h'; have := congrArg BitVec.toNat h'; simp only [BitVec.toNat_ofNat] at this; omega
  · rintro rfl; rfl

theorem scaleB_eq {m : EReal} (hm : m < (((2 : ℝ) ^ (126 : ℤ) : ℝ) : EReal)) : scaleB (bisect m) = scale m := by
  have hle := expo_le_of_lt hm
  rw [bisect_eq (ne_top_of_lt hm)]
  unfold scaleB scale
  by_cases h : expo m = 0
  · rw [if_pos h, Scalar.select, if_pos (show _ = (1 : BitVec 1) from (eq_zero_iff (by omega)).2 h)]
    exact Ideal.ofBits_one_f32
  · rw [if_neg h, Scalar.select, if_neg (show ¬ _ = (1 : BitVec 1) from fun h' => h ((eq_zero_iff (by omega)).1 h'))]
    have e : FloatOps.ofBits (F := Ideal) .f32 (IntOp.shli .vector (IntOp.addi (BitVec.ofNat 32 (expo m)) 1#32) 23#32) = field (expo m + 1) := by
      rw [show IntOp.addi (BitVec.ofNat 32 (expo m)) 1#32 = BitVec.ofNat 32 (expo m + 1) from (BitVec.ofNat_add ..).symm]; rfl
    rw [e, field_eq (by omega) (by omega)]
    congr 2
    push_cast; ring

theorem invB_eq {m : EReal} (hm : m < (((2 : ℝ) ^ (126 : ℤ) : ℝ) : EReal)) : invB (bisect m) = inv m := by
  have hle := expo_le_of_lt hm
  rw [bisect_eq (ne_top_of_lt hm)]
  unfold invB inv
  by_cases h : expo m = 0
  · rw [if_pos h, Scalar.select, if_pos (show _ = (1 : BitVec 1) from (eq_zero_iff (by omega)).2 h)]
    exact Ideal.ofBits_one_f32
  · rw [if_neg h, Scalar.select, if_neg (show ¬ _ = (1 : BitVec 1) from fun h' => h ((eq_zero_iff (by omega)).1 h'))]
    have e : FloatOps.ofBits (F := Ideal) .f32 (IntOp.shli .vector (IntOp.subi 253#32 (BitVec.ofNat 32 (expo m))) 23#32) = field (253 - expo m) := by
      have : IntOp.subi 253#32 (BitVec.ofNat 32 (expo m)) = BitVec.ofNat 32 (253 - expo m) := by
        apply BitVec.eq_of_toNat_eq
        show (253#32 - BitVec.ofNat 32 (expo m)).toNat = _
        simp only [BitVec.toNat_sub, BitVec.toNat_ofNat]
        omega
      rw [this]; rfl
    rw [e, field_eq (by omega) (by omega)]
    congr 2
    push_cast [Nat.cast_sub (by omega : expo m ≤ 253)]; ring

/-- The count as the sum of ones. -/
def total (m : EReal) : EReal :=
  ∑ k : Fin 254, Scalar.select (FloatOps.cmpf (F := Ideal) (φ := .f32) .oge m (Ideal.exp2 (((k.val : ℝ) : EReal) - ((126 : ℝ) : EReal)))) (1 : EReal) 0

theorem exp2_field (k : ℕ) (h : k < 254) : Ideal.exp2 (((k : ℝ) : EReal) - ((126 : ℝ) : EReal)) = field (k + 1) := by
  rw [← EReal.coe_sub, Ideal.exp2_coe, field_eq (by omega) (by omega)]
  congr 1
  show (2 : ℝ) ^ ((k : ℝ) - 126) = _
  rw [show ((k : ℝ) - 126) = (((k : ℤ) - 126 : ℤ) : ℝ) by push_cast; ring, Real.rpow_intCast]
  congr 1
  push_cast; ring

open Classical in
theorem total_eq (m : EReal) : total m = ((expo m : ℝ) : EReal) := by
  unfold total expo
  have : ∀ k : Fin 254, Scalar.select (FloatOps.cmpf (F := Ideal) (φ := .f32) .oge m (Ideal.exp2 (((k.val : ℝ) : EReal) - ((126 : ℝ) : EReal)))) (1 : EReal) 0
      = ((if field (k.val + 1) ≤ m then 1 else 0 : ℝ) : EReal) := by
    intro k
    rw [exp2_field k.val k.isLt]
    have e : FloatOps.cmpf (F := Ideal) (φ := .f32) .oge m (field (k.val + 1)) = BitVec.ofBool (decide (m ≥ field (k.val + 1))) := rfl
    rw [e]
    by_cases h : field (k.val + 1) ≤ m
    · rw [if_pos h, decide_eq_true (show m ≥ field (k.val + 1) from h)]; rfl
    · rw [if_neg h, decide_eq_false (show ¬ m ≥ field (k.val + 1) from h)]; rfl
  rw [Finset.sum_congr rfl fun k _ => this k]
  have hs : ∀ n, (∑ k : Fin n, ((if field (k.val + 1) ≤ m then 1 else 0 : ℝ) : EReal)) = ((Nat.count (fun k => field (k + 1) ≤ m) n : ℝ) : EReal) := by
    intro n
    induction n with
    | zero => simp
    | succ n ih =>
      rw [Fin.sum_univ_castSucc, Nat.count_succ]
      have := ih
      simp only [Fin.val_castSucc, Fin.val_last]
      rw [ih, ← EReal.coe_add]
      congr 1
      push_cast
      rfl
  exact hs 254

/-- The exponent as the count makes it. -/
def eC (n : EReal) : EReal := Scalar.select (FloatOps.cmpf (F := Ideal) (φ := .f32) .oeq n 0) (0 : EReal) (n - ((126 : ℝ) : EReal))

theorem eC_eq (m : EReal) : eC (total m) = if expo m = 0 then 0 else ((((expo m : ℤ) - 126 : ℤ) : ℝ) : EReal) := by
  rw [total_eq]
  unfold eC
  have e : FloatOps.cmpf (F := Ideal) (φ := .f32) .oeq ((expo m : ℝ) : EReal) 0 = BitVec.ofBool (decide (((expo m : ℝ) : EReal) = 0)) := rfl
  rw [e]
  by_cases h : expo m = 0
  · rw [if_pos h, decide_eq_true (by rw [h]; simp)]; rfl
  · rw [if_neg h, decide_eq_false (by rw [EReal.coe_eq_zero]; exact_mod_cast h), ← EReal.coe_sub]
    push_cast; rfl

theorem exp2_eC (m : EReal) : Ideal.exp2 (eC (total m)) = scale m := by
  rw [eC_eq]; unfold scale
  by_cases h : expo m = 0
  · rw [if_pos h, if_pos h, ← EReal.coe_zero, Ideal.exp2_coe]
    show (((2 : ℝ) ^ (0 : ℝ) : ℝ) : EReal) = 1
    rw [Real.rpow_zero]; rfl
  · rw [if_neg h, if_neg h, Ideal.exp2_coe]
    congr 1
    exact Real.rpow_intCast _ _

theorem exp2_neg_eC (m : EReal) : Ideal.exp2 (0 - eC (total m)) = inv m := by
  rw [eC_eq]; unfold inv
  by_cases h : expo m = 0
  · rw [if_pos h, if_pos h, sub_zero, ← EReal.coe_zero, Ideal.exp2_coe]
    show (((2 : ℝ) ^ (0 : ℝ) : ℝ) : EReal) = 1
    rw [Real.rpow_zero]; rfl
  · rw [if_neg h, if_neg h, zero_sub, ← EReal.coe_neg, Ideal.exp2_coe]
    congr 1
    show (2 : ℝ) ^ (-(((expo m : ℤ) - 126 : ℤ) : ℝ)) = _
    rw [show (-(((expo m : ℤ) - 126 : ℤ) : ℝ)) = ((126 - (expo m : ℤ) : ℤ) : ℝ) by push_cast; ring]
    exact Real.rpow_intCast _ _

end Cert.Quant

end
-- ==== Proof.Spec.lean ====
/- What the kernel and the reference compute, element by element, over the extended reals. -/
module

public import proofs.«01_k».proof.Proof.Quant
public import Mathlib.Analysis.SpecialFunctions.Exp
public import Idealize.ShloMosaic.Lib.Pointwise

@[expose] public section

noncomputable section

namespace Cert.Spec

open Idealize.ShloMosaic

/-- The clamped SwiGLU of a gate and an up value. -/
def act (g u : EReal) : EReal :=
  (min (Ideal.ofBits .f32 0x40E00000#32) (max (Ideal.ofBits .f32 0xC0E00000#32) u) + 1) * min g (Ideal.ofBits .f32 0x40E00000#32)
    * Ideal.logistic (Ideal.ofBits .f32 0x3FD9DB23#32 * min g (Ideal.ofBits .f32 0x40E00000#32))

/-- The largest magnitude of a group of 128 values over the largest code. -/
def mag (f : Fin 128 → EReal) : EReal :=
  Finset.univ.fold max (Ideal.ofBits .f32 0xFF800000#32) (fun k => max (f k) (-f k)) * Ideal.ofBits .f32 0x3B124925#32

/-- The code of one value of a group, -/
def code (f : Fin 128 → EReal) (k : Fin 128) : EReal :=
  min (Ideal.ofBits .f32 0x43E00000#32) (max (Ideal.ofBits .f32 0xC3E00000#32) (f k * Quant.inv (mag f)))
/-- and the scale of the group. -/
def scl (f : Fin 128 → EReal) : EReal := Quant.scale (mag f)

/-! ## The bound -/

theorem lim_eq : Ideal.ofBits .f32 0x40E00000#32 = ((7 : ℝ) : EReal) := by
  have h1 : ((0x40E00000#32).extractLsb' 23 8).toNat = 129 := by decide
  have h2 : ((0x40E00000#32).extractLsb' 31 1 == 1#1) = false := by decide
  have h3 : ((0x40E00000#32).extractLsb' 0 23).toNat = 6291456 := by decide
  unfold Ideal.ofBits Ideal.ieee
  simp only [show 8 + 23 = 31 from rfl, h1, h2, h3]
  norm_num

theorem nlim_eq : Ideal.ofBits .f32 0xC0E00000#32 = ((-7 : ℝ) : EReal) := by
  have h1 : ((0xC0E00000#32).extractLsb' 23 8).toNat = 129 := by decide
  have h2 : ((0xC0E00000#32).extractLsb' 31 1 == 1#1) = true := by decide
  have h3 : ((0xC0E00000#32).extractLsb' 0 23).toNat = 6291456 := by decide
  unfold Ideal.ofBits Ideal.ieee
  simp only [show 8 + 23 = 31 from rfl, h1, h2, h3]
  norm_num

theorem alpha_eq : ∃ a : ℝ, 1 ≤ a ∧ Ideal.ofBits .f32 0x3FD9DB23#32 = (a : EReal) := by
  have h1 : ((0x3FD9DB23#32).extractLsb' 23 8).toNat = 127 := by decide
  have h2 : ((0x3FD9DB23#32).extractLsb' 31 1 == 1#1) = false := by decide
  have h3 : ((0x3FD9DB23#32).extractLsb' 0 23).toNat = 5888803 := by decide
  refine ⟨(8388608 + 5888803) * 2 ^ (-23 : ℤ), by norm_num, ?_⟩
  unfold Ideal.ofBits Ideal.ieee
  simp only [show 8 + 23 = 31 from rfl, h1, h2, h3]
  norm_num

theorem inv448_eq : ∃ a : ℝ, 0 ≤ a ∧ a ≤ 1 ∧ Ideal.ofBits .f32 0x3B124925#32 = (a : EReal) := by
  have h1 : ((0x3B124925#32).extractLsb' 23 8).toNat = 118 := by decide
  have h2 : ((0x3B124925#32).extractLsb' 31 1 == 1#1) = false := by decide
  have h3 : ((0x3B124925#32).extractLsb' 0 23).toNat = 1198373 := by decide
  refine ⟨(8388608 + 1198373) * 2 ^ (-32 : ℤ), by norm_num, by norm_num, ?_⟩
  unfold Ideal.ofBits Ideal.ieee
  simp only [show 8 + 23 = 31 from rfl, h1, h2, h3]
  norm_num

theorem ninf_eq : Ideal.ofBits .f32 0xFF800000#32 = ⊥ := by
  have h1 : ((0xFF800000#32).extractLsb' 23 8).toNat = 255 := by decide
  have h2 : ((0xFF800000#32).extractLsb' 31 1 == 1#1) = true := by decide
  have h3 : ((0xFF800000#32).extractLsb' 0 23).toNat = 0 := by decide
  unfold Ideal.ofBits Ideal.ieee
  simp only [show 8 + 23 = 31 from rfl, h1, h2, h3]
  norm_num

/-- A real times its logistic, the real at most 7, is at most 7 in magnitude. -/
theorem silu_le {a p : ℝ} (ha : 1 ≤ a) (hp : p ≤ 7) : |p * (1 + Real.exp (-(a * p)))⁻¹| ≤ 7 := by
  have hpos : 0 < Real.exp (-(a * p)) := Real.exp_pos _
  have hq : 0 < 1 + Real.exp (-(a * p)) := by linarith
  rw [abs_mul, abs_of_nonneg (inv_nonneg.2 hq.le), ← div_eq_mul_inv, div_le_iff₀ hq]
  rcases le_total 0 p with h | h
  · rw [abs_of_nonneg h]; nlinarith
  · rw [abs_of_nonpos h]
    have h1 := Real.add_one_le_exp (-(a * p))
    nlinarith [mul_nonneg (sub_nonneg.2 ha) (neg_nonneg.2 h)]

/-- The activation is a real of magnitude at most 56. -/
theorem act_real (g u : EReal) : ∃ x : ℝ, |x| ≤ 56 ∧ act g u = (x : EReal) := by
  obtain ⟨a, ha, ea⟩ := alpha_eq
  obtain ⟨w, hw0, hw1, ew⟩ : ∃ w : ℝ, -7 ≤ w ∧ w ≤ 7 ∧ min ((7 : ℝ) : EReal) (max ((-7 : ℝ) : EReal) u) = (w : EReal) := by
    induction u with
    | bot => exact ⟨-7, by norm_num, by norm_num, by rw [max_eq_left bot_le, min_eq_right]; exact EReal.coe_le_coe_iff.2 (by norm_num)⟩
    | top => exact ⟨7, by norm_num, by norm_num, by rw [max_eq_right le_top, min_eq_left le_top]⟩
    | coe v =>
      refine ⟨min 7 (max (-7) v), le_min (by norm_num) (le_max_left _ _), min_le_left _ _, ?_⟩
      rw [EReal.coe_strictMono.monotone.map_min, EReal.coe_strictMono.monotone.map_max]
  unfold act
  rw [lim_eq, nlim_eq, ea, ew]
  obtain ⟨p, hp, ep⟩ | ep : (∃ p : ℝ, p ≤ 7 ∧ min g ((7 : ℝ) : EReal) = (p : EReal)) ∨ min g ((7 : ℝ) : EReal) = ⊥ := by
    induction g with
    | bot => exact .inr (min_eq_left bot_le)
    | top => exact .inl ⟨7, le_rfl, min_eq_right le_top⟩
    | coe v => exact .inl ⟨min v 7, min_le_right _ _, by rw [EReal.coe_strictMono.monotone.map_min]⟩
  · rw [ep, ← EReal.coe_mul, Ideal.logistic_coe]
    refine ⟨(w + 1) * (p * (1 + Real.exp (-(a * p)))⁻¹), ?_, ?_⟩
    · rw [abs_mul]
      have h1 : |w + 1| ≤ 8 := abs_le.2 ⟨by linarith, by linarith⟩
      have h2 := silu_le ha hp
      calc _ ≤ (8 : ℝ) * 7 := mul_le_mul h1 h2 (abs_nonneg _) (by norm_num)
        _ = 56 := by norm_num
    · rw [← mul_assoc, EReal.coe_mul, EReal.coe_mul, EReal.coe_add]; rfl
  · refine ⟨0, by norm_num, ?_⟩
    rw [ep, EReal.coe_mul_bot_of_pos (by linarith), Ideal.logistic_bot, mul_zero]; rfl

/-- So a group of activations is far below the largest power of two that the bisection can find. -/
theorem mag_lt (f : Fin 128 → EReal) (hf : ∀ k, ∃ x : ℝ, |x| ≤ 56 ∧ f k = (x : EReal)) : mag f < (((2 : ℝ) ^ (126 : ℤ) : ℝ) : EReal) := by
  obtain ⟨a, ha0, ha1, ea⟩ := inv448_eq
  unfold mag
  rw [ninf_eq, ea]
  have h : Finset.univ.fold max (⊥ : EReal) (fun k => max (f k) (-f k)) ≤ ((56 : ℝ) : EReal) := by
    rw [Finset.fold_max_le]
    refine ⟨bot_le, fun k _ => ?_⟩
    obtain ⟨x, hx, e⟩ := hf k
    rw [e, ← EReal.coe_neg]
    exact max_le (EReal.coe_le_coe_iff.2 ((le_abs_self x).trans hx)) (EReal.coe_le_coe_iff.2 ((neg_le_abs x).trans hx))
  calc _ ≤ ((56 : ℝ) : EReal) * (a : EReal) := mul_le_mul_of_nonneg_right h (EReal.coe_nonneg.2 ha0)
    _ = ((56 * a : ℝ) : EReal) := (EReal.coe_mul _ _).symm
    _ < _ := by
      rw [EReal.coe_lt_coe_iff]
      have : (2 : ℝ) ^ (126 : ℤ) > 57 := by norm_num
      linarith

/-! ## The results, from the arguments -/

section Results

variable (x : (⟨2, ![24576, 7168]⟩ : Shape).Idx → EReal) (sc : (⟨2, ![24576, 56]⟩ : Shape).Idx → EReal)
variable (w : (⟨3, ![4, 7168, 7168]⟩ : Shape).Idx → EReal) (b : (⟨2, ![4, 7168]⟩ : Shape).Idx → EReal)

/-- A row of the dequantised input times a column of an expert's weights, with the expert's bias. -/
def lin (e : Fin 4) (r : Fin 24576) (c : Fin 7168) : EReal :=
  (∑ k : Fin 7168, x (ix2 r k) * sc (ix2 r ⟨k.val / 128, by omega⟩) * w (ix3 e k c)) + b (ix2 e c)

/-- A group of 128 activations of a row, under an expert. -/
def group (e : Fin 4) (r : Fin 24576) (g : Fin 28) (k : Fin 128) : EReal :=
  act (lin x sc w b e r ⟨128 * g.val + k.val, by omega⟩) (lin x sc w b e r ⟨3584 + (128 * g.val + k.val), by omega⟩)

theorem group_real (e : Fin 4) (r : Fin 24576) (g : Fin 28) (k : Fin 128) : ∃ y : ℝ, |y| ≤ 56 ∧ group x sc w b e r g k = (y : EReal) := act_real _ _

end Results

end Cert.Spec

end
-- ==== Proof.KernelIdeal.Pay.lean ====
/- The payloads of the kernel's body at an element, over the extended reals. -/
module
public import proofs.«01_k».proof.Proof.KernelIdeal.Launch
public import proofs.«01_k».proof.Proof.Spec
public import Idealize.ShloMosaic.Lib.Pointwise

@[expose] public section

noncomputable section

namespace Cert.KernelIdeal.Hand
open Idealize.ShloMosaic Cert.KernelIdeal.Gen

theorem pay74_ap (v511 : Vec Ideal S512x7168 .bf16) (wg : Vec Ideal S1x7168x256 .bf16) (bg : Vec Ideal S1x1x256 .f32) (wu : Vec Ideal S1x7168x256 .bf16) (bu : Vec Ideal S1x1x256 .f32) (r : Fin 512) (j : Fin 256) :
    k0_pay74 v511 wg bg wu bu (ix2 r j)
      = Spec.act ((∑ k : Fin 7168, v511 (ix2 r k) * wg (ix3 0 k j)) + bg (ix3 0 0 j)) ((∑ k : Fin 7168, v511 (ix2 r k) * wu (ix3 0 k j)) + bu (ix3 0 0 j)) := by
  unfold Spec.act
  pointwise [k0_pay74]

theorem pay80_ap (v : FVec Ideal S512x256 .f32) (r : Fin 512) :
    k0_pay80 v (ix2 r 0) = Spec.mag (fun k => v (ix2 r ⟨k.val, by omega⟩)) := by
  unfold Spec.mag
  pointwise [k0_pay80, k0_pay79]
  rfl

theorem pay88_ap (v : FVec Ideal S512x256 .f32) (r : Fin 512) :
    k0_pay88 v (ix2 r 0) = Spec.mag (fun k => v (ix2 r ⟨128 + k.val, by omega⟩)) := by
  unfold Spec.mag
  pointwise [k0_pay88, k0_pay87]
  rfl

theorem pay82_ap (v : FVec Ideal S512x256 .f32) (r : Fin 512) :
    k0_pay82 (k0_pay80 v) (k0_pay81 v) 8#32 (ix2 r 0) = Quant.bisect (k0_pay80 v (ix2 r 0)) := rfl

theorem pay93_ap (m : FVec Ideal S512x1 .f32) (r : Fin 512) :
    k0_pay93 m (k0_pay91 m k0_pay89 k0_pay90) (k0_pay92 m k0_pay89 k0_pay90) (ix2 r 0) = Quant.bisect (m (ix2 r 0)) := rfl

theorem pay1_ap (ok : IVec S512x128 1) (v : FVec Ideal S512x128 .f32) (o : Vec Ideal S512x128 .fp8e4m3) (r : Fin 512) (k : Fin 128) :
    k0_pay1 ok v o (ix2 r k) = Scalar.select (ok (ix2 r k)) (v (ix2 r k)) (o (ix2 r k)) := by
  pointwise [k0_pay1]

theorem pay2_ap (ok : IVec S512x128 1) (v : FVec Ideal S512x1 .f32) (o : Vec Ideal S1x512x1 .f32) (r : Fin 512) :
    k0_pay2 ok v o (ix3 0 r 0) = Scalar.select (ok (ix2 r 0)) (v (ix2 r 0)) (o (ix3 0 r 0)) := by
  pointwise [k0_pay2]

theorem pay86_ap (ok : IVec S512x128 1) (m : FVec Ideal S512x1 .f32) (e : IVec S512x1 32) (o : Vec Ideal S1x512x1 .f32) (r : Fin 512) :
    k0_pay86 ok (k0_pay84 m e 8#32) o (ix3 0 r 0) = Scalar.select (ok (ix2 r 0)) (Quant.scaleB (k0_pay82 m e 8#32 (ix2 r 0))) (o (ix3 0 r 0)) := by
  unfold Quant.scaleB
  pointwise [k0_pay86, k0_pay84, k0_pay83]

theorem pay95_ap (m : FVec Ideal S512x1 .f32) (e : IVec S512x1 32) (x : FVec Ideal S512x1 .f32) (r : Fin 512) :
    k0_pay95 m e x (ix2 r 0) = Quant.scaleB (k0_pay93 m e x (ix2 r 0)) := rfl

theorem pay85_ap (ok : IVec S512x128 1) (v : FVec Ideal S512x128 .f32) (m : FVec Ideal S512x1 .f32) (e : IVec S512x1 32) (o : Vec Ideal S512x128 .fp8e4m3) (r : Fin 512) (k : Fin 128) :
    k0_pay85 ok v (k0_pay82 m e 8#32) (k0_pay83 m e 8#32) 253#32 o (ix2 r k) = Scalar.select (ok (ix2 r k))
      (min (Ideal.ofBits .f32 0x43E00000#32) (max (Ideal.ofBits .f32 0xC3E00000#32) (v (ix2 r k) * Quant.invB (k0_pay82 m e 8#32 (ix2 r 0))))) (o (ix2 r k)) := by
  unfold Quant.invB
  pointwise [k0_pay85, k0_pay83]

theorem pay96_ap (v : FVec Ideal S512x128 .f32) (m : FVec Ideal S512x1 .f32) (e : IVec S512x1 32) (x : FVec Ideal S512x1 .f32) (r : Fin 512) (k : Fin 128) :
    k0_pay96 v m e x (ix2 r k) =
      (min (Ideal.ofBits .f32 0x43E00000#32) (max (Ideal.ofBits .f32 0xC3E00000#32) (v (ix2 r k) * Quant.invB (k0_pay93 m e x (ix2 r 0))))) := by
  unfold Quant.invB
  pointwise [k0_pay96, k0_pay94]

theorem mask_ap (a b d : BitVec 32) (r : Fin 512) (k : Fin 128) :
    k0_pay78 (k0_pay76 (F := Ideal) a b) (k0_pay77 (F := Ideal) a d) (ix2 r k) =
      IntOp.andi (IntOp.cmpi .sge (IntOp.addi (IntOp.muli a 512#32) (BitVec.ofNat 32 r.val)) b) (IntOp.cmpi .slt (IntOp.addi (IntOp.muli a 512#32) (BitVec.ofNat 32 r.val)) d) := by
  pointwise [k0_pay78, k0_pay77, k0_pay76, k0_pay75]
  rfl

end Cert.KernelIdeal.Hand

end
-- ==== Proof.KernelIdeal.Fill.lean ====
/- The scratch as the body fills it: the input block times its scales, dequantised group by group. -/
module

public import proofs.«01_k».proof.Proof.KernelIdeal.Pay
public import proofs.«01_k».proof.Proof.KernelIdeal.Body
public import Idealize.ShloMosaic.Lib.WholeRead
public import Idealize.ShloMosaic.Lib.Writes

@[expose] public section

set_option maxRecDepth 16384

noncomputable section

namespace Cert.KernelIdeal.Hand

open Idealize.ShloMosaic Idealize.ShloMosaic.TcCoe Cert.KernelIdeal.Gen

/-- The dequantised block. -/
def deq (x0 : Vec Ideal S512x7168 .fp8e4m3) (x1 : Vec Ideal S512x56 .f32) : Vec Ideal S512x7168 .bf16 :=
  fun y => (x0 y : EReal) * (x1 (ix2 (y 0) ⟨(y 1).val / 128, by have := (y 1).isLt; show (y 1).val / 128 < 56; simp only [Shape.size, S512x7168] at this; have : (y 1).val < 7168 := this; omega⟩) : EReal)

variable (c : Dev nD) (arg6 : Memref sig .tc .vmem S512x7168 .fp8e4m3) (harg6 : arg6.IsWhole) (arg7 : Memref sig .tc .vmem S512x56 .f32) (harg7 : arg7.IsWhole)
variable (arg14 : Memref sig .tc .vmem S512x7168 .bf16) (x0 : Vec Ideal S512x7168 .fp8e4m3) (x1 : Vec Ideal S512x56 .f32)

/-- One group's product, read at an element. -/
theorem pay3_ap (v7 : Vec Ideal S512x128 .fp8e4m3) (v9 : Vec Ideal S512x1 .f32) (a : Fin 512) (b : Fin 128) :
    k0_pay3 v7 v9 (ix2 a b) = (v7 (ix2 a b) : EReal) * (v9 (ix2 a 0) : EReal) := by
  pointwise [k0_pay3]

/-- One group's product is the dequantised block at the group's place. -/
theorem piece_ap (g : ℕ) (hg : g < 56) (inb : ∀ a, (![0, 128 * g] : Fin 2 → ℕ) a + S512x128.size a ≤ S512x7168.size a)
    (inb1 : ∀ a, (![0, g] : Fin 2 → ℕ) a + S512x1.size a ≤ S512x56.size a) (a : Fin 512) (b : Fin 128) :
    (View.readAt (Elt Ideal) arg6.view (Rect.unit (s := S512x7168) ![0, 128 * g] S512x128.size inb).toLoadRect (harg6.unread x0) (ix2 a b) : EReal)
      * (View.readAt (Elt Ideal) arg7.view (Rect.unit (s := S512x56) ![0, g] S512x1.size inb1).toLoadRect (harg7.unread x1) (ix2 a 0) : EReal)
      = deq x0 x1 ((Rect.unit (s := S512x7168) ![0, 128 * g] S512x128.size inb).emb (ix2 a b)) := by
  rw [harg6.readAt_unread, harg7.readAt_unread]
  unfold deq
  congr 1
  congr 1
  funext d
  refine Fin.ext ?_
  match d with
  | ⟨0, _⟩ => rfl
  | ⟨1, _⟩ => show g + 1 * 0 = (128 * g + 1 * b.val) / 128; omega

/-- The writes of the first `n` groups reach every element of their columns. -/
def Cov (n : ℕ) (L : List (View.Piece (Elt Ideal) S512x7168 .bf16)) : Prop := ∀ y : S512x7168.Idx, (y 1).val < 128 * n → ∃ p ∈ L, y ∈ p.1.set

theorem cov_nil : Cov 0 [] := fun y h => absurd h (by omega)

theorem cov_cons (n : ℕ) (inb : ∀ a, (![0, 128 * n] : Fin 2 → ℕ) a + S512x128.size a ≤ S512x7168.size a)
    (w : (Rect.unit (s := S512x7168) ![0, 128 * n] S512x128.size inb).shape.Idx → Elt Ideal .bf16) (L : List (View.Piece (Elt Ideal) S512x7168 .bf16)) (h : Cov n L) :
    Cov (n + 1) (⟨Rect.unit (s := S512x7168) ![0, 128 * n] S512x128.size inb, w⟩ :: L) := fun y hy => by
  rcases Nat.lt_or_ge (y 1).val (128 * n) with h' | h'
  · obtain ⟨p, hp, hm⟩ := h y h'
    exact ⟨p, List.mem_cons_of_mem _ hp, hm⟩
  · refine ⟨_, List.mem_cons_self, (LoadRect.mem_set _).2 fun d => ?_⟩
    match d with
    | ⟨0, _⟩ => exact ⟨(y 0).val, (y 0).isLt, by show (y 0).val = 0 + 1 * (y 0).val; omega⟩
    | ⟨1, _⟩ => exact ⟨(y 1).val - 128 * n, by show (y 1).val - 128 * n < 128; omega, by show (y 1).val = 128 * n + 1 * ((y 1).val - 128 * n); omega⟩

set_option maxHeartbeats 1000000 in
theorem cov : Cov 56 (run.sl.HS0_56 c arg6 harg6 arg7 harg7 x0 x1) := by
  unfold run.sl.HS0_56
  refine cov_cons 55 inb_S512x7168_S512x128_0_7040 _ _ ?_
  refine cov_cons 54 inb_S512x7168_S512x128_0_6912 _ _ ?_
  refine cov_cons 53 inb_S512x7168_S512x128_0_6784 _ _ ?_
  refine cov_cons 52 inb_S512x7168_S512x128_0_6656 _ _ ?_
  refine cov_cons 51 inb_S512x7168_S512x128_0_6528 _ _ ?_
  refine cov_cons 50 inb_S512x7168_S512x128_0_6400 _ _ ?_
  refine cov_cons 49 inb_S512x7168_S512x128_0_6272 _ _ ?_
  refine cov_cons 48 inb_S512x7168_S512x128_0_6144 _ _ ?_
  refine cov_cons 47 inb_S512x7168_S512x128_0_6016 _ _ ?_
  refine cov_cons 46 inb_S512x7168_S512x128_0_5888 _ _ ?_
  refine cov_cons 45 inb_S512x7168_S512x128_0_5760 _ _ ?_
  refine cov_cons 44 inb_S512x7168_S512x128_0_5632 _ _ ?_
  refine cov_cons 43 inb_S512x7168_S512x128_0_5504 _ _ ?_
  refine cov_cons 42 inb_S512x7168_S512x128_0_5376 _ _ ?_
  refine cov_cons 41 inb_S512x7168_S512x128_0_5248 _ _ ?_
  refine cov_cons 40 inb_S512x7168_S512x128_0_5120 _ _ ?_
  refine cov_cons 39 inb_S512x7168_S512x128_0_4992 _ _ ?_
  refine cov_cons 38 inb_S512x7168_S512x128_0_4864 _ _ ?_
  refine cov_cons 37 inb_S512x7168_S512x128_0_4736 _ _ ?_
  refine cov_cons 36 inb_S512x7168_S512x128_0_4608 _ _ ?_
  refine cov_cons 35 inb_S512x7168_S512x128_0_4480 _ _ ?_
  refine cov_cons 34 inb_S512x7168_S512x128_0_4352 _ _ ?_
  refine cov_cons 33 inb_S512x7168_S512x128_0_4224 _ _ ?_
  refine cov_cons 32 inb_S512x7168_S512x128_0_4096 _ _ ?_
  refine cov_cons 31 inb_S512x7168_S512x128_0_3968 _ _ ?_
  refine cov_cons 30 inb_S512x7168_S512x128_0_3840 _ _ ?_
  refine cov_cons 29 inb_S512x7168_S512x128_0_3712 _ _ ?_
  refine cov_cons 28 inb_S512x7168_S512x128_0_3584 _ _ ?_
  refine cov_cons 27 inb_S512x7168_S512x128_0_3456 _ _ ?_
  refine cov_cons 26 inb_S512x7168_S512x128_0_3328 _ _ ?_
  refine cov_cons 25 inb_S512x7168_S512x128_0_3200 _ _ ?_
  refine cov_cons 24 inb_S512x7168_S512x128_0_3072 _ _ ?_
  refine cov_cons 23 inb_S512x7168_S512x128_0_2944 _ _ ?_
  refine cov_cons 22 inb_S512x7168_S512x128_0_2816 _ _ ?_
  refine cov_cons 21 inb_S512x7168_S512x128_0_2688 _ _ ?_
  refine cov_cons 20 inb_S512x7168_S512x128_0_2560 _ _ ?_
  refine cov_cons 19 inb_S512x7168_S512x128_0_2432 _ _ ?_
  refine cov_cons 18 inb_S512x7168_S512x128_0_2304 _ _ ?_
  refine cov_cons 17 inb_S512x7168_S512x128_0_2176 _ _ ?_
  refine cov_cons 16 inb_S512x7168_S512x128_0_2048 _ _ ?_
  refine cov_cons 15 inb_S512x7168_S512x128_0_1920 _ _ ?_
  refine cov_cons 14 inb_S512x7168_S512x128_0_1792 _ _ ?_
  refine cov_cons 13 inb_S512x7168_S512x128_0_1664 _ _ ?_
  refine cov_cons 12 inb_S512x7168_S512x128_0_1536 _ _ ?_
  refine cov_cons 11 inb_S512x7168_S512x128_0_1408 _ _ ?_
  refine cov_cons 10 inb_S512x7168_S512x128_0_1280 _ _ ?_
  refine cov_cons 9 inb_S512x7168_S512x128_0_1152 _ _ ?_
  refine cov_cons 8 inb_S512x7168_S512x128_0_1024 _ _ ?_
  refine cov_cons 7 inb_S512x7168_S512x128_0_896 _ _ ?_
  refine cov_cons 6 inb_S512x7168_S512x128_0_768 _ _ ?_
  refine cov_cons 5 inb_S512x7168_S512x128_0_640 _ _ ?_
  refine cov_cons 4 inb_S512x7168_S512x128_0_512 _ _ ?_
  refine cov_cons 3 inb_S512x7168_S512x128_0_384 _ _ ?_
  refine cov_cons 2 inb_S512x7168_S512x128_0_256 _ _ ?_
  refine cov_cons 1 inb_S512x7168_S512x128_0_128 _ _ ?_
  refine cov_cons 0 inb_S512x7168_S512x128_0_0 _ _ ?_
  exact cov_nil

set_option maxHeartbeats 4000000 in
/-- The whole scratch reads as the dequantised block. -/
theorem v511_ap (y : S512x7168.Idx) : run.sl.v511 c arg6 harg6 arg7 harg7 arg14 x0 x1 y = deq x0 x1 y := by
  unfold run.sl.v511 View.readCov
  refine (View.read_writes_apply_of_pieces arg14.view _ (deq x0 x1) (run.sl.HS0_56 c arg6 harg6 arg7 harg7 x0 x1) ?_ _ ?_).trans ?_
  · unfold run.sl.HS0_56
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 55 (by omega) inb_S512x7168_S512x128_0_7040 inb_S512x56_S512x1_0_55 a b)
      exact pay3_ap (View.readAt (Elt Ideal) arg6.view (Rect.unit (s := S512x7168) ![0, 7040] S512x128.size inb_S512x7168_S512x128_0_7040).toLoadRect (harg6.unread x0)) (View.readAt (Elt Ideal) arg7.view (Rect.unit (s := S512x56) ![0, 55] S512x1.size inb_S512x56_S512x1_0_55).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 54 (by omega) inb_S512x7168_S512x128_0_6912 inb_S512x56_S512x1_0_54 a b)
      exact pay3_ap (View.readAt (Elt Ideal) arg6.view (Rect.unit (s := S512x7168) ![0, 6912] S512x128.size inb_S512x7168_S512x128_0_6912).toLoadRect (harg6.unread x0)) (View.readAt (Elt Ideal) arg7.view (Rect.unit (s := S512x56) ![0, 54] S512x1.size inb_S512x56_S512x1_0_54).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 53 (by omega) inb_S512x7168_S512x128_0_6784 inb_S512x56_S512x1_0_53 a b)
      exact pay3_ap (View.readAt (Elt Ideal) arg6.view (Rect.unit (s := S512x7168) ![0, 6784] S512x128.size inb_S512x7168_S512x128_0_6784).toLoadRect (harg6.unread x0)) (View.readAt (Elt Ideal) arg7.view (Rect.unit (s := S512x56) ![0, 53] S512x1.size inb_S512x56_S512x1_0_53).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 52 (by omega) inb_S512x7168_S512x128_0_6656 inb_S512x56_S512x1_0_52 a b)
      exact pay3_ap (View.readAt (Elt Ideal) arg6.view (Rect.unit (s := S512x7168) ![0, 6656] S512x128.size inb_S512x7168_S512x128_0_6656).toLoadRect (harg6.unread x0)) (View.readAt (Elt Ideal) arg7.view (Rect.unit (s := S512x56) ![0, 52] S512x1.size inb_S512x56_S512x1_0_52).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 51 (by omega) inb_S512x7168_S512x128_0_6528 inb_S512x56_S512x1_0_51 a b)
      exact pay3_ap (View.readAt (Elt Ideal) arg6.view (Rect.unit (s := S512x7168) ![0, 6528] S512x128.size inb_S512x7168_S512x128_0_6528).toLoadRect (harg6.unread x0)) (View.readAt (Elt Ideal) arg7.view (Rect.unit (s := S512x56) ![0, 51] S512x1.size inb_S512x56_S512x1_0_51).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 50 (by omega) inb_S512x7168_S512x128_0_6400 inb_S512x56_S512x1_0_50 a b)
      exact pay3_ap (View.readAt (Elt Ideal) arg6.view (Rect.unit (s := S512x7168) ![0, 6400] S512x128.size inb_S512x7168_S512x128_0_6400).toLoadRect (harg6.unread x0)) (View.readAt (Elt Ideal) arg7.view (Rect.unit (s := S512x56) ![0, 50] S512x1.size inb_S512x56_S512x1_0_50).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 49 (by omega) inb_S512x7168_S512x128_0_6272 inb_S512x56_S512x1_0_49 a b)
      exact pay3_ap (View.readAt (Elt Ideal) arg6.view (Rect.unit (s := S512x7168) ![0, 6272] S512x128.size inb_S512x7168_S512x128_0_6272).toLoadRect (harg6.unread x0)) (View.readAt (Elt Ideal) arg7.view (Rect.unit (s := S512x56) ![0, 49] S512x1.size inb_S512x56_S512x1_0_49).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 48 (by omega) inb_S512x7168_S512x128_0_6144 inb_S512x56_S512x1_0_48 a b)
      exact pay3_ap (View.readAt (Elt Ideal) arg6.view (Rect.unit (s := S512x7168) ![0, 6144] S512x128.size inb_S512x7168_S512x128_0_6144).toLoadRect (harg6.unread x0)) (View.readAt (Elt Ideal) arg7.view (Rect.unit (s := S512x56) ![0, 48] S512x1.size inb_S512x56_S512x1_0_48).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 47 (by omega) inb_S512x7168_S512x128_0_6016 inb_S512x56_S512x1_0_47 a b)
      exact pay3_ap (View.readAt (Elt Ideal) arg6.view (Rect.unit (s := S512x7168) ![0, 6016] S512x128.size inb_S512x7168_S512x128_0_6016).toLoadRect (harg6.unread x0)) (View.readAt (Elt Ideal) arg7.view (Rect.unit (s := S512x56) ![0, 47] S512x1.size inb_S512x56_S512x1_0_47).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 46 (by omega) inb_S512x7168_S512x128_0_5888 inb_S512x56_S512x1_0_46 a b)
      exact pay3_ap (View.readAt (Elt Ideal) arg6.view (Rect.unit (s := S512x7168) ![0, 5888] S512x128.size inb_S512x7168_S512x128_0_5888).toLoadRect (harg6.unread x0)) (View.readAt (Elt Ideal) arg7.view (Rect.unit (s := S512x56) ![0, 46] S512x1.size inb_S512x56_S512x1_0_46).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 45 (by omega) inb_S512x7168_S512x128_0_5760 inb_S512x56_S512x1_0_45 a b)
      exact pay3_ap (View.readAt (Elt Ideal) arg6.view (Rect.unit (s := S512x7168) ![0, 5760] S512x128.size inb_S512x7168_S512x128_0_5760).toLoadRect (harg6.unread x0)) (View.readAt (Elt Ideal) arg7.view (Rect.unit (s := S512x56) ![0, 45] S512x1.size inb_S512x56_S512x1_0_45).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 44 (by omega) inb_S512x7168_S512x128_0_5632 inb_S512x56_S512x1_0_44 a b)
      exact pay3_ap (View.readAt (Elt Ideal) arg6.view (Rect.unit (s := S512x7168) ![0, 5632] S512x128.size inb_S512x7168_S512x128_0_5632).toLoadRect (harg6.unread x0)) (View.readAt (Elt Ideal) arg7.view (Rect.unit (s := S512x56) ![0, 44] S512x1.size inb_S512x56_S512x1_0_44).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 43 (by omega) inb_S512x7168_S512x128_0_5504 inb_S512x56_S512x1_0_43 a b)
      exact pay3_ap (View.readAt (Elt Ideal) arg6.view (Rect.unit (s := S512x7168) ![0, 5504] S512x128.size inb_S512x7168_S512x128_0_5504).toLoadRect (harg6.unread x0)) (View.readAt (Elt Ideal) arg7.view (Rect.unit (s := S512x56) ![0, 43] S512x1.size inb_S512x56_S512x1_0_43).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 42 (by omega) inb_S512x7168_S512x128_0_5376 inb_S512x56_S512x1_0_42 a b)
      exact pay3_ap (View.readAt (Elt Ideal) arg6.view (Rect.unit (s := S512x7168) ![0, 5376] S512x128.size inb_S512x7168_S512x128_0_5376).toLoadRect (harg6.unread x0)) (View.readAt (Elt Ideal) arg7.view (Rect.unit (s := S512x56) ![0, 42] S512x1.size inb_S512x56_S512x1_0_42).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 41 (by omega) inb_S512x7168_S512x128_0_5248 inb_S512x56_S512x1_0_41 a b)
      exact pay3_ap (View.readAt (Elt Ideal) arg6.view (Rect.unit (s := S512x7168) ![0, 5248] S512x128.size inb_S512x7168_S512x128_0_5248).toLoadRect (harg6.unread x0)) (View.readAt (Elt Ideal) arg7.view (Rect.unit (s := S512x56) ![0, 41] S512x1.size inb_S512x56_S512x1_0_41).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 40 (by omega) inb_S512x7168_S512x128_0_5120 inb_S512x56_S512x1_0_40 a b)
      exact pay3_ap (View.readAt (Elt Ideal) arg6.view (Rect.unit (s := S512x7168) ![0, 5120] S512x128.size inb_S512x7168_S512x128_0_5120).toLoadRect (harg6.unread x0)) (View.readAt (Elt Ideal) arg7.view (Rect.unit (s := S512x56) ![0, 40] S512x1.size inb_S512x56_S512x1_0_40).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 39 (by omega) inb_S512x7168_S512x128_0_4992 inb_S512x56_S512x1_0_39 a b)
      exact pay3_ap (View.readAt (Elt Ideal) arg6.view (Rect.unit (s := S512x7168) ![0, 4992] S512x128.size inb_S512x7168_S512x128_0_4992).toLoadRect (harg6.unread x0)) (View.readAt (Elt Ideal) arg7.view (Rect.unit (s := S512x56) ![0, 39] S512x1.size inb_S512x56_S512x1_0_39).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 38 (by omega) inb_S512x7168_S512x128_0_4864 inb_S512x56_S512x1_0_38 a b)
      exact pay3_ap (View.readAt (Elt Ideal) arg6.view (Rect.unit (s := S512x7168) ![0, 4864] S512x128.size inb_S512x7168_S512x128_0_4864).toLoadRect (harg6.unread x0)) (View.readAt (Elt Ideal) arg7.view (Rect.unit (s := S512x56) ![0, 38] S512x1.size inb_S512x56_S512x1_0_38).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 37 (by omega) inb_S512x7168_S512x128_0_4736 inb_S512x56_S512x1_0_37 a b)
      exact pay3_ap (View.readAt (Elt Ideal) arg6.view (Rect.unit (s := S512x7168) ![0, 4736] S512x128.size inb_S512x7168_S512x128_0_4736).toLoadRect (harg6.unread x0)) (View.readAt (Elt Ideal) arg7.view (Rect.unit (s := S512x56) ![0, 37] S512x1.size inb_S512x56_S512x1_0_37).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 36 (by omega) inb_S512x7168_S512x128_0_4608 inb_S512x56_S512x1_0_36 a b)
      exact pay3_ap (View.readAt (Elt Ideal) arg6.view (Rect.unit (s := S512x7168) ![0, 4608] S512x128.size inb_S512x7168_S512x128_0_4608).toLoadRect (harg6.unread x0)) (View.readAt (Elt Ideal) arg7.view (Rect.unit (s := S512x56) ![0, 36] S512x1.size inb_S512x56_S512x1_0_36).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 35 (by omega) inb_S512x7168_S512x128_0_4480 inb_S512x56_S512x1_0_35 a b)
      exact pay3_ap (View.readAt (Elt Ideal) arg6.view (Rect.unit (s := S512x7168) ![0, 4480] S512x128.size inb_S512x7168_S512x128_0_4480).toLoadRect (harg6.unread x0)) (View.readAt (Elt Ideal) arg7.view (Rect.unit (s := S512x56) ![0, 35] S512x1.size inb_S512x56_S512x1_0_35).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 34 (by omega) inb_S512x7168_S512x128_0_4352 inb_S512x56_S512x1_0_34 a b)
      exact pay3_ap (View.readAt (Elt Ideal) arg6.view (Rect.unit (s := S512x7168) ![0, 4352] S512x128.size inb_S512x7168_S512x128_0_4352).toLoadRect (harg6.unread x0)) (View.readAt (Elt Ideal) arg7.view (Rect.unit (s := S512x56) ![0, 34] S512x1.size inb_S512x56_S512x1_0_34).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 33 (by omega) inb_S512x7168_S512x128_0_4224 inb_S512x56_S512x1_0_33 a b)
      exact pay3_ap (View.readAt (Elt Ideal) arg6.view (Rect.unit (s := S512x7168) ![0, 4224] S512x128.size inb_S512x7168_S512x128_0_4224).toLoadRect (harg6.unread x0)) (View.readAt (Elt Ideal) arg7.view (Rect.unit (s := S512x56) ![0, 33] S512x1.size inb_S512x56_S512x1_0_33).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 32 (by omega) inb_S512x7168_S512x128_0_4096 inb_S512x56_S512x1_0_32 a b)
      exact pay3_ap (View.readAt (Elt Ideal) arg6.view (Rect.unit (s := S512x7168) ![0, 4096] S512x128.size inb_S512x7168_S512x128_0_4096).toLoadRect (harg6.unread x0)) (View.readAt (Elt Ideal) arg7.view (Rect.unit (s := S512x56) ![0, 32] S512x1.size inb_S512x56_S512x1_0_32).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 31 (by omega) inb_S512x7168_S512x128_0_3968 inb_S512x56_S512x1_0_31 a b)
      exact pay3_ap (View.readAt (Elt Ideal) arg6.view (Rect.unit (s := S512x7168) ![0, 3968] S512x128.size inb_S512x7168_S512x128_0_3968).toLoadRect (harg6.unread x0)) (View.readAt (Elt Ideal) arg7.view (Rect.unit (s := S512x56) ![0, 31] S512x1.size inb_S512x56_S512x1_0_31).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 30 (by omega) inb_S512x7168_S512x128_0_3840 inb_S512x56_S512x1_0_30 a b)
      exact pay3_ap (View.readAt (Elt Ideal) arg6.view (Rect.unit (s := S512x7168) ![0, 3840] S512x128.size inb_S512x7168_S512x128_0_3840).toLoadRect (harg6.unread x0)) (View.readAt (Elt Ideal) arg7.view (Rect.unit (s := S512x56) ![0, 30] S512x1.size inb_S512x56_S512x1_0_30).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 29 (by omega) inb_S512x7168_S512x128_0_3712 inb_S512x56_S512x1_0_29 a b)
      exact pay3_ap (View.readAt (Elt Ideal) arg6.view (Rect.unit (s := S512x7168) ![0, 3712] S512x128.size inb_S512x7168_S512x128_0_3712).toLoadRect (harg6.unread x0)) (View.readAt (Elt Ideal) arg7.view (Rect.unit (s := S512x56) ![0, 29] S512x1.size inb_S512x56_S512x1_0_29).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 28 (by omega) inb_S512x7168_S512x128_0_3584 inb_S512x56_S512x1_0_28 a b)
      exact pay3_ap (View.readAt (Elt Ideal) arg6.view (Rect.unit (s := S512x7168) ![0, 3584] S512x128.size inb_S512x7168_S512x128_0_3584).toLoadRect (harg6.unread x0)) (View.readAt (Elt Ideal) arg7.view (Rect.unit (s := S512x56) ![0, 28] S512x1.size inb_S512x56_S512x1_0_28).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 27 (by omega) inb_S512x7168_S512x128_0_3456 inb_S512x56_S512x1_0_27 a b)
      exact pay3_ap (View.readAt (Elt Ideal) arg6.view (Rect.unit (s := S512x7168) ![0, 3456] S512x128.size inb_S512x7168_S512x128_0_3456).toLoadRect (harg6.unread x0)) (View.readAt (Elt Ideal) arg7.view (Rect.unit (s := S512x56) ![0, 27] S512x1.size inb_S512x56_S512x1_0_27).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 26 (by omega) inb_S512x7168_S512x128_0_3328 inb_S512x56_S512x1_0_26 a b)
      exact pay3_ap (View.readAt (Elt Ideal) arg6.view (Rect.unit (s := S512x7168) ![0, 3328] S512x128.size inb_S512x7168_S512x128_0_3328).toLoadRect (harg6.unread x0)) (View.readAt (Elt Ideal) arg7.view (Rect.unit (s := S512x56) ![0, 26] S512x1.size inb_S512x56_S512x1_0_26).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 25 (by omega) inb_S512x7168_S512x128_0_3200 inb_S512x56_S512x1_0_25 a b)
      exact pay3_ap (View.readAt (Elt Ideal) arg6.view (Rect.unit (s := S512x7168) ![0, 3200] S512x128.size inb_S512x7168_S512x128_0_3200).toLoadRect (harg6.unread x0)) (View.readAt (Elt Ideal) arg7.view (Rect.unit (s := S512x56) ![0, 25] S512x1.size inb_S512x56_S512x1_0_25).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 24 (by omega) inb_S512x7168_S512x128_0_3072 inb_S512x56_S512x1_0_24 a b)
      exact pay3_ap (View.readAt (Elt Ideal) arg6.view (Rect.unit (s := S512x7168) ![0, 3072] S512x128.size inb_S512x7168_S512x128_0_3072).toLoadRect (harg6.unread x0)) (View.readAt (Elt Ideal) arg7.view (Rect.unit (s := S512x56) ![0, 24] S512x1.size inb_S512x56_S512x1_0_24).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 23 (by omega) inb_S512x7168_S512x128_0_2944 inb_S512x56_S512x1_0_23 a b)
      exact pay3_ap (View.readAt (Elt Ideal) arg6.view (Rect.unit (s := S512x7168) ![0, 2944] S512x128.size inb_S512x7168_S512x128_0_2944).toLoadRect (harg6.unread x0)) (View.readAt (Elt Ideal) arg7.view (Rect.unit (s := S512x56) ![0, 23] S512x1.size inb_S512x56_S512x1_0_23).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 22 (by omega) inb_S512x7168_S512x128_0_2816 inb_S512x56_S512x1_0_22 a b)
      exact pay3_ap (View.readAt (Elt Ideal) arg6.view (Rect.unit (s := S512x7168) ![0, 2816] S512x128.size inb_S512x7168_S512x128_0_2816).toLoadRect (harg6.unread x0)) (View.readAt (Elt Ideal) arg7.view (Rect.unit (s := S512x56) ![0, 22] S512x1.size inb_S512x56_S512x1_0_22).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 21 (by omega) inb_S512x7168_S512x128_0_2688 inb_S512x56_S512x1_0_21 a b)
      exact pay3_ap (View.readAt (Elt Ideal) arg6.view (Rect.unit (s := S512x7168) ![0, 2688] S512x128.size inb_S512x7168_S512x128_0_2688).toLoadRect (harg6.unread x0)) (View.readAt (Elt Ideal) arg7.view (Rect.unit (s := S512x56) ![0, 21] S512x1.size inb_S512x56_S512x1_0_21).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 20 (by omega) inb_S512x7168_S512x128_0_2560 inb_S512x56_S512x1_0_20 a b)
      exact pay3_ap (View.readAt (Elt Ideal) arg6.view (Rect.unit (s := S512x7168) ![0, 2560] S512x128.size inb_S512x7168_S512x128_0_2560).toLoadRect (harg6.unread x0)) (View.readAt (Elt Ideal) arg7.view (Rect.unit (s := S512x56) ![0, 20] S512x1.size inb_S512x56_S512x1_0_20).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 19 (by omega) inb_S512x7168_S512x128_0_2432 inb_S512x56_S512x1_0_19 a b)
      exact pay3_ap (View.readAt (Elt Ideal) arg6.view (Rect.unit (s := S512x7168) ![0, 2432] S512x128.size inb_S512x7168_S512x128_0_2432).toLoadRect (harg6.unread x0)) (View.readAt (Elt Ideal) arg7.view (Rect.unit (s := S512x56) ![0, 19] S512x1.size inb_S512x56_S512x1_0_19).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 18 (by omega) inb_S512x7168_S512x128_0_2304 inb_S512x56_S512x1_0_18 a b)
      exact pay3_ap (View.readAt (Elt Ideal) arg6.view (Rect.unit (s := S512x7168) ![0, 2304] S512x128.size inb_S512x7168_S512x128_0_2304).toLoadRect (harg6.unread x0)) (View.readAt (Elt Ideal) arg7.view (Rect.unit (s := S512x56) ![0, 18] S512x1.size inb_S512x56_S512x1_0_18).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 17 (by omega) inb_S512x7168_S512x128_0_2176 inb_S512x56_S512x1_0_17 a b)
      exact pay3_ap (View.readAt (Elt Ideal) arg6.view (Rect.unit (s := S512x7168) ![0, 2176] S512x128.size inb_S512x7168_S512x128_0_2176).toLoadRect (harg6.unread x0)) (View.readAt (Elt Ideal) arg7.view (Rect.unit (s := S512x56) ![0, 17] S512x1.size inb_S512x56_S512x1_0_17).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 16 (by omega) inb_S512x7168_S512x128_0_2048 inb_S512x56_S512x1_0_16 a b)
      exact pay3_ap (View.readAt (Elt Ideal) arg6.view (Rect.unit (s := S512x7168) ![0, 2048] S512x128.size inb_S512x7168_S512x128_0_2048).toLoadRect (harg6.unread x0)) (View.readAt (Elt Ideal) arg7.view (Rect.unit (s := S512x56) ![0, 16] S512x1.size inb_S512x56_S512x1_0_16).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 15 (by omega) inb_S512x7168_S512x128_0_1920 inb_S512x56_S512x1_0_15 a b)
      exact pay3_ap (View.readAt (Elt Ideal) arg6.view (Rect.unit (s := S512x7168) ![0, 1920] S512x128.size inb_S512x7168_S512x128_0_1920).toLoadRect (harg6.unread x0)) (View.readAt (Elt Ideal) arg7.view (Rect.unit (s := S512x56) ![0, 15] S512x1.size inb_S512x56_S512x1_0_15).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 14 (by omega) inb_S512x7168_S512x128_0_1792 inb_S512x56_S512x1_0_14 a b)
      exact pay3_ap (View.readAt (Elt Ideal) arg6.view (Rect.unit (s := S512x7168) ![0, 1792] S512x128.size inb_S512x7168_S512x128_0_1792).toLoadRect (harg6.unread x0)) (View.readAt (Elt Ideal) arg7.view (Rect.unit (s := S512x56) ![0, 14] S512x1.size inb_S512x56_S512x1_0_14).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 13 (by omega) inb_S512x7168_S512x128_0_1664 inb_S512x56_S512x1_0_13 a b)
      exact pay3_ap (View.readAt (Elt Ideal) arg6.view (Rect.unit (s := S512x7168) ![0, 1664] S512x128.size inb_S512x7168_S512x128_0_1664).toLoadRect (harg6.unread x0)) (View.readAt (Elt Ideal) arg7.view (Rect.unit (s := S512x56) ![0, 13] S512x1.size inb_S512x56_S512x1_0_13).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 12 (by omega) inb_S512x7168_S512x128_0_1536 inb_S512x56_S512x1_0_12 a b)
      exact pay3_ap (View.readAt (Elt Ideal) arg6.view (Rect.unit (s := S512x7168) ![0, 1536] S512x128.size inb_S512x7168_S512x128_0_1536).toLoadRect (harg6.unread x0)) (View.readAt (Elt Ideal) arg7.view (Rect.unit (s := S512x56) ![0, 12] S512x1.size inb_S512x56_S512x1_0_12).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 11 (by omega) inb_S512x7168_S512x128_0_1408 inb_S512x56_S512x1_0_11 a b)
      exact pay3_ap (View.readAt (Elt Ideal) arg6.view (Rect.unit (s := S512x7168) ![0, 1408] S512x128.size inb_S512x7168_S512x128_0_1408).toLoadRect (harg6.unread x0)) (View.readAt (Elt Ideal) arg7.view (Rect.unit (s := S512x56) ![0, 11] S512x1.size inb_S512x56_S512x1_0_11).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 10 (by omega) inb_S512x7168_S512x128_0_1280 inb_S512x56_S512x1_0_10 a b)
      exact pay3_ap (View.readAt (Elt Ideal) arg6.view (Rect.unit (s := S512x7168) ![0, 1280] S512x128.size inb_S512x7168_S512x128_0_1280).toLoadRect (harg6.unread x0)) (View.readAt (Elt Ideal) arg7.view (Rect.unit (s := S512x56) ![0, 10] S512x1.size inb_S512x56_S512x1_0_10).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 9 (by omega) inb_S512x7168_S512x128_0_1152 inb_S512x56_S512x1_0_9 a b)
      exact pay3_ap (View.readAt (Elt Ideal) arg6.view (Rect.unit (s := S512x7168) ![0, 1152] S512x128.size inb_S512x7168_S512x128_0_1152).toLoadRect (harg6.unread x0)) (View.readAt (Elt Ideal) arg7.view (Rect.unit (s := S512x56) ![0, 9] S512x1.size inb_S512x56_S512x1_0_9).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 8 (by omega) inb_S512x7168_S512x128_0_1024 inb_S512x56_S512x1_0_8 a b)
      exact pay3_ap (View.readAt (Elt Ideal) arg6.view (Rect.unit (s := S512x7168) ![0, 1024] S512x128.size inb_S512x7168_S512x128_0_1024).toLoadRect (harg6.unread x0)) (View.readAt (Elt Ideal) arg7.view (Rect.unit (s := S512x56) ![0, 8] S512x1.size inb_S512x56_S512x1_0_8).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 7 (by omega) inb_S512x7168_S512x128_0_896 inb_S512x56_S512x1_0_7 a b)
      exact pay3_ap (View.readAt (Elt Ideal) arg6.view (Rect.unit (s := S512x7168) ![0, 896] S512x128.size inb_S512x7168_S512x128_0_896).toLoadRect (harg6.unread x0)) (View.readAt (Elt Ideal) arg7.view (Rect.unit (s := S512x56) ![0, 7] S512x1.size inb_S512x56_S512x1_0_7).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 6 (by omega) inb_S512x7168_S512x128_0_768 inb_S512x56_S512x1_0_6 a b)
      exact pay3_ap (View.readAt (Elt Ideal) arg6.view (Rect.unit (s := S512x7168) ![0, 768] S512x128.size inb_S512x7168_S512x128_0_768).toLoadRect (harg6.unread x0)) (View.readAt (Elt Ideal) arg7.view (Rect.unit (s := S512x56) ![0, 6] S512x1.size inb_S512x56_S512x1_0_6).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 5 (by omega) inb_S512x7168_S512x128_0_640 inb_S512x56_S512x1_0_5 a b)
      exact pay3_ap (View.readAt (Elt Ideal) arg6.view (Rect.unit (s := S512x7168) ![0, 640] S512x128.size inb_S512x7168_S512x128_0_640).toLoadRect (harg6.unread x0)) (View.readAt (Elt Ideal) arg7.view (Rect.unit (s := S512x56) ![0, 5] S512x1.size inb_S512x56_S512x1_0_5).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 4 (by omega) inb_S512x7168_S512x128_0_512 inb_S512x56_S512x1_0_4 a b)
      exact pay3_ap (View.readAt (Elt Ideal) arg6.view (Rect.unit (s := S512x7168) ![0, 512] S512x128.size inb_S512x7168_S512x128_0_512).toLoadRect (harg6.unread x0)) (View.readAt (Elt Ideal) arg7.view (Rect.unit (s := S512x56) ![0, 4] S512x1.size inb_S512x56_S512x1_0_4).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 3 (by omega) inb_S512x7168_S512x128_0_384 inb_S512x56_S512x1_0_3 a b)
      exact pay3_ap (View.readAt (Elt Ideal) arg6.view (Rect.unit (s := S512x7168) ![0, 384] S512x128.size inb_S512x7168_S512x128_0_384).toLoadRect (harg6.unread x0)) (View.readAt (Elt Ideal) arg7.view (Rect.unit (s := S512x56) ![0, 3] S512x1.size inb_S512x56_S512x1_0_3).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 2 (by omega) inb_S512x7168_S512x128_0_256 inb_S512x56_S512x1_0_2 a b)
      exact pay3_ap (View.readAt (Elt Ideal) arg6.view (Rect.unit (s := S512x7168) ![0, 256] S512x128.size inb_S512x7168_S512x128_0_256).toLoadRect (harg6.unread x0)) (View.readAt (Elt Ideal) arg7.view (Rect.unit (s := S512x56) ![0, 2] S512x1.size inb_S512x56_S512x1_0_2).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 1 (by omega) inb_S512x7168_S512x128_0_128 inb_S512x56_S512x1_0_1 a b)
      exact pay3_ap (View.readAt (Elt Ideal) arg6.view (Rect.unit (s := S512x7168) ![0, 128] S512x128.size inb_S512x7168_S512x128_0_128).toLoadRect (harg6.unread x0)) (View.readAt (Elt Ideal) arg7.view (Rect.unit (s := S512x56) ![0, 1] S512x1.size inb_S512x56_S512x1_0_1).toLoadRect (harg7.unread x1)) a b
    refine List.forall_mem_cons.2 ⟨fun x => ?_, ?_⟩
    · obtain ⟨a, b, rfl⟩ : ∃ (a : Fin 512) (b : Fin 128), x = ix2 a b := ⟨x 0, x 1, eq_ix2 x⟩
      refine Eq.trans ?_ (piece_ap arg6 harg6 arg7 harg7 x0 x1 0 (by omega) inb_S512x7168_S512x128_0_0 inb_S512x56_S512x1_0_0 a b)
      exact pay3_ap (View.readAt (Elt Ideal) arg6.view (Rect.unit (s := S512x7168) ![0, 0] S512x128.size inb_S512x7168_S512x128_0_0).toLoadRect (harg6.unread x0)) (View.readAt (Elt Ideal) arg7.view (Rect.unit (s := S512x56) ![0, 0] S512x1.size inb_S512x56_S512x1_0_0).toLoadRect (harg7.unread x1)) a b
    exact fun _ h => absurd h List.not_mem_nil
  · refine cov c arg6 harg6 arg7 harg7 x0 x1 _ ?_
    have : (y 1).val < 7168 := (y 1).isLt
    show 0 + 1 * (y 1).val < 128 * 56
    omega
  · congr 1
    funext d
    refine Fin.ext ?_
    match d with
    | ⟨0, _⟩ => show 0 + 1 * (y 0).val = (y 0).val; omega
    | ⟨1, _⟩ => show 0 + 1 * (y 1).val = (y 1).val; omega

end Cert.KernelIdeal.Hand

end
-- ==== Proof.KernelIdeal.Cell.lean ====
/- One visit of the main call, element by element: a row inside the visit's span gets its codes and its scales, any other row
   keeps what the block held. -/
module

public import proofs.«01_k».proof.Proof.KernelIdeal.Fill
public import Idealize.ShloMosaic.Lib.Pointwise
public import proofs.«01_k».proof.Proof.KernelIdeal.Run
import all proofs.«01_k».proof.Proof.KernelIdeal.Body

@[expose] public section

set_option maxRecDepth 16384

noncomputable section

namespace Cert.KernelIdeal.Hand

open Idealize.ShloMosaic Idealize.ShloMosaic.TcCoe Cert.KernelIdeal.Gen

/-- A row's activation at a column of the block. -/
def hid (x0 : Vec Ideal S512x7168 .fp8e4m3) (x1 : Vec Ideal S512x56 .f32) (x2 x3 : Vec Ideal S1x7168x256 .bf16) (x4 x5 : Vec Ideal S1x1x256 .f32) (r : Fin 512) (j : Fin 256) : EReal :=
  Spec.act ((∑ k : Fin 7168, (deq x0 x1 (ix2 r k) : EReal) * x2 (ix3 0 k j)) + x4 (ix3 0 0 j)) ((∑ k : Fin 7168, (deq x0 x1 (ix2 r k) : EReal) * x3 (ix3 0 k j)) + x5 (ix3 0 0 j))

/-- One of the row's two groups of 128 activations. -/
def grp (x0 : Vec Ideal S512x7168 .fp8e4m3) (x1 : Vec Ideal S512x56 .f32) (x2 x3 : Vec Ideal S1x7168x256 .bf16) (x4 x5 : Vec Ideal S1x1x256 .f32) (r : Fin 512) (b : Fin 2) (k : Fin 128) : EReal :=
  hid x0 x1 x2 x3 x4 x5 r ⟨128 * b.val + k.val, by omega⟩

/-- Whether a row of the visit's block lies in the visit's span, in the words the body compares. -/
def inSpan (a b d : BitVec 32) (r : Fin 512) : BitVec 1 :=
  IntOp.andi (IntOp.cmpi .sge (IntOp.addi (IntOp.muli a 512#32) (BitVec.ofNat 32 r.val)) b) (IntOp.cmpi .slt (IntOp.addi (IntOp.muli a 512#32) (BitVec.ofNat 32 r.val)) d)

theorem grp_lt (x0 : Vec Ideal S512x7168 .fp8e4m3) (x1 : Vec Ideal S512x56 .f32) (x2 x3 : Vec Ideal S1x7168x256 .bf16) (x4 x5 : Vec Ideal S1x1x256 .f32) (r : Fin 512) (b : Fin 2) :
    Spec.mag (grp x0 x1 x2 x3 x4 x5 r b) < (((2 : ℝ) ^ (126 : ℤ) : ℝ) : EReal) :=
  Spec.mag_lt _ fun _ => Spec.act_real _ _

/-- A span that holds a row is not empty. -/
theorem inSpan_cond {a b d : BitVec 32} {r : Fin 512} (h : inSpan a b d r = (1 : BitVec 1)) : k0_cond1 d b = 1#1 := by
  unfold inSpan at h
  unfold k0_cond1
  generalize IntOp.addi (IntOp.muli a 512#32) (BitVec.ofNat 32 r.val) = z at h
  have h1 : b.sle z = true ∧ z.slt d = true := by
    revert h
    simp only [IntOp.andi, IntOp.cmpi]
    cases b.sle z <;> cases z.slt d <;> decide
  have h2 : b.slt d = true := by
    rw [BitVec.sle_eq_decide, BitVec.slt_eq_decide, decide_eq_true_eq, decide_eq_true_eq] at h1
    rw [BitVec.slt_eq_decide, decide_eq_true_eq]
    exact lt_of_le_of_lt h1.1 h1.2
  have h3 : Scalar.cmpi .sgt d b = 1#1 := by
    simp [Scalar.cmpi, IntOp.cmpi, h2]
  rw [h3]; rfl

variable (c : Dev nD) (i : grid0.Coords) (arg6 : Memref sig .tc .vmem S512x7168 .fp8e4m3) (harg6 : arg6.IsWhole) (arg7 : Memref sig .tc .vmem S512x56 .f32) (harg7 : arg7.IsWhole) (arg8 : Memref sig .tc .vmem S1x7168x256 .bf16) (harg8 : arg8.IsWhole) (arg9 : Memref sig .tc .vmem S1x7168x256 .bf16) (harg9 : arg9.IsWhole) (arg10 : Memref sig .tc .vmem S1x1x256 .f32) (harg10 : arg10.IsWhole) (arg11 : Memref sig .tc .vmem S1x1x256 .f32) (harg11 : arg11.IsWhole) (arg12 : Memref sig .tc .vmem S512x256 .fp8e4m3) (harg12 : arg12.IsWhole) (arg13 : Memref sig .tc .vmem S1x512x2 .f32) (harg13 : arg13.IsWhole) (arg14 : Memref sig .tc .vmem S512x7168 .bf16) (harg14 : arg14.IsWhole) (x0 : Vec Ideal S512x7168 .fp8e4m3) (x1 : Vec Ideal S512x56 .f32) (x2 : Vec Ideal S1x7168x256 .bf16) (x3 : Vec Ideal S1x7168x256 .bf16) (x4 : Vec Ideal S1x1x256 .f32) (x5 : Vec Ideal S1x1x256 .f32)
variable (x6 : Vec Ideal S512x256 .fp8e4m3) (x7 : Vec Ideal S1x512x2 .f32) (xt0 : TbBuf0 (F := Ideal) c tbM0_0) (xt1 : TbBuf0 (F := Ideal) c tbM0_1) (xt2 : TbBuf0 (F := Ideal) c tbM0_2) (xt3 : TbBuf0 (F := Ideal) c tbM0_3)

/-- A load of a whole buffer reads the contents it was given. -/
theorem load_whole {s : Shape} {e : EltTy} (m : Memref sig .tc .vmem s e) (h : m.IsWhole) (X : s.Idx → Elt Ideal e) (B : LoadRect s) (x : B.shape.Idx) (y : s.Idx)
    (hx : ∀ a, (B.idx x a).val = (y a).val) : View.readAt (Elt Ideal) m.view B (h.unread X) x = X y :=
  (h.readAt_unread X B x).trans (congrArg X (funext fun a => Fin.ext (hx a)))

theorem r20_ap (r : Fin 512) (j : Fin 256) : run.sl.r_20 c arg6 harg6 arg7 harg7 arg8 harg8 arg9 harg9 arg10 harg10 arg11 harg11 arg14 x0 x1 x2 x3 x4 x5 (ix2 r j) = hid x0 x1 x2 x3 x4 x5 r j := by
  have e8 (k : Fin 7168) : View.readAt (Elt Ideal) arg8.view (Rect.unit (s := S1x7168x256) ![0, 0, 0] S1x7168x256.size inb_S1x7168x256_S1x7168x256_0_0_0).toLoadRect (harg8.unread x2) (ix3 0 k j) = x2 (ix3 0 k j) :=
    load_whole arg8 harg8 x2 _ _ _ fun a => by match a with | 0 => rfl | 1 => exact (Nat.zero_add _).trans (Nat.one_mul _) | 2 => exact (Nat.zero_add _).trans (Nat.one_mul _)
  have e9 (k : Fin 7168) : View.readAt (Elt Ideal) arg9.view (Rect.unit (s := S1x7168x256) ![0, 0, 0] S1x7168x256.size inb_S1x7168x256_S1x7168x256_0_0_0).toLoadRect (harg9.unread x3) (ix3 0 k j) = x3 (ix3 0 k j) :=
    load_whole arg9 harg9 x3 _ _ _ fun a => by match a with | 0 => rfl | 1 => exact (Nat.zero_add _).trans (Nat.one_mul _) | 2 => exact (Nat.zero_add _).trans (Nat.one_mul _)
  have e10 : View.readAt (Elt Ideal) arg10.view (Rect.unit (s := S1x1x256) ![0, 0, 0] S1x1x256.size inb_S1x1x256_S1x1x256_0_0_0).toLoadRect (harg10.unread x4) (ix3 0 0 j) = x4 (ix3 0 0 j) :=
    load_whole arg10 harg10 x4 _ _ _ fun a => by match a with | 0 => rfl | 1 => rfl | 2 => exact (Nat.zero_add _).trans (Nat.one_mul _)
  have e11 : View.readAt (Elt Ideal) arg11.view (Rect.unit (s := S1x1x256) ![0, 0, 0] S1x1x256.size inb_S1x1x256_S1x1x256_0_0_0).toLoadRect (harg11.unread x5) (ix3 0 0 j) = x5 (ix3 0 0 j) :=
    load_whole arg11 harg11 x5 _ _ _ fun a => by match a with | 0 => rfl | 1 => rfl | 2 => exact (Nat.zero_add _).trans (Nat.one_mul _)
  unfold run.sl.r_20
  rw [pay74_ap]
  unfold hid
  simp only [v511_ap, e8, e9, e10, e11]

theorem r23_ap (r : Fin 512) (k : Fin 128) : run.sl.r_23 c i xt0 xt2 xt3 (ix2 r k) = inSpan (run.sl.r_17 c i xt0) (run.sl.r_18 c i xt2) (run.sl.r_19 c i xt3) r := by
  unfold run.sl.r_23 run.sl.r_21 run.sl.r_22
  exact mask_ap _ _ _ r k

theorem r25_ap (r : Fin 512) : k0_pay80 (run.sl.r_20 c arg6 harg6 arg7 harg7 arg8 harg8 arg9 harg9 arg10 harg10 arg11 harg11 arg14 x0 x1 x2 x3 x4 x5) (ix2 r 0) = Spec.mag (grp x0 x1 x2 x3 x4 x5 r 0) := by
  rw [pay80_ap]
  congr 1; funext k
  rw [r20_ap]
  unfold grp; congr 1; exact Fin.ext (by simp)

theorem r31_ap (r : Fin 512) : k0_pay88 (run.sl.r_20 c arg6 harg6 arg7 harg7 arg8 harg8 arg9 harg9 arg10 harg10 arg11 harg11 arg14 x0 x1 x2 x3 x4 x5) (ix2 r 0) = Spec.mag (grp x0 x1 x2 x3 x4 x5 r 1) := by
  rw [pay88_ap]
  congr 1; funext k
  rw [r20_ap]
  rfl

theorem r24_ap (r : Fin 512) (k : Fin 128) : run.sl.r_24 c arg6 harg6 arg7 harg7 arg8 harg8 arg9 harg9 arg10 harg10 arg11 harg11 arg14 x0 x1 x2 x3 x4 x5 (ix2 r k) = grp x0 x1 x2 x3 x4 x5 r 0 k := by
  have e (v : FVec Ideal S512x256 .f32) : k0_pay79 v (ix2 r k) = v (ix2 r ⟨k.val, by omega⟩) := by pointwise [k0_pay79]
  unfold run.sl.r_24
  rw [e, r20_ap]
  unfold grp; congr 1; exact Fin.ext (by simp)

theorem r30_ap (r : Fin 512) (k : Fin 128) : run.sl.r_30 c arg6 harg6 arg7 harg7 arg8 harg8 arg9 harg9 arg10 harg10 arg11 harg11 arg14 x0 x1 x2 x3 x4 x5 (ix2 r k) = grp x0 x1 x2 x3 x4 x5 r 1 k := by
  have e (v : FVec Ideal S512x256 .f32) : k0_pay87 v (ix2 r k) = v (ix2 r ⟨128 + k.val, by omega⟩) := by pointwise [k0_pay87]
  unfold run.sl.r_30
  rw [e, r20_ap]
  rfl

/-- The codes of the left group. -/
theorem left_ap (o : Vec Ideal S512x128 .fp8e4m3) (r : Fin 512) (k : Fin 128) :
    k0_pay85 (run.sl.r_23 c i xt0 xt2 xt3) (run.sl.r_24 c arg6 harg6 arg7 harg7 arg8 harg8 arg9 harg9 arg10 harg10 arg11 harg11 arg14 x0 x1 x2 x3 x4 x5) (run.sl.r_27 c arg6 harg6 arg7 harg7 arg8 harg8 arg9 harg9 arg10 harg10 arg11 harg11 arg14 x0 x1 x2 x3 x4 x5) (run.sl.r_28 c arg6 harg6 arg7 harg7 arg8 harg8 arg9 harg9 arg10 harg10 arg11 harg11 arg14 x0 x1 x2 x3 x4 x5) 253#32 o (ix2 r k)
      = Scalar.select (inSpan (run.sl.r_17 c i xt0) (run.sl.r_18 c i xt2) (run.sl.r_19 c i xt3) r) (Spec.code (grp x0 x1 x2 x3 x4 x5 r 0) k) (o (ix2 r k)) := by
  unfold run.sl.r_27 run.sl.r_28
  rw [pay85_ap, r23_ap, r24_ap]
  unfold run.sl.r_25 run.sl.r_26
  rw [pay82_ap, r25_ap, Quant.invB_eq (grp_lt ..)]
  rfl

/-- The codes of the right group. -/
theorem right_ap (o : Vec Ideal S512x128 .fp8e4m3) (r : Fin 512) (k : Fin 128) :
    k0_pay1 (run.sl.r_23 c i xt0 xt2 xt3) (run.sl.r_35 c arg6 harg6 arg7 harg7 arg8 harg8 arg9 harg9 arg10 harg10 arg11 harg11 arg14 x0 x1 x2 x3 x4 x5) o (ix2 r k)
      = Scalar.select (inSpan (run.sl.r_17 c i xt0) (run.sl.r_18 c i xt2) (run.sl.r_19 c i xt3) r) (Spec.code (grp x0 x1 x2 x3 x4 x5 r 1) k) (o (ix2 r k)) := by
  unfold run.sl.r_35
  rw [pay1_ap, pay96_ap, r23_ap, r30_ap]
  unfold run.sl.r_32 run.sl.r_33
  rw [pay93_ap]
  unfold run.sl.r_31
  rw [r31_ap, Quant.invB_eq (grp_lt ..)]
  rfl

/-- The scale of the left group. -/
theorem lefts_ap (o : Vec Ideal S1x512x1 .f32) (r : Fin 512) :
    k0_pay86 (run.sl.r_23 c i xt0 xt2 xt3) (run.sl.r_29 c arg6 harg6 arg7 harg7 arg8 harg8 arg9 harg9 arg10 harg10 arg11 harg11 arg14 x0 x1 x2 x3 x4 x5) o (ix3 0 r 0)
      = Scalar.select (inSpan (run.sl.r_17 c i xt0) (run.sl.r_18 c i xt2) (run.sl.r_19 c i xt3) r) (Spec.scl (grp x0 x1 x2 x3 x4 x5 r 0)) (o (ix3 0 r 0)) := by
  unfold run.sl.r_29
  rw [pay86_ap, r23_ap]
  unfold run.sl.r_25 run.sl.r_26
  rw [pay82_ap, r25_ap, Quant.scaleB_eq (grp_lt ..)]
  rfl

/-- The scale of the right group. -/
theorem rights_ap (o : Vec Ideal S1x512x1 .f32) (r : Fin 512) :
    k0_pay2 (run.sl.r_23 c i xt0 xt2 xt3) (run.sl.r_34 c arg6 harg6 arg7 harg7 arg8 harg8 arg9 harg9 arg10 harg10 arg11 harg11 arg14 x0 x1 x2 x3 x4 x5) o (ix3 0 r 0)
      = Scalar.select (inSpan (run.sl.r_17 c i xt0) (run.sl.r_18 c i xt2) (run.sl.r_19 c i xt3) r) (Spec.scl (grp x0 x1 x2 x3 x4 x5 r 1)) (o (ix3 0 r 0)) := by
  unfold run.sl.r_34
  rw [pay2_ap, pay95_ap, r23_ap]
  unfold run.sl.r_32 run.sl.r_33
  rw [pay93_ap]
  unfold run.sl.r_31
  rw [r31_ap, Quant.scaleB_eq (grp_lt ..)]
  rfl

/-- The codes' block after a visit. -/
theorem run6_ap (r : Fin 512) (b : Fin 2) (k : Fin 128) (j : Fin 256) (hj : j.val = 128 * b.val + k.val) :
    (run c i arg6 harg6 arg7 harg7 arg8 harg8 arg9 harg9 arg10 harg10 arg11 harg11 arg12 harg12 arg13 harg13 arg14 harg14 x0 x1 x2 x3 x4 x5 x6 x7 xt0 xt1 xt2 xt3).1 (ix2 r j) = Scalar.select (inSpan (run.sl.r_17 c i xt0) (run.sl.r_18 c i xt2) (run.sl.r_19 c i xt3) r) (Spec.code (grp x0 x1 x2 x3 x4 x5 r b) k) (x6 (ix2 r j)) := by
  unfold run
  dsimp only
  by_cases hc : k0_cond1 (run.sl.r c i xt3) (run.sl.r_1 c i xt2) = 1#1
  · rw [dif_pos hc]
    match b, hj with
    | 0, hj =>
      have hj : j.val = k.val := by simpa using hj
      rw [View.read_writes_cons_miss_of_axis _ _ _ _ (ix2 r j) 1 128 128 rfl rfl rfl (.inl (by show j.val < 128; omega))]
      rw [View.read_writes_cons_hit_of_coords _ _ _ _ _ (ix2 r k) (ix2 r j) (fun a => by match a with | 0 => exact ((Nat.zero_add _).trans (Nat.one_mul _)).symm | 1 => exact hj.trans ((Nat.zero_add _).trans (Nat.one_mul _)).symm)]
      rw [left_ap]
      congr 1
      exact load_whole arg12 harg12 x6 _ _ _ fun a => by match a with | 0 => exact (Nat.zero_add _).trans (Nat.one_mul _) | 1 => exact ((Nat.zero_add _).trans (Nat.one_mul _)).trans hj.symm
    | 1, hj =>
      have hj : j.val = 128 + k.val := hj
      rw [View.read_writes_cons_hit_of_coords _ _ _ _ _ (ix2 r k) (ix2 r j) (fun a => by match a with | 0 => exact ((Nat.zero_add _).trans (Nat.one_mul _)).symm | 1 => exact hj.trans (congrArg (128 + ·) (Nat.one_mul _).symm))]
      rw [right_ap]
      congr 1
      exact load_whole arg12 harg12 x6 _ _ _ fun a => by match a with | 0 => exact (Nat.zero_add _).trans (Nat.one_mul _) | 1 => exact (congrArg (128 + ·) (Nat.one_mul _)).trans hj.symm
  · rw [dif_neg hc]
    have hn : ¬ inSpan (run.sl.r_17 c i xt0) (run.sl.r_18 c i xt2) (run.sl.r_19 c i xt3) r = (1 : BitVec 1) := fun h => hc (inSpan_cond h)
    unfold Scalar.select
    rw [if_neg hn]
    exact congrFun (harg12.read_unread x6) _

/-- The scales' block after a visit. -/
theorem run7_ap (r : Fin 512) (b : Fin 2) :
    (run c i arg6 harg6 arg7 harg7 arg8 harg8 arg9 harg9 arg10 harg10 arg11 harg11 arg12 harg12 arg13 harg13 arg14 harg14 x0 x1 x2 x3 x4 x5 x6 x7 xt0 xt1 xt2 xt3).2.1 (ix3 0 r b) = Scalar.select (inSpan (run.sl.r_17 c i xt0) (run.sl.r_18 c i xt2) (run.sl.r_19 c i xt3) r) (Spec.scl (grp x0 x1 x2 x3 x4 x5 r b)) (x7 (ix3 0 r b)) := by
  unfold run
  dsimp only
  by_cases hc : k0_cond1 (run.sl.r c i xt3) (run.sl.r_1 c i xt2) = 1#1
  · rw [dif_pos hc]
    match b with
    | 0 =>
      rw [View.read_writes_cons_miss_of_axis _ _ _ _ (ix3 0 r 0) 2 1 1 rfl rfl rfl (.inl (by show 0 < 1; omega))]
      rw [View.read_writes_cons_hit_of_coords _ _ _ _ _ (ix3 0 r 0) (ix3 0 r 0) (fun a => by match a with | 0 => rfl | 1 => exact ((Nat.zero_add _).trans (Nat.one_mul _)).symm | 2 => rfl)]
      rw [lefts_ap]
      congr 1
      exact load_whole arg13 harg13 x7 _ _ _ fun a => by match a with | 0 => rfl | 1 => exact (Nat.zero_add _).trans (Nat.one_mul _) | 2 => rfl
    | 1 =>
      rw [View.read_writes_cons_hit_of_coords _ _ _ _ _ (ix3 0 r 0) (ix3 0 r 1) (fun a => by match a with | 0 => rfl | 1 => exact ((Nat.zero_add _).trans (Nat.one_mul _)).symm | 2 => rfl)]
      rw [rights_ap]
      congr 1
      exact load_whole arg13 harg13 x7 _ _ _ fun a => by match a with | 0 => rfl | 1 => exact (Nat.zero_add _).trans (Nat.one_mul _) | 2 => rfl
  · rw [dif_neg hc]
    have hn : ¬ inSpan (run.sl.r_17 c i xt0) (run.sl.r_18 c i xt2) (run.sl.r_19 c i xt3) r = (1 : BitVec 1) := fun h => hc (inSpan_cond h)
    unfold Scalar.select
    rw [if_neg hn]
    exact congrFun (harg13.read_unread x7) _

end Cert.KernelIdeal.Hand
-- ==== Proof.KernelIdeal.Blocks.lean ====
/- The blocks that a visit reads, in the launch memory, and what the visit computes from them. -/
module

public import proofs.«01_k».proof.Proof.KernelIdeal.Cell
public import proofs.«01_k».proof.Proof.KernelIdeal.Admit
public import Idealize.ShloMosaic.Lib.Pipeline.ValueKit

@[expose] public section

set_option maxRecDepth 16384

noncomputable section

namespace Cert.KernelIdeal.Hand

open Idealize.ShloMosaic Idealize.ShloMosaic.TcCoe Cert.KernelIdeal.Gen

/-- A point's two coordinates. -/
theorem coords0 : ∀ t : Fin grid0.N, (grid0.coords t 0).val = t.val / 51 := by decide +kernel
theorem coords1 : ∀ t : Fin grid0.N, (grid0.coords t 1).val = t.val % 51 := by decide +kernel

variable (m : (ℓ : Loc nD τ sig) → Buf (Elt Ideal) ℓ) (h : Fills m) (hO : Ok m)
include h

theorem index0 (t : Fin (cfgM m hO).N) : ((cfgM m hO).win 0).index t = ![Plan.vt (nat m) (t.val % 51), 0] := by
  rw [← coords1 t]; try rw [← coords0 t]
  exact ix_vt0 m h (grid0.coords t)
theorem index1 (t : Fin (cfgM m hO).N) : ((cfgM m hO).win 1).index t = ![Plan.vt (nat m) (t.val % 51), 0] := by
  rw [← coords1 t]; try rw [← coords0 t]
  exact ix_vt1 m h (grid0.coords t)
theorem index2 (t : Fin (cfgM m hO).N) : ((cfgM m hO).win 2).index t = ![Plan.ve (nat m) (t.val % 51), 0, t.val / 51] := by
  rw [← coords1 t]; try rw [← coords0 t]
  exact ix_ve2 m h (grid0.coords t)
theorem index3 (t : Fin (cfgM m hO).N) : ((cfgM m hO).win 3).index t = ![Plan.ve (nat m) (t.val % 51), 0, t.val / 51 + 14] := by
  rw [← coords1 t]; try rw [← coords0 t]
  exact ix_ve3 m h (grid0.coords t)
theorem index4 (t : Fin (cfgM m hO).N) : ((cfgM m hO).win 4).index t = ![Plan.ve (nat m) (t.val % 51), 0, t.val / 51] := by
  rw [← coords1 t]; try rw [← coords0 t]
  exact ix_ve4 m h (grid0.coords t)
theorem index5 (t : Fin (cfgM m hO).N) : ((cfgM m hO).win 5).index t = ![Plan.ve (nat m) (t.val % 51), 0, t.val / 51 + 14] := by
  rw [← coords1 t]; try rw [← coords0 t]
  exact ix_ve5 m h (grid0.coords t)
theorem index6 (t : Fin (cfgM m hO).N) : ((cfgM m hO).win 6).index t = ![Plan.vt (nat m) (t.val % 51), t.val / 51] := by
  rw [← coords1 t]; try rw [← coords0 t]
  exact ix_vt6 m h (grid0.coords t)
theorem index7 (t : Fin (cfgM m hO).N) : ((cfgM m hO).win 7).index t = ![t.val / 51, Plan.vt (nat m) (t.val % 51), 0] := by
  rw [← coords1 t]; try rw [← coords0 t]
  exact ix_vt7 m h (grid0.coords t)

theorem blk0 (c : Dev nD) (t : Fin (cfgM m hO).N) (r : Fin 512) (k : Fin 7168) (ρ : Fin 24576) (hρ : ρ.val = 512 * Plan.vt (nat m) (t.val % 51) + r.val) :
    iblk m hO c 0 t (ix2 r k) = V m c main_arg0 (ix2 ρ k) := by
  blk_ext [iblk, index0 m h hO t]

theorem blk1 (c : Dev nD) (t : Fin (cfgM m hO).N) (r : Fin 512) (k : Fin 56) (ρ : Fin 24576) (hρ : ρ.val = 512 * Plan.vt (nat m) (t.val % 51) + r.val) :
    iblk m hO c 1 t (ix2 r k) = V m c main_arg1 (ix2 ρ k) := by
  blk_ext [iblk, index1 m h hO t]

theorem blk2 (c : Dev nD) (t : Fin (cfgM m hO).N) (e : Fin 4) (he : e.val = Plan.ve (nat m) (t.val % 51)) (k : Fin 7168) (j : Fin 256) (q : Fin 7168) (hq : q.val = 256 * (t.val / 51) + j.val) :
    iblk m hO c 2 t (ix3 0 k j) = V m c main_arg2 (ix3 e k q) := by
  blk_ext [iblk, index2 m h hO t]

theorem blk3 (c : Dev nD) (t : Fin (cfgM m hO).N) (e : Fin 4) (he : e.val = Plan.ve (nat m) (t.val % 51)) (k : Fin 7168) (j : Fin 256) (q : Fin 7168) (hq : q.val = 3584 + (256 * (t.val / 51) + j.val)) :
    iblk m hO c 3 t (ix3 0 k j) = V m c main_arg2 (ix3 e k q) := by
  blk_ext [iblk, index3 m h hO t]

theorem blk4 (c : Dev nD) (t : Fin (cfgM m hO).N) (e : Fin 4) (he : e.val = Plan.ve (nat m) (t.val % 51)) (j : Fin 256) (q : Fin 7168) (hq : q.val = 256 * (t.val / 51) + j.val) :
    iblk m hO c 4 t (ix3 0 0 j) = V m c main_v61 (ix3 e 0 q) := by
  blk_ext [iblk, index4 m h hO t]

theorem blk5 (c : Dev nD) (t : Fin (cfgM m hO).N) (e : Fin 4) (he : e.val = Plan.ve (nat m) (t.val % 51)) (j : Fin 256) (q : Fin 7168) (hq : q.val = 3584 + (256 * (t.val / 51) + j.val)) :
    iblk m hO c 5 t (ix3 0 0 j) = V m c main_v62 (ix3 e 0 q) := by
  blk_ext [iblk, index5 m h hO t]

end Cert.KernelIdeal.Hand
-- ==== Proof.KernelIdeal.Visit.lean ====
/- What a visit computes, in the launch memory. -/
module

public import proofs.«01_k».proof.Proof.KernelIdeal.Blocks
import all proofs.«01_k».proof.Proof.KernelIdeal.Body

@[expose] public section

set_option maxRecDepth 16384

noncomputable section

namespace Cert.KernelIdeal.Hand

open Idealize.ShloMosaic Idealize.ShloMosaic.TcCoe Cert.KernelIdeal.Gen

variable (m : (ℓ : Loc nD τ sig) → Buf (Elt Ideal) ℓ)

/-- A group of activations, from the launch memory. -/
def grpM (e : Fin 4) (ρ : Fin 24576) (g : Fin 28) (k : Fin 128) : EReal :=
  Spec.group (m (((0 : Dev nD) : Thread nD τ).loc main_arg0)) (m (((0 : Dev nD) : Thread nD τ).loc main_arg1)) (m (((0 : Dev nD) : Thread nD τ).loc main_arg2)) (m (((0 : Dev nD) : Thread nD τ).loc main_arg3)) e ρ g k

theorem bias61 (e : Fin 4) (q : Fin 7168) : V m (0 : Dev nD) main_v61 (ix3 e 0 q) = m (((0 : Dev nD) : Thread nD τ).loc main_arg3) (ix2 e q) := by
  rw [V_v61]
  generalize m (((0 : Dev nD) : Thread nD τ).loc main_arg3) = x
  pointwise []
theorem bias62 (e : Fin 4) (q : Fin 7168) : V m (0 : Dev nD) main_v62 (ix3 e 0 q) = m (((0 : Dev nD) : Thread nD τ).loc main_arg3) (ix2 e q) := by
  rw [V_v62]
  generalize m (((0 : Dev nD) : Thread nD τ).loc main_arg3) = x
  pointwise []

variable (h : Fills m) (hO : Ok m)
include h

/-- A visit's group is the group of the visit's expert at the block's row. -/
theorem grp_eq (c : Dev nD) (t : Fin (cfgM m hO).N) (r : Fin 512) (b : Fin 2) (k : Fin 128) (e : Fin 4) (he : e.val = Plan.ve (nat m) (t.val % 51))
    (ρ : Fin 24576) (hρ : ρ.val = 512 * Plan.vt (nat m) (t.val % 51) + r.val) (g : Fin 28) (hg : g.val = 2 * (t.val / 51) + b.val) :
    grp (iblk m hO c 0 t) (iblk m hO c 1 t) (iblk m hO c 2 t) (iblk m hO c 3 t) (iblk m hO c 4 t) (iblk m hO c 5 t) r b k = grpM m e ρ g k := by
  obtain rfl : c = 0 := Subsingleton.elim _ _
  have hb := b.isLt
  have e1 (j : Fin 7168) : deq (iblk m hO 0 0 t) (iblk m hO 0 1 t) (ix2 r j)
      = HMul.hMul (α := EReal) (β := EReal) (γ := EReal) (m (((0 : Dev nD) : Thread nD τ).loc main_arg0) (ix2 ρ j)) (m (((0 : Dev nD) : Thread nD τ).loc main_arg1) (ix2 ρ ⟨j.val / 128, by omega⟩)) := by
    exact congrArg₂ (fun a b : EReal => a * b) ((blk0 m h hO 0 t r j ρ hρ).trans (congrFun (V_main_arg0 m 0) _)) ((blk1 m h hO 0 t r ⟨j.val / 128, by omega⟩ ρ hρ).trans (congrFun (V_main_arg1 m 0) _))
  have e2 (j : Fin 7168) := (blk2 m h hO 0 t e he j ⟨128 * b.val + k.val, by omega⟩ ⟨128 * g.val + k.val, by omega⟩ (by show 128 * g.val + k.val = 256 * (t.val / 51) + (128 * b.val + k.val); omega)).trans (congrFun (V_main_arg2 m 0) _)
  have e3 (j : Fin 7168) := (blk3 m h hO 0 t e he j ⟨128 * b.val + k.val, by omega⟩ ⟨3584 + (128 * g.val + k.val), by omega⟩ (by show 3584 + (128 * g.val + k.val) = 3584 + (256 * (t.val / 51) + (128 * b.val + k.val)); omega)).trans (congrFun (V_main_arg2 m 0) _)
  have e4 := (blk4 m h hO 0 t e he ⟨128 * b.val + k.val, by omega⟩ ⟨128 * g.val + k.val, by omega⟩ (by show 128 * g.val + k.val = 256 * (t.val / 51) + (128 * b.val + k.val); omega)).trans (bias61 m e _)
  have e5 := (blk5 m h hO 0 t e he ⟨128 * b.val + k.val, by omega⟩ ⟨3584 + (128 * g.val + k.val), by omega⟩ (by show 3584 + (128 * g.val + k.val) = 3584 + (256 * (t.val / 51) + (128 * b.val + k.val)); omega)).trans (bias62 m e _)
  unfold grp hid grpM Spec.group Spec.lin
  refine congrArg₂ Spec.act (congrArg₂ (fun a b : EReal => a + b) (Finset.sum_congr rfl fun j _ => ?_) e4) (congrArg₂ (fun a b : EReal => a + b) (Finset.sum_congr rfl fun j _ => ?_) e5)
  · exact congrArg₂ (fun a b : EReal => a * b) (e1 j) (e2 j)
  · exact congrArg₂ (fun a b : EReal => a * b) (e1 j) (e3 j)

theorem word17 (c : Dev nD) (i : grid0.Coords) : run.sl.r_17 c i (tbl m 0) = BitVec.ofNat 32 (Plan.vt (nat m) (i 1).val) := by
  obtain rfl : c = 0 := Subsingleton.elim _ _
  exact vt_word m h i
theorem word18 (c : Dev nD) (i : grid0.Coords) : run.sl.r_18 c i (tbl m 2) = BitVec.ofNat 32 (Plan.st (nat m) (i 1).val) := by
  obtain rfl : c = 0 := Subsingleton.elim _ _
  have e : run.sl.r_18 0 i (tbl m 2) = tbl m 2 (ix1 (i 1)) := by
    unfold run.sl.r_18
    generalize tbl m 2 = x
    exact congrArg x (cell i)
  exact (e.trans (congrFun (V_st m) _)).trans (st_ap (sizes m) (nat m) h.sizes h.total (i 1))
theorem word19 (c : Dev nD) (i : grid0.Coords) : run.sl.r_19 c i (tbl m 3) = BitVec.ofNat 32 (Plan.en (nat m) (i 1).val) := by
  obtain rfl : c = 0 := Subsingleton.elim _ _
  have e : run.sl.r_19 0 i (tbl m 3) = tbl m 3 (ix1 (i 1)) := by
    unfold run.sl.r_19
    generalize tbl m 3 = x
    exact congrArg x (cell i)
  exact (e.trans (congrFun (V_en m) _)).trans (en_ap (sizes m) (nat m) h.sizes h.total (i 1))

omit h in
theorem inSpan_iff (a b d : ℕ) (ha : a < 48) (hb : b ≤ 24576) (hd : d ≤ 24576) (r : Fin 512) :
    inSpan (BitVec.ofNat 32 a) (BitVec.ofNat 32 b) (BitVec.ofNat 32 d) r = (1 : BitVec 1) ↔ b ≤ 512 * a + r.val ∧ 512 * a + r.val < d := by
  unfold inSpan
  have e : IntOp.addi (IntOp.muli (BitVec.ofNat 32 a) 512#32) (BitVec.ofNat 32 r.val) = BitVec.ofNat 32 (512 * a + r.val) := by
    apply BitVec.eq_of_toNat_eq
    simp only [IntOp.addi, IntOp.muli, BitVec.toNat_add, BitVec.toNat_mul, BitVec.toNat_ofNat]
    omega
  rw [e]
  have h1 := sge_ofNat (a := 512 * a + r.val) (b := b) (by omega) (by omega)
  have h2 := slt_ofNat (a := 512 * a + r.val) (b := d) (by omega) (by omega)
  rw [← h1, ← h2]
  exact and_one _ _

end Cert.KernelIdeal.Hand
-- ==== Proof.KernelIdeal.Keep.lean ====
/- What an output block holds after a visit: the results of every row of the block that some visit so far has had in its span. -/
module

public import proofs.«01_k».proof.Proof.KernelIdeal.Visit

@[expose] public section

set_option maxRecDepth 16384

noncomputable section

namespace Cert.Plan

variable (f : ℕ → ℕ)

/-- Some visit of the block of visit `v`, not after `v`, has the row in its span. -/
def Seen (v ρ : ℕ) : Prop := ∃ v', v' ≤ v ∧ vt f v' = vt f v ∧ st f v' ≤ ρ ∧ ρ < en f v'

/-- A row lies in one expert's rows only. -/
theorem expert_unique {e e' ρ : ℕ} (h1 : S f e ≤ ρ) (h2 : ρ < E f e) (h1' : S f e' ≤ ρ) (h2' : ρ < E f e') : e = e' := by
  have key : ∀ {a b : ℕ}, a < b → E f a ≤ S f b := fun {a b} hab => by
    obtain ⟨d, rfl⟩ : ∃ d, b = d + 1 := ⟨b - 1, by omega⟩
    rw [S_succ]; exact E_mono f (by omega)
  rcases lt_trichotomy e e' with h | h | h
  · have := key h; omega
  · exact h
  · have := key h; omega

/-- A visit that has seen a row which its own span does not hold is not the first of its block. -/
theorem Seen.prev {v ρ : ℕ} (hf : f 0 + f 1 + f 2 + f 3 = 24576) (h : Seen f v ρ) (hn : ¬(st f v ≤ ρ ∧ ρ < en f v)) :
    0 < v ∧ vt f (v - 1) = vt f v ∧ Seen f (v - 1) ρ := by
  obtain ⟨v', hle, ht, hs⟩ := h
  have hne : v' ≠ v := fun e => hn (e ▸ hs)
  have h1 := vt_mono f hf (show v' ≤ v - 1 by omega)
  have h2 := vt_mono f hf (show v - 1 ≤ v by omega)
  have e : vt f (v - 1) = vt f v := by omega
  exact ⟨by omega, e, v', by omega, ht.trans e.symm, hs⟩

end Cert.Plan

namespace Cert.KernelIdeal.Hand

open Idealize.ShloMosaic Idealize.ShloMosaic.TcCoe Cert.KernelIdeal.Gen

variable (m : (ℓ : Loc nD τ sig) → Buf (Elt Ideal) ℓ)

/-- The rows of a codes block that have been seen hold their codes. -/
def R6 (hO : Ok m) (_ : Dev nD) (t : Fin (cfgM m hO).N) (X : Vec Ideal S512x256 .fp8e4m3) : Prop :=
  ∀ (r : Fin 512) (j : Fin 256) (b : Fin 2) (k : Fin 128) (e : Fin 4) (ρ : Fin 24576) (g : Fin 28), j.val = 128 * b.val + k.val →
    ρ.val = 512 * Plan.vt (nat m) (t.val % 51) + r.val → g.val = 2 * (t.val / 51) + b.val → Plan.Seen (nat m) (t.val % 51) ρ.val →
    Plan.S (nat m) e.val ≤ ρ.val → ρ.val < Plan.E (nat m) e.val → (X (ix2 r j) : EReal) = Spec.code (grpM m e ρ g) k

/-- The rows of a scales block that have been seen hold their scales. -/
def R7 (hO : Ok m) (_ : Dev nD) (t : Fin (cfgM m hO).N) (X : Vec Ideal S1x512x2 .f32) : Prop :=
  ∀ (r : Fin 512) (b : Fin 2) (e : Fin 4) (ρ : Fin 24576) (g : Fin 28),
    ρ.val = 512 * Plan.vt (nat m) (t.val % 51) + r.val → g.val = 2 * (t.val / 51) + b.val → Plan.Seen (nat m) (t.val % 51) ρ.val →
    Plan.S (nat m) e.val ≤ ρ.val → ρ.val < Plan.E (nat m) e.val → (X (ix3 0 r b) : EReal) = Spec.scl (grpM m e ρ g)

variable (h : Fills m) (hO : Ok m)
include h

/-- A point whose next point is a visit of the same block does not write its output block back. -/
theorem no_flush6 (t : Fin (cfgM m hO).N) (hv : t.val % 51 + 1 < 51) (e : Plan.vt (nat m) (t.val % 51 + 1) = Plan.vt (nat m) (t.val % 51)) :
    ((cfgM m hO).win 6).flush t = false := by
  have hN : (cfgM m hO).N = 714 := rfl
  have ht := t.isLt
  have hlt : t.val + 1 < (cfgM m hO).grid.N := by show t.val + 1 < 714; omega
  have hi : ((cfgM m hO).win 6).index ⟨t.val + 1, hlt⟩ = ((cfgM m hO).win 6).index t := by
    rw [index6 m h hO, index6 m h hO]
    have h1 : (t.val + 1) % 51 = t.val % 51 + 1 := by omega
    have h2 : (t.val + 1) / 51 = t.val / 51 := by omega
    show ![Plan.vt (nat m) ((t.val + 1) % 51), (t.val + 1) / 51] = _
    rw [h1, h2, e]
  unfold Pipeline.Window.flush
  have h1 : ¬t.val + 1 = (cfgM m hO).grid.N := by omega
  have h2 : ¬∃ h : t.val + 1 < (cfgM m hO).grid.N, ((cfgM m hO).win 6).index ⟨t.val + 1, h⟩ ≠ ((cfgM m hO).win 6).index t := fun ⟨_, hx⟩ => hx hi
  rw [decide_eq_false h1, decide_eq_false h2, Bool.or_false, Bool.and_false]

theorem no_flush7 (t : Fin (cfgM m hO).N) (hv : t.val % 51 + 1 < 51) (e : Plan.vt (nat m) (t.val % 51 + 1) = Plan.vt (nat m) (t.val % 51)) :
    ((cfgM m hO).win 7).flush t = false := by
  have hN : (cfgM m hO).N = 714 := rfl
  have ht := t.isLt
  have hlt : t.val + 1 < (cfgM m hO).grid.N := by show t.val + 1 < 714; omega
  have hi : ((cfgM m hO).win 7).index ⟨t.val + 1, hlt⟩ = ((cfgM m hO).win 7).index t := by
    rw [index7 m h hO, index7 m h hO]
    have h1 : (t.val + 1) % 51 = t.val % 51 + 1 := by omega
    have h2 : (t.val + 1) / 51 = t.val / 51 := by omega
    show ![(t.val + 1) / 51, Plan.vt (nat m) ((t.val + 1) % 51), 0] = _
    rw [h1, h2, e]
  unfold Pipeline.Window.flush
  have h1 : ¬t.val + 1 = (cfgM m hO).grid.N := by omega
  have h2 : ¬∃ h : t.val + 1 < (cfgM m hO).grid.N, ((cfgM m hO).win 7).index ⟨t.val + 1, h⟩ ≠ ((cfgM m hO).win 7).index t := fun ⟨_, hx⟩ => hx hi
  rw [decide_eq_false h1, decide_eq_false h2, Bool.or_false, Bool.and_false]

/-- A row of the visit's own span. -/
theorem own_span (c : Dev nD) (t : Fin (cfgM m hO).N) (r : Fin 512) :
    inSpan (run.sl.r_17 c (grid0.coords t) (tbl m 0)) (run.sl.r_18 c (grid0.coords t) (tbl m 2)) (run.sl.r_19 c (grid0.coords t) (tbl m 3)) r = (1 : BitVec 1)
      ↔ Plan.st (nat m) (t.val % 51) ≤ 512 * Plan.vt (nat m) (t.val % 51) + r.val ∧ 512 * Plan.vt (nat m) (t.val % 51) + r.val < Plan.en (nat m) (t.val % 51) := by
  have e1 := coords1 t
  have hs : Plan.st (nat m) (t.val % 51) ≤ 24576 := by
    unfold Plan.st; split
    · have h1 := Plan.E_eq (nat m) (Plan.ve (nat m) (t.val % 51)); have h2 := Plan.E_le (nat m) h.total _ (Plan.ve_lt (nat m) h.total (t.val % 51)); omega
    · omega
  have hn : Plan.en (nat m) (t.val % 51) ≤ 24576 := by
    unfold Plan.en; split
    · exact Plan.E_le (nat m) h.total _ (Plan.ve_lt (nat m) h.total (t.val % 51))
    · omega
  rw [word17 m h, word18 m h, word19 m h, show (grid0.coords t 1).val = t.val % 51 from e1]
  exact inSpan_iff _ _ _ (Plan.vt_lt (nat m) h.total _) hs hn r

theorem keeps6 (Q7 : Dev nD → Fin (cfgM m hO).N → Vec Ideal S1x512x2 .f32 → Prop) (c : Dev nD) (t : Fin (cfgM m hO).N) (Y6 : Vec Ideal S512x256 .fp8e4m3) (Y7 : Vec Ideal S1x512x2 .f32)
    (hF : Finds6 m hO (R6 m hO) Q7 c t Y6) : R6 m hO c t (out6 m hO c t Y6 Y7) := by
  intro r j b k e ρ g hj hρ hg hS h1 h2
  have hN : (cfgM m hO).N = 714 := rfl
  have ht := t.isLt
  refine (run6_ap (r := r) (b := b) (k := k) (j := j) (hj := hj) ..).trans ?_
  have hs := own_span m h hO c t r
  by_cases hc : Plan.st (nat m) (t.val % 51) ≤ 512 * Plan.vt (nat m) (t.val % 51) + r.val ∧ 512 * Plan.vt (nat m) (t.val % 51) + r.val < Plan.en (nat m) (t.val % 51)
  · unfold Scalar.select
    rw [if_pos (hs.2 hc)]
    have hv := Plan.st_en (nat m) (t.val % 51) ρ.val (by omega) (by omega)
    have he := Plan.expert_unique (nat m) h1 h2 hv.1 hv.2
    exact congrArg (fun f => Spec.code f k) (funext fun q => grp_eq m h hO c t r b q e he ρ hρ g hg)
  · unfold Scalar.select
    rw [if_neg fun hx => hc (hs.1 hx)]
    obtain ⟨h0, hv, hS'⟩ := hS.prev (nat m) h.total (by omega)
    have hlt : t.val - 1 < (cfgM m hO).N := by omega
    have e1 : (t.val - 1) % 51 = t.val % 51 - 1 := by omega
    have e2 : (t.val - 1) / 51 = t.val / 51 := by omega
    have hnf := no_flush6 m h hO ⟨t.val - 1, hlt⟩ (by show (t.val - 1) % 51 + 1 < 51; omega)
      (by show Plan.vt (nat m) ((t.val - 1) % 51 + 1) = Plan.vt (nat m) ((t.val - 1) % 51); rw [e1, hv]; congr 1; omega)
    have hL := ((Pipeline.RDat.finds_of_pos (rdat m hO (R6 m hO) Q7 c) (w := 6) (t := t) rfl (by omega) Y6).1 hF).resolve_left
      (by rw [hnf]; exact Bool.false_ne_true)
    have hR : R6 m hO c ⟨t.val - 1, hlt⟩ Y6 := Pipeline.Dat.toRRel_leaves (w := 6) (fgt := marked) (dats m hO 0 c) rfl hL
    exact hR r j b k e ρ g hj (by show _ = 512 * Plan.vt (nat m) ((t.val - 1) % 51) + _; rw [e1, hv]; exact hρ) (by show _ = 2 * ((t.val - 1) / 51) + _; rw [e2]; exact hg)
      (by show Plan.Seen _ ((t.val - 1) % 51) _; rw [e1]; exact hS') h1 h2

theorem keeps7 (Q6 : Dev nD → Fin (cfgM m hO).N → Vec Ideal S512x256 .fp8e4m3 → Prop) (c : Dev nD) (t : Fin (cfgM m hO).N) (Y6 : Vec Ideal S512x256 .fp8e4m3) (Y7 : Vec Ideal S1x512x2 .f32)
    (hF : Finds7 m hO Q6 (R7 m hO) c t Y7) : R7 m hO c t (out7 m hO c t Y6 Y7) := by
  intro r b e ρ g hρ hg hS h1 h2
  have hN : (cfgM m hO).N = 714 := rfl
  have ht := t.isLt
  refine (run7_ap (r := r) (b := b) ..).trans ?_
  have hs := own_span m h hO c t r
  by_cases hc : Plan.st (nat m) (t.val % 51) ≤ 512 * Plan.vt (nat m) (t.val % 51) + r.val ∧ 512 * Plan.vt (nat m) (t.val % 51) + r.val < Plan.en (nat m) (t.val % 51)
  · unfold Scalar.select
    rw [if_pos (hs.2 hc)]
    have hv := Plan.st_en (nat m) (t.val % 51) ρ.val (by omega) (by omega)
    have he := Plan.expert_unique (nat m) h1 h2 hv.1 hv.2
    exact congrArg Spec.scl (funext fun q => grp_eq m h hO c t r b q e he ρ hρ g hg)
  · unfold Scalar.select
    rw [if_neg fun hx => hc (hs.1 hx)]
    obtain ⟨h0, hv, hS'⟩ := hS.prev (nat m) h.total (by omega)
    have hlt : t.val - 1 < (cfgM m hO).N := by omega
    have e1 : (t.val - 1) % 51 = t.val % 51 - 1 := by omega
    have e2 : (t.val - 1) / 51 = t.val / 51 := by omega
    have hnf := no_flush7 m h hO ⟨t.val - 1, hlt⟩ (by show (t.val - 1) % 51 + 1 < 51; omega)
      (by show Plan.vt (nat m) ((t.val - 1) % 51 + 1) = Plan.vt (nat m) ((t.val - 1) % 51); rw [e1, hv]; congr 1; omega)
    have hL := ((Pipeline.RDat.finds_of_pos (rdat m hO Q6 (R7 m hO) c) (w := 7) (t := t) rfl (by omega) Y7).1 hF).resolve_left
      (by rw [hnf]; exact Bool.false_ne_true)
    have hR : R7 m hO c ⟨t.val - 1, hlt⟩ Y7 := Pipeline.Dat.toRRel_leaves (w := 7) (fgt := marked) (dats m hO 0 c) rfl hL
    exact hR r b e ρ g (by show _ = 512 * Plan.vt (nat m) ((t.val - 1) % 51) + _; rw [e1, hv]; exact hρ) (by show _ = 2 * ((t.val - 1) / 51) + _; rw [e2]; exact hg)
      (by show Plan.Seen _ ((t.val - 1) % 51) _; rw [e1]; exact hS') h1 h2

theorem keeps : Keeps m hO (R6 m hO) (R7 m hO) := fun c t Y6 Y7 h6 h7 => ⟨keeps6 m h hO _ c t Y6 Y7 h6, keeps7 m h hO _ c t Y6 Y7 h7⟩

end Cert.KernelIdeal.Hand
-- ==== Proof.KernelIdeal.Result.lean ====
/- What the two result arrays hold at the end of the kernel's run. -/
module

public import proofs.«01_k».proof.Proof.KernelIdeal.Keep
public import proofs.«01_k».proof.Proof.KernelIdeal.Frame
public import Idealize.ShloMosaic.Lib.Pipeline.ArrRel
public import Idealize.ShloMosaic.Lib.Pipeline.Covers

@[expose] public section

set_option maxRecDepth 16384

noncomputable section

namespace Cert.KernelIdeal.Hand

open Idealize.ShloMosaic Idealize.ShloMosaic.TcCoe Cert.KernelIdeal.Gen

variable (m : (ℓ : Loc nD τ sig) → Buf (Elt Ideal) ℓ) (ρ : Dev nD → PrngReg)

/-- An array of codes holds the results. -/
def IsCodes (X : S24576x3584.Idx → EReal) : Prop :=
  ∀ (r : Fin 24576) (q : Fin 3584) (g : Fin 28) (k : Fin 128) (e : Fin 4), q.val = 128 * g.val + k.val →
    Plan.S (nat m) e.val ≤ r.val → r.val < Plan.E (nat m) e.val → X (ix2 r q) = Spec.code (grpM m e r g) k

/-- An array of scales holds the results. -/
def IsScales (X : S14x24576x2.Idx → EReal) : Prop :=
  ∀ (n : Fin 14) (r : Fin 24576) (b : Fin 2) (g : Fin 28) (e : Fin 4), g.val = 2 * n.val + b.val →
    Plan.S (nat m) e.val ≤ r.val → r.val < Plan.E (nat m) e.val → X (ix3 n r b) = Spec.scl (grpM m e r g)

variable (h : Fills m) (hO : Ok m)
include h

/-- At a point that writes back, every row of the block has been seen. -/
theorem seen_of_flush6 (t : Fin (cfgM m hO).N) (hf : ((cfgM m hO).win 6).flush t = true) (r : ℕ) (hr : r < 24576) (hb : r / 512 = Plan.vt (nat m) (t.val % 51)) :
    Plan.Seen (nat m) (t.val % 51) r := by
  obtain ⟨v, hv, e, hs⟩ := Plan.cover (nat m) h.total r hr
  refine ⟨v, ?_, e.trans hb, hs⟩
  by_contra hlt
  have h1 := Plan.vt_mono (nat m) h.total (show t.val % 51 ≤ t.val % 51 + 1 by omega)
  have h2 := Plan.vt_mono (nat m) h.total (show t.val % 51 + 1 ≤ v by omega)
  rw [no_flush6 m h hO t (by omega) (by omega)] at hf
  exact Bool.false_ne_true hf

theorem seen_of_flush7 (t : Fin (cfgM m hO).N) (hf : ((cfgM m hO).win 7).flush t = true) (r : ℕ) (hr : r < 24576) (hb : r / 512 = Plan.vt (nat m) (t.val % 51)) :
    Plan.Seen (nat m) (t.val % 51) r := by
  obtain ⟨v, hv, e, hs⟩ := Plan.cover (nat m) h.total r hr
  refine ⟨v, ?_, e.trans hb, hs⟩
  by_contra hlt
  have h1 := Plan.vt_mono (nat m) h.total (show t.val % 51 ≤ t.val % 51 + 1 by omega)
  have h2 := Plan.vt_mono (nat m) h.total (show t.val % 51 + 1 ≤ v by omega)
  rw [no_flush7 m h hO t (by omega) (by omega)] at hf
  exact Bool.false_ne_true hf

/-- The codes array after the run. -/
theorem codes_of (c : Dev nD) (after : (w' : Fin (cfgM m hO).W) → Fin (cfgM m hO).N → ((cfgM m hO).win w').block.Idx → Elt Ideal ((cfgM m hO).win w').elt)
    (ha : ∀ u, ((cfgM m hO).win 6).flush u = true → R6 m hO c u (after 6 u)) :
    IsCodes m (((rdat m hO (R6 m hO) (R7 m hO) c).withAfter after).arrAt 6 (cfgM m hO).N) := by
  intro r q g k e hq h1 h2
  refine ((rdat m hO (R6 m hO) (R7 m hO) c).withAfter after).arrAt_forall_of_cover (6 : Fin (cfgM m hO).W)
    (fun i v => ∀ (r : Fin 24576) (q : Fin 3584) (g : Fin 28) (k : Fin 128) (e : Fin 4), i = (ix2 r q : S24576x3584.Idx) → q.val = 128 * g.val + k.val →
      Plan.S (nat m) e.val ≤ r.val → r.val < Plan.E (nat m) e.val → (v : EReal) = Spec.code (grpM m e r g) k) ?_ ?_ (ix2 r q : S24576x3584.Idx) r q g k e rfl hq h1 h2
  · intro t hf (y : S512x256.Idx) r q g k e hi hq h1 h2
    have hi0 := congrArg (fun x : S24576x3584.Idx => (x 0).val) hi
    have hi1 := congrArg (fun x : S24576x3584.Idx => (x 1).val) hi
    blk_simp [index6 m h hO t] at hi0 hi1
    have y0 : (y 0).val < 512 := (y 0).isLt
    have y1 : (y 1).val < 256 := (y 1).isLt
    have ht : t.val < 714 := t.isLt
    have hR := ha t hf ⟨(y 0).val, y0⟩ ⟨(y 1).val, y1⟩ ⟨(y 1).val / 128, by omega⟩ k e r g (by show (y 1).val = 128 * ((y 1).val / 128) + k.val; omega)
      (by show r.val = _ + (y 0).val; omega) (by show g.val = 2 * _ + (y 1).val / 128; omega)
      (seen_of_flush6 m h hO t hf r.val r.isLt (by omega)) h1 h2
    have ey : (ix2 ⟨(y 0).val, y0⟩ ⟨(y 1).val, y1⟩ : S512x256.Idx) = y := funext fun a => by match a with | 0 => rfl | 1 => rfl
    exact (congrArg (after 6 t) ey.symm).trans hR
  · intro (i : S24576x3584.Idx)
    have i0 : (i 0).val < 24576 := (i 0).isLt
    have i1 : (i 1).val < 3584 := (i 1).isLt
    obtain ⟨v, hv, e, -⟩ := Plan.cover (nat m) h.total (i 0).val i0
    have hlt : (i 1).val / 256 * 51 + v < (cfgM m hO).N := by show _ < 714; omega
    obtain ⟨t, -, hf, hix⟩ := ((cfgM m hO).win 6).exists_flush_same_index rfl ⟨(i 1).val / 256 * 51 + v, hlt⟩
    replace hix := hix.trans (index6 m h hO _)
    have e1 : ((i 1).val / 256 * 51 + v) % 51 = v := by omega
    have e2 : ((i 1).val / 256 * 51 + v) / 51 = (i 1).val / 256 := by omega
    simp only [e1, e2, e] at hix
    refine ⟨t, hf, (((cfgM m hO).win 6).emb_mem_blk_iff t i rfl).mpr ?_⟩
    rw [hix]
    intro (a : Fin 2)
    match a with
    | 0 => show (i 0).val / 512 * 512 ≤ (i 0).val ∧ (i 0).val < (i 0).val / 512 * 512 + 512; omega
    | 1 => show (i 1).val / 256 * 256 ≤ (i 1).val ∧ (i 1).val < (i 1).val / 256 * 256 + 256; omega

/-- The scales array after the run. -/
theorem scales_of (c : Dev nD) (after : (w' : Fin (cfgM m hO).W) → Fin (cfgM m hO).N → ((cfgM m hO).win w').block.Idx → Elt Ideal ((cfgM m hO).win w').elt)
    (ha : ∀ u, ((cfgM m hO).win 7).flush u = true → R7 m hO c u (after 7 u)) :
    IsScales m (((rdat m hO (R6 m hO) (R7 m hO) c).withAfter after).arrAt 7 (cfgM m hO).N) := by
  intro n r b g e hg h1 h2
  refine ((rdat m hO (R6 m hO) (R7 m hO) c).withAfter after).arrAt_forall_of_cover (7 : Fin (cfgM m hO).W)
    (fun i v => ∀ (n : Fin 14) (r : Fin 24576) (b : Fin 2) (g : Fin 28) (e : Fin 4), i = (ix3 n r b : S14x24576x2.Idx) → g.val = 2 * n.val + b.val →
      Plan.S (nat m) e.val ≤ r.val → r.val < Plan.E (nat m) e.val → (v : EReal) = Spec.scl (grpM m e r g)) ?_ ?_ (ix3 n r b : S14x24576x2.Idx) n r b g e rfl hg h1 h2
  · intro t hf (y : S1x512x2.Idx) n r b g e hi hg h1 h2
    have hi0 := congrArg (fun x : S14x24576x2.Idx => (x 0).val) hi
    have hi1 := congrArg (fun x : S14x24576x2.Idx => (x 1).val) hi
    have hi2 := congrArg (fun x : S14x24576x2.Idx => (x 2).val) hi
    blk_simp [index7 m h hO t] at hi0 hi1 hi2
    have y0 : (y 0).val < 1 := (y 0).isLt
    have y1 : (y 1).val < 512 := (y 1).isLt
    have y2 : (y 2).val < 2 := (y 2).isLt
    have ht : t.val < 714 := t.isLt
    have hR := ha t hf ⟨(y 1).val, y1⟩ ⟨(y 2).val, y2⟩ e r g
      (by show r.val = _ + (y 1).val; omega) (by show g.val = 2 * _ + (y 2).val; omega)
      (seen_of_flush7 m h hO t hf r.val r.isLt (by omega)) h1 h2
    have ey : (ix3 0 ⟨(y 1).val, y1⟩ ⟨(y 2).val, y2⟩ : S1x512x2.Idx) = y := funext fun a => by
      match a with
      | 0 => exact Fin.ext (by show 0 = (y 0).val; omega)
      | 1 => rfl
      | 2 => rfl
    exact (congrArg (after 7 t) ey.symm).trans hR
  · intro (i : S14x24576x2.Idx)
    have i0 : (i 0).val < 14 := (i 0).isLt
    have i1 : (i 1).val < 24576 := (i 1).isLt
    have i2 : (i 2).val < 2 := (i 2).isLt
    obtain ⟨v, hv, e, -⟩ := Plan.cover (nat m) h.total (i 1).val i1
    have hlt : (i 0).val * 51 + v < (cfgM m hO).N := by show _ < 714; omega
    obtain ⟨t, -, hf, hix⟩ := ((cfgM m hO).win 7).exists_flush_same_index rfl ⟨(i 0).val * 51 + v, hlt⟩
    replace hix := hix.trans (index7 m h hO _)
    have e1 : ((i 0).val * 51 + v) % 51 = v := by omega
    have e2 : ((i 0).val * 51 + v) / 51 = (i 0).val := by omega
    simp only [e1, e2, e] at hix
    refine ⟨t, hf, (((cfgM m hO).win 7).emb_mem_blk_iff t i rfl).mpr ?_⟩
    rw [hix]
    intro (a : Fin 3)
    match a with
    | 0 => show (i 0).val * 1 ≤ (i 0).val ∧ (i 0).val < (i 0).val * 1 + 1; omega
    | 1 => show (i 1).val / 512 * 512 ≤ (i 1).val ∧ (i 1).val < (i 1).val / 512 * 512 + 512; omega
    | 2 => show 0 * 2 ≤ (i 2).val ∧ (i 2).val < 0 * 2 + 2; omega

/-- Every execution ends with the results in the two result arrays and the arguments unchanged. -/
theorem results : θ_run defs (onTc (τ := τ) (main (F := Ideal))) ⟨m, fun _ => 0, ρ⟩ (fun r => ∀ c : Dev nD,
      (IsCodes m (r.2.mem ((c.tc : Thread nD τ).loc main_v63_0)) ∧ IsScales m (r.2.mem ((c.tc : Thread nD τ).loc main_v63_1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  have hO := ok m h
  have key : θ_run defs (onTc (τ := τ) (main (F := Ideal))) ⟨m, fun _ => 0, ρ⟩ (fun r => ∀ c : Dev nD,
      IsCodes m (r.2.mem ((c.tc : Thread nD τ).loc main_v63_0)) ∧ IsScales m (r.2.mem ((c.tc : Thread nD τ).loc main_v63_1))) := by
    refine (θ_run defs _ _).mono (fun r hr c => ?_) (run_main m ρ hO (R6 m hO) (R7 m hO) (keeps m h hO))
    obtain ⟨after, hL, hA⟩ := Pipeline.RDat.FramePost.exists_exact hr.1 c
    have e6 := hA (6 : Fin (cfgM m hO).W)
    have e7 := hA (7 : Fin (cfgM m hO).W)
    have k6 := codes_of m h hO c after fun u hu => Pipeline.Dat.toRRel_leaves (w := 6) (fgt := marked) (dats m hO 0 c) rfl (hL 6 u hu)
    have k7 := scales_of m h hO c after fun u hu => Pipeline.Dat.toRRel_leaves (w := 7) (fgt := marked) (dats m hO 0 c) rfl (hL 7 u hu)
    exact ⟨(congrArg (IsCodes m) e6).mpr k6, (congrArg (IsScales m) e7).mpr k7⟩
  exact (θ_run defs _ _).mono (fun r hr c => ⟨hr.1 c, hr.2 c⟩) (θ_run_and key (unchanged m ρ hO))

end Cert.KernelIdeal.Hand
-- ==== Proof.ReferenceIdeal.Pay.lean ====
/- The payloads of the reference's body at an element, over the extended reals. -/
module
public import proofs.«01_k».proof.Proof.Gen.ReferenceIdeal.Skeleton
public import proofs.«01_k».proof.Proof.Spec
public import Idealize.ShloMosaic.Lib.Pointwise

@[expose] public section

noncomputable section

namespace Cert.ReferenceIdeal.Hand
open Idealize.ShloMosaic Cert.ReferenceIdeal.Gen

/-- The comparison of a row's index with a span's two ends. -/
def between (a d : BitVec 32) (r : Fin 24576) : BitVec 1 :=
  IntOp.andi (IntOp.cmpi .sge (BitVec.ofNat 32 r.val) a) (IntOp.cmpi .slt (BitVec.ofNat 32 r.val) d)

theorem pay8_ap (x : Vec Ideal S24576x7168 .fp8e4m3) (sc : Vec Ideal S24576x56 .f32) (r : Fin 24576) (k : Fin 7168) :
    k0_pay8 x sc (ix2 r k) = HMul.hMul (α := EReal) (β := EReal) (γ := EReal) (x (ix2 r k)) (sc (ix2 r ⟨k.val / 128, by omega⟩)) := by
  pointwise [k0_pay8]

theorem pay9_ap (x : Vec Ideal S24576x7168 .fp8e4m3) (sc : Vec Ideal S24576x56 .f32) (g : BitVec 32) (w : Vec Ideal S1x7168x7168 .bf16) (b : Vec Ideal S1x7168 .f32) (r : Fin 24576) (c : Fin 7168) :
    k0_pay9 x sc g w b (ix2 r c) = Scalar.select (between 0#32 (IntOp.addi 0#32 g) r)
      ((∑ k : Fin 7168, (k0_pay8 x sc (ix2 r k) : EReal) * w (ix3 0 k c)) + b (ix2 0 c)) (0 : EReal) := by
  unfold between
  pointwise [k0_pay9]
  rfl

theorem pay10_ap (x : Vec Ideal S24576x7168 .fp8e4m3) (sc : Vec Ideal S24576x56 .f32) (w : Vec Ideal S1x7168x7168 .bf16) (b : Vec Ideal S1x7168 .f32) (r : Fin 24576) (c : Fin 7168) :
    k0_pay10 x sc w b (ix2 r c) = (∑ k : Fin 7168, (k0_pay8 x sc (ix2 r k) : EReal) * w (ix3 0 k c)) + b (ix2 0 c) := by
  pointwise [k0_pay10]

theorem pay13_ap (v8 : FVec Ideal S24576x7168 .bf16) (v26 : FVec Ideal S24576x7168 .f32) (g0 g1 g2 g3 : BitVec 32) (v34 : FVec Ideal S24576x7168 .f32)
    (w2 : Vec Ideal S1x7168x7168 .bf16) (b2 : Vec Ideal S1x7168 .f32) (w3 : Vec Ideal S1x7168x7168 .bf16) (b3 : Vec Ideal S1x7168 .f32) (r : Fin 24576) (c : Fin 7168) :
    k0_pay13 v8 (iota .tc S24576x1 32 [0] iota_S24576x1_d0_w32) v26 (Scalar.addi (Scalar.addi 0#32 g0) g1) v34 (k0_pay11 (F := Ideal) g0) (k0_pay12 (F := Ideal) g0 g1) g2 w2 b2 g3 w3 b3 (ix2 r c)
      = Scalar.select (between (IntOp.addi (IntOp.addi (IntOp.addi 0#32 g0) g1) g2) (IntOp.addi (IntOp.addi (IntOp.addi (IntOp.addi 0#32 g0) g1) g2) g3) r)
          ((∑ k : Fin 7168, (v8 (ix2 r k) : EReal) * w3 (ix3 0 k c)) + b3 (ix2 0 c))
          (Scalar.select (between (IntOp.addi (IntOp.addi 0#32 g0) g1) (IntOp.addi (IntOp.addi (IntOp.addi 0#32 g0) g1) g2) r)
            ((∑ k : Fin 7168, (v8 (ix2 r k) : EReal) * w2 (ix3 0 k c)) + b2 (ix2 0 c))
            (Scalar.select (between (IntOp.addi 0#32 g0) (IntOp.addi (IntOp.addi 0#32 g0) g1) r) (v34 (ix2 r c)) (v26 (ix2 r c)))) := by
  unfold between
  pointwise [k0_pay13, k0_pay11, k0_pay12]
  rfl

end Cert.ReferenceIdeal.Hand

end
-- ==== Proof.ReferenceIdeal.Act.lean ====
/- The reference's activation and its quantiser at an element, over the extended reals. -/
module
public import proofs.«01_k».proof.Proof.Gen.ReferenceIdeal.Skeleton
public import proofs.«01_k».proof.Proof.Spec
public import Idealize.ShloMosaic.Lib.Pointwise

@[expose] public section

noncomputable section

namespace Cert.ReferenceIdeal.Hand
open Idealize.ShloMosaic Cert.ReferenceIdeal.Gen

/-- The activation, in groups of 128. -/
theorem pay17_ap (v : FVec Ideal S24576x7168 .f32) (v77 v80 : FVec Ideal S24576x3584 .f32) (r : Fin 24576) (g : Fin 28) (k : Fin 128)
    (h77 : v77 (ix2 r ⟨128 * g.val + k.val, by omega⟩) = min (v (ix2 r ⟨128 * g.val + k.val, by omega⟩)) (Ideal.ofBits .f32 0x40E00000#32))
    (h80 : v80 (ix2 r ⟨128 * g.val + k.val, by omega⟩) = max (Ideal.ofBits .f32 0xC0E00000#32) (v (ix2 r ⟨3584 + (128 * g.val + k.val), by omega⟩))) :
    k0_pay17 v77 v80 k0_pay16 (ix3 r g k) = Spec.act (v (ix2 r ⟨128 * g.val + k.val, by omega⟩)) (v (ix2 r ⟨3584 + (128 * g.val + k.val), by omega⟩)) := by
  have e : k0_pay17 v77 v80 k0_pay16 (ix3 r g k) = (min (Ideal.ofBits .f32 0x40E00000#32) (v80 (ix2 r ⟨128 * g.val + k.val, by omega⟩)) + Ideal.ofBits .f32 0x3F800000#32) * v77 (ix2 r ⟨128 * g.val + k.val, by omega⟩)
      * Ideal.logistic (Ideal.ofBits .f32 0x3FD9DB23#32 * v77 (ix2 r ⟨128 * g.val + k.val, by omega⟩)) := by
    pointwise [k0_pay17, k0_pay16]
    simp only [Nat.mul_comm g.val 128]
  rw [e, h77, h80]
  unfold Spec.act
  pointwise []

end Cert.ReferenceIdeal.Hand

end
-- ==== Proof.ReferenceIdeal.Exponent.lean ====
/- The reference's activation and its quantiser at an element, over the extended reals. -/
module
public import proofs.«01_k».proof.Proof.Gen.ReferenceIdeal.Skeleton
public import proofs.«01_k».proof.Proof.Spec
public import Idealize.ShloMosaic.Lib.Pointwise

@[expose] public section

noncomputable section

namespace Cert.ReferenceIdeal.Hand
open Idealize.ShloMosaic Cert.ReferenceIdeal.Gen

theorem of_index (k : Fin 254) : (FloatOps.sitofp (F := Ideal) .f32 (BitVec.ofNat 32 k.val) : EReal) = ((k.val : ℝ) : EReal) := by
  show (((BitVec.ofNat 32 k.val).toInt : ℝ) : EReal) = _
  have h : (BitVec.ofNat 32 k.val).toInt = (k.val : ℤ) := by
    rw [BitVec.toInt_eq_toNat_of_lt (by rw [BitVec.toNat_ofNat]; omega), BitVec.toNat_ofNat, Nat.mod_eq_of_lt (by omega)]
  rw [h]; norm_cast

theorem bias_eq : Ideal.ofBits .f32 0x42FC0000#32 = ((126 : ℝ) : EReal) := by
  have h1 : ((0x42FC0000#32).extractLsb' 23 8).toNat = 133 := by decide
  have h2 : ((0x42FC0000#32).extractLsb' 31 1 == 1#1) = false := by decide
  have h3 : ((0x42FC0000#32).extractLsb' 0 23).toNat = 8126464 := by decide
  unfold Ideal.ofBits Ideal.ieee
  simp only [show 8 + 23 = 31 from rfl, h1, h2, h3]
  norm_num

theorem exp2_def (x : EReal) : (FloatOps.exp2 (F := Ideal) (φ := .f32) x : EReal) = Ideal.exp2 x := rfl

theorem largest_ap (v : FVec Ideal S24576x28x128 .f32) (r : Fin 24576) (g : Fin 28) :
    multiReduction (F := Ideal) .maximumf [2] S24576x28 v 0xFF800000#32 reduces_S24576x28x128_S24576x28 (.inl rfl) rfl (ix2 r g)
      = Finset.fold max (Ideal.ofBits .f32 0xFF800000#32) (fun k => v (ix3 r g k)) Finset.univ := by
  pointwise []

theorem count_ap (v : FVec Ideal S24576x28x254 .f32) (r : Fin 24576) (g : Fin 28) :
    multiReduction (F := Ideal) .add [2] S24576x28 v 0x00000000#32 reduces_S24576x28x254_S24576x28 (.inl rfl) rfl (ix2 r g)
      = ∑ k : Fin 254, (v (ix3 r g k) : EReal) := by
  pointwise []

theorem threshold_ap (r : Fin 24576) (g : Fin 28) (k : Fin 254) (v94 : FVec Ideal S24576x28 .f32):
    select (cmpf .oge (broadcastTo S24576x28x254 (shapeCast S24576x28x1 v94 shapeCasts_S24576x28_S24576x28x1) broadcasts_S24576x28x1_S24576x28x254)
      (broadcastTo S24576x28x254 (exp2 (subf (sitofp (F := Ideal) .f32 (iota .tc S1x1x254 32 [2] iota_S1x1x254_d2_w32)) (broadcast S1x1x254 (Scalar.ofBits .f32 0x42FC0000#32)))) broadcasts_S1x1x254_S24576x28x254))
      (broadcast S24576x28x254 (Scalar.ofBits (F := Ideal) .f32 0x3F800000#32)) (broadcast S24576x28x254 (Scalar.ofBits (F := Ideal) .f32 0x00000000#32)) (ix3 r g k)
    = Scalar.select (FloatOps.cmpf (F:=Ideal) (φ:=.f32) .oge (v94 (ix2 r g)) (FloatOps.exp2 (F:=Ideal) (φ:=.f32) (HSub.hSub (α := EReal) (β := EReal) (γ := EReal) (FloatOps.sitofp (F:=Ideal) .f32 (BitVec.ofNat 32 k.val)) (Ideal.ofBits .f32 0x42FC0000#32)))) (1:EReal) 0 := by
  pointwise []

theorem exponent_ap (n : FVec Ideal S24576x28 .f32) (r : Fin 24576) (g : Fin 28) :
    select (cmpf .oeq n (broadcast S24576x28 (Scalar.ofBits .f32 0x00000000#32))) (broadcast S24576x28 (Scalar.ofBits .f32 0x00000000#32)) (subf n (broadcast S24576x28 (Scalar.ofBits .f32 0x42FC0000#32))) (ix2 r g)
      = Quant.eC (n (ix2 r g)) := by
  have e : select (cmpf .oeq n (broadcast S24576x28 (Scalar.ofBits .f32 0x00000000#32))) (broadcast S24576x28 (Scalar.ofBits .f32 0x00000000#32)) (subf n (broadcast S24576x28 (Scalar.ofBits .f32 0x42FC0000#32))) (ix2 r g)
      = Scalar.select (FloatOps.cmpf (F := Ideal) (φ := .f32) .oeq (n (ix2 r g)) (0 : EReal)) (0 : EReal) (HSub.hSub (α := EReal) (β := EReal) (γ := EReal) (n (ix2 r g)) (Ideal.ofBits .f32 0x42FC0000#32)) := by
    pointwise []
  rw [e, bias_eq]
  rfl

theorem scaled_ap (a : FVec Ideal S24576x28 .f32) (r : Fin 24576) (g : Fin 28) :
    mulf a (broadcast S24576x28 (Scalar.ofBits .f32 0x3B124925#32)) (ix2 r g) = HMul.hMul (α := EReal) (β := EReal) (γ := EReal) (a (ix2 r g)) (Ideal.ofBits .f32 0x3B124925#32) := rfl

theorem abs_ap (v : FVec Ideal S24576x28x128 .f32) (r : Fin 24576) (g : Fin 28) (k : Fin 128) :
    (absf v (ix3 r g k) : EReal) = max (v (ix3 r g k) : EReal) (-(v (ix3 r g k) : EReal)) := rfl

theorem mag_ap (v : FVec Ideal S24576x28x128 .f32) (r : Fin 24576) (g : Fin 28) :
    mulf (multiReduction (F := Ideal) .maximumf [2] S24576x28 (absf v) 0xFF800000#32 reduces_S24576x28x128_S24576x28 (.inl rfl) rfl) (broadcast S24576x28 (Scalar.ofBits .f32 0x3B124925#32)) (ix2 r g)
      = Spec.mag (fun k => v (ix3 r g k)) := by
  rw [scaled_ap, largest_ap]
  unfold Spec.mag
  simp only [abs_ap]

theorem pay18_ap (v77 v80 v81 : FVec Ideal S24576x3584 .f32) (r : Fin 24576) (g : Fin 28) :
    k0_pay18 v77 v80 v81 (ix2 r g) = Quant.eC (Quant.total (Spec.mag (fun k => k0_pay17 v77 v80 v81 (ix3 r g k)))) := by
  unfold k0_pay18
  refine (exponent_ap _ r g).trans (congrArg Quant.eC ((count_ap _ r g).trans ?_))
  unfold Quant.total
  refine Finset.sum_congr rfl fun k _ => (threshold_ap r g k _).trans ?_
  rw [of_index, bias_eq, mag_ap, exp2_def]

end Cert.ReferenceIdeal.Hand

end
-- ==== Proof.ReferenceIdeal.Codes.lean ====
/- The reference's activation and its quantiser at an element, over the extended reals. -/
module
public import proofs.«01_k».proof.Proof.Gen.ReferenceIdeal.Skeleton
public import proofs.«01_k».proof.Proof.Spec
public import Idealize.ShloMosaic.Lib.Pointwise

@[expose] public section

noncomputable section

namespace Cert.ReferenceIdeal.Hand
open Idealize.ShloMosaic Cert.ReferenceIdeal.Gen

theorem pay19_ap (v77 v80 v81 : FVec Ideal S24576x3584 .f32) (r : Fin 24576) (q : Fin 3584) (g : Fin 28) (k : Fin 128) (hq : q.val = 128 * g.val + k.val) :
    k0_pay19 v77 v80 v81 (ix2 r q) = min (Ideal.ofBits .f32 0x43E00000#32) (max (Ideal.ofBits .f32 0xC3E00000#32)
      (HMul.hMul (α := EReal) (β := EReal) (γ := EReal) (k0_pay17 v77 v80 v81 (ix3 r g k)) (Ideal.exp2 (0 - k0_pay18 v77 v80 v81 (ix2 r g))))) := by
  have hg : (⟨q.val / 128, by omega⟩ : Fin 28) = g := Fin.ext (by show q.val / 128 = g.val; omega)
  have hk : (⟨q.val % 128, by omega⟩ : Fin 128) = k := Fin.ext (by show q.val % 128 = k.val; omega)
  have e : k0_pay19 v77 v80 v81 (ix2 r q) = min (Ideal.ofBits .f32 0x43E00000#32) (max (Ideal.ofBits .f32 0xC3E00000#32)
      (HMul.hMul (α := EReal) (β := EReal) (γ := EReal) (k0_pay17 v77 v80 v81 (ix3 r ⟨q.val / 128, by omega⟩ ⟨q.val % 128, by omega⟩)) (Ideal.exp2 (0 - k0_pay18 v77 v80 v81 (ix2 r ⟨q.val / 128, by omega⟩))))) := by
    pointwise [k0_pay19]
    rfl
  rw [e, hg, hk]

end Cert.ReferenceIdeal.Hand

end
-- ==== Proof.ReferenceIdeal.Cell.lean ====
/- What the reference's body leaves in its two results, element by element. -/
module

public import proofs.«01_k».proof.Proof.ReferenceIdeal.Pay
public import proofs.«01_k».proof.Proof.ReferenceIdeal.Act
public import proofs.«01_k».proof.Proof.ReferenceIdeal.Exponent
public import proofs.«01_k».proof.Proof.ReferenceIdeal.Codes
public import proofs.«01_k».proof.Proof.Plan
public import proofs.«01_k».proof.Proof.Gen.ReferenceIdeal.Value
public import Idealize.ShloMosaic.Lib.Pointwise
public import Idealize.ShloMosaic.Lib.WholeRead
public import proofs.«01_k».proof.Proof.KernelIdeal.Admit
import all proofs.«01_k».proof.Proof.Gen.ReferenceIdeal.Frame.RunA

@[expose] public section

set_option maxRecDepth 16384

noncomputable section

namespace Cert.ReferenceIdeal.Hand

open Idealize.ShloMosaic Idealize.ShloMosaic.TcCoe Cert.ReferenceIdeal.Gen
open Cert.KernelIdeal.Hand (sge_ofNat slt_ofNat sel_pos sel_neg and_one)

theorem between_iff (a d : ℕ) (ha : a ≤ 24576) (hd : d ≤ 24576) (r : Fin 24576) :
    between (BitVec.ofNat 32 a) (BitVec.ofNat 32 d) r = (1 : BitVec 1) ↔ a ≤ r.val ∧ r.val < d := by
  unfold between
  rw [← sge_ofNat (a := r.val) (b := a) (by omega) (by omega), ← slt_ofNat (a := r.val) (b := d) (by omega) (by omega)]
  exact and_one _ _

/-- The expert whose span holds the row is the one whose value is taken. -/
theorem pick (f : ℕ → ℕ) (hf : f 0 + f 1 + f 2 + f 3 = 24576) (r : Fin 24576) (y : Fin 4 → EReal) (z : EReal) (e : Fin 4)
    (h : Plan.S f e.val ≤ r.val) (h' : r.val < Plan.E f e.val) (g : Fin 4 → BitVec 32) (hg : ∀ e, g e = BitVec.ofNat 32 (f e.val)) :
    Scalar.select (between (IntOp.addi (IntOp.addi (IntOp.addi 0#32 (g 0)) (g 1)) (g 2)) (IntOp.addi (IntOp.addi (IntOp.addi (IntOp.addi 0#32 (g 0)) (g 1)) (g 2)) (g 3)) r) (y 3)
      (Scalar.select (between (IntOp.addi (IntOp.addi 0#32 (g 0)) (g 1)) (IntOp.addi (IntOp.addi (IntOp.addi 0#32 (g 0)) (g 1)) (g 2)) r) (y 2)
        (Scalar.select (between (IntOp.addi 0#32 (g 0)) (IntOp.addi (IntOp.addi 0#32 (g 0)) (g 1)) r) (y 1)
          (Scalar.select (between 0#32 (IntOp.addi 0#32 (g 0)) r) (y 0) z))) = y e := by
  have w0 : IntOp.addi 0#32 (g 0) = BitVec.ofNat 32 (f 0) := by rw [hg 0]; exact BitVec.zero_add _
  have w1 : IntOp.addi (BitVec.ofNat 32 (f 0)) (g 1) = BitVec.ofNat 32 (f 0 + f 1) := by rw [hg 1]; exact (BitVec.ofNat_add ..).symm
  have w2 : IntOp.addi (BitVec.ofNat 32 (f 0 + f 1)) (g 2) = BitVec.ofNat 32 (f 0 + f 1 + f 2) := by rw [hg 2]; exact (BitVec.ofNat_add ..).symm
  have w3 : IntOp.addi (BitVec.ofNat 32 (f 0 + f 1 + f 2)) (g 3) = BitVec.ofNat 32 (f 0 + f 1 + f 2 + f 3) := by rw [hg 3]; exact (BitVec.ofNat_add ..).symm
  rw [w0, w1, w2, w3]
  have b0 : between 0#32 (BitVec.ofNat 32 (f 0)) r = (1 : BitVec 1) ↔ 0 ≤ r.val ∧ r.val < f 0 := between_iff 0 (f 0) (by omega) (by omega) r
  have b1 := between_iff (f 0) (f 0 + f 1) (by omega) (by omega) r
  have b2 := between_iff (f 0 + f 1) (f 0 + f 1 + f 2) (by omega) (by omega) r
  have b3 := between_iff (f 0 + f 1 + f 2) (f 0 + f 1 + f 2 + f 3) (by omega) (by omega) r
  have e0 := Plan.E_zero f
  have e1 := Plan.E_succ f 0
  have e2 := Plan.E_succ f 1
  have e3 := Plan.E_succ f 2
  have s0 := Plan.S_zero f
  have s1 := Plan.S_succ f 0
  have s2 := Plan.S_succ f 1
  have s3 := Plan.S_succ f 2
  norm_num at e1 e2 e3 s1 s2 s3
  match e, h, h' with
  | 0, h, h' =>
    have h : Plan.S f 0 ≤ r.val := h
    have h' : r.val < Plan.E f 0 := h'
    rw [sel_neg fun q => by have := b3.mp q; omega, sel_neg fun q => by have := b2.mp q; omega, sel_neg fun q => by have := b1.mp q; omega,
      sel_pos (b0.mpr (by omega))]
  | 1, h, h' =>
    have h : Plan.S f 1 ≤ r.val := h
    have h' : r.val < Plan.E f 1 := h'
    rw [sel_neg fun q => by have := b3.mp q; omega, sel_neg fun q => by have := b2.mp q; omega, sel_pos (b1.mpr (by omega))]
  | 2, h, h' =>
    have h : Plan.S f 2 ≤ r.val := h
    have h' : r.val < Plan.E f 2 := h'
    rw [sel_neg fun q => by have := b3.mp q; omega, sel_pos (b2.mpr (by omega))]
  | 3, h, h' =>
    have h : Plan.S f 3 ≤ r.val := h
    have h' : r.val < Plan.E f 3 := h'
    rw [sel_pos (b3.mpr (by omega))]

/-- A load from a whole buffer, at an element, reads the contents it was given. -/
theorem load_at {sp : Space} {s : Shape} {e : EltTy} (m : Memref sig .tc sp s e) (h : m.IsWhole) (X : s.Idx → Elt Ideal e) (B : LoadRect s) (x : B.shape.Idx) (y : s.Idx)
    (hx : ∀ a, (B.idx x a).val = (y a).val) : View.readAt (Elt Ideal) m.view B (h.unread X) x = X y :=
  (h.readAt_unread X B x).trans (congrArg X (funext fun a => Fin.ext (hx a)))

variable (c : Dev nD) (arg0 : Memref sig .tc .smem S4 .i32) (harg0 : arg0.IsWhole) (arg1 : Memref sig .tc .vmem S24576x7168 .fp8e4m3) (harg1 : arg1.IsWhole) (arg2 : Memref sig .tc .vmem S24576x56 .f32) (harg2 : arg2.IsWhole) (arg3 : Memref sig .tc .vmem S4x7168x7168 .bf16) (harg3 : arg3.IsWhole) (arg4 : Memref sig .tc .vmem S4x7168 .f32) (harg4 : arg4.IsWhole) (arg5 : Memref sig .tc .vmem S24576x3584 .fp8e4m3) (harg5 : arg5.IsWhole) (arg6 : Memref sig .tc .vmem S14x24576x2 .f32) (harg6 : arg6.IsWhole)
variable (x0 : Vec Ideal S4 .i32) (x1 : Vec Ideal S24576x7168 .fp8e4m3) (x2 : Vec Ideal S24576x56 .f32) (x3 : Vec Ideal S4x7168x7168 .bf16) (x4 : Vec Ideal S4x7168 .f32)

/-- The four experts' outputs, each row from its expert. -/
def acc : FVec Ideal S24576x7168 .f32 :=
  k0_pay13 (kernelRun0_A.sl.r_2 c arg1 harg1 arg2 harg2 x1 x2) kernelRun0_A.sl.v9 (kernelRun0_A.sl.r_3 c arg0 harg0 arg1 harg1 arg2 harg2 arg3 harg3 arg4 harg4 x0 x1 x2 x3 x4)
    (kernelRun0_A.sl.v28 c arg0 harg0 x0) (kernelRun0_A.sl.r_4 c arg1 harg1 arg2 harg2 arg3 harg3 arg4 harg4 x1 x2 x3 x4)
    (kernelRun0_A.sl.r_5 c arg0 harg0 x0) (kernelRun0_A.sl.r_6 c arg0 harg0 x0) (kernelRun0_A.sl.r_7 c arg0 harg0 x0)
    (View.readAt (Elt Ideal) arg3.view (Rect.unit (s := S4x7168x7168) ![2, 0, 0] S1x7168x7168.size inb_S4x7168x7168_S1x7168x7168_2_0_0).toLoadRect (harg3.unread x3))
    (View.readAt (Elt Ideal) arg4.view (Rect.unit (s := S4x7168) ![2, 0] S1x7168.size inb_S4x7168_S1x7168_2_0).toLoadRect (harg4.unread x4))
    (kernelRun0_A.sl.r_8 c arg0 harg0 x0)
    (View.readAt (Elt Ideal) arg3.view (Rect.unit (s := S4x7168x7168) ![3, 0, 0] S1x7168x7168.size inb_S4x7168x7168_S1x7168x7168_3_0_0).toLoadRect (harg3.unread x3))
    (View.readAt (Elt Ideal) arg4.view (Rect.unit (s := S4x7168) ![3, 0] S1x7168.size inb_S4x7168_S1x7168_3_0).toLoadRect (harg4.unread x4))

theorem acc_ap (f : ℕ → ℕ) (hf : f 0 + f 1 + f 2 + f 3 = 24576) (hx : ∀ e : Fin 4, x0 (ix1 e) = BitVec.ofNat 32 (f e.val)) (r : Fin 24576) (j : Fin 7168) (e : Fin 4)
    (h : Plan.S f e.val ≤ r.val) (h' : r.val < Plan.E f e.val) :
    acc c arg0 harg0 arg1 harg1 arg2 harg2 arg3 harg3 arg4 harg4 x0 x1 x2 x3 x4 (ix2 r j) = Spec.lin x1 x2 x3 x4 e r j := by
  have w0 : kernelRun0_A.sl.r c arg0 harg0 x0 = x0 (ix1 0) := load_at arg0 harg0 x0 _ _ _ fun a => by match a with | 0 => rfl
  have w1 : kernelRun0_A.sl.r_1 c arg0 harg0 x0 = x0 (ix1 1) := load_at arg0 harg0 x0 _ _ _ fun a => by match a with | 0 => rfl
  have w2 : kernelRun0_A.sl.r_7 c arg0 harg0 x0 = x0 (ix1 2) := load_at arg0 harg0 x0 _ _ _ fun a => by match a with | 0 => rfl
  have w3 : kernelRun0_A.sl.r_8 c arg0 harg0 x0 = x0 (ix1 3) := load_at arg0 harg0 x0 _ _ _ fun a => by match a with | 0 => rfl
  have l1 (k : Fin 7168) : View.readAt (Elt Ideal) arg1.view (Rect.unit (s := S24576x7168) ![0, 0] S24576x7168.size inb_S24576x7168_S24576x7168_0_0).toLoadRect (harg1.unread x1) (ix2 r k) = x1 (ix2 r k) :=
    load_at arg1 harg1 x1 _ _ _ fun a => by match a with | 0 => exact (Nat.zero_add _).trans (Nat.one_mul _) | 1 => exact (Nat.zero_add _).trans (Nat.one_mul _)
  have l2 (k : Fin 56) : View.readAt (Elt Ideal) arg2.view (Rect.unit (s := S24576x56) ![0, 0] S24576x56.size inb_S24576x56_S24576x56_0_0).toLoadRect (harg2.unread x2) (ix2 r k) = x2 (ix2 r k) :=
    load_at arg2 harg2 x2 _ _ _ fun a => by match a with | 0 => exact (Nat.zero_add _).trans (Nat.one_mul _) | 1 => exact (Nat.zero_add _).trans (Nat.one_mul _)
  have l30 (k : Fin 7168) : View.readAt (Elt Ideal) arg3.view (Rect.unit (s := S4x7168x7168) ![0, 0, 0] S1x7168x7168.size inb_S4x7168x7168_S1x7168x7168_0_0_0).toLoadRect (harg3.unread x3) (ix3 0 k j) = x3 (ix3 0 k j) :=
    load_at arg3 harg3 x3 _ _ _ fun a => by match a with | 0 => rfl | 1 => exact (Nat.zero_add _).trans (Nat.one_mul _) | 2 => exact (Nat.zero_add _).trans (Nat.one_mul _)
  have l31 (k : Fin 7168) : View.readAt (Elt Ideal) arg3.view (Rect.unit (s := S4x7168x7168) ![1, 0, 0] S1x7168x7168.size inb_S4x7168x7168_S1x7168x7168_1_0_0).toLoadRect (harg3.unread x3) (ix3 0 k j) = x3 (ix3 1 k j) :=
    load_at arg3 harg3 x3 _ _ _ fun a => by match a with | 0 => rfl | 1 => exact (Nat.zero_add _).trans (Nat.one_mul _) | 2 => exact (Nat.zero_add _).trans (Nat.one_mul _)
  have l32 (k : Fin 7168) : View.readAt (Elt Ideal) arg3.view (Rect.unit (s := S4x7168x7168) ![2, 0, 0] S1x7168x7168.size inb_S4x7168x7168_S1x7168x7168_2_0_0).toLoadRect (harg3.unread x3) (ix3 0 k j) = x3 (ix3 2 k j) :=
    load_at arg3 harg3 x3 _ _ _ fun a => by match a with | 0 => rfl | 1 => exact (Nat.zero_add _).trans (Nat.one_mul _) | 2 => exact (Nat.zero_add _).trans (Nat.one_mul _)
  have l33 (k : Fin 7168) : View.readAt (Elt Ideal) arg3.view (Rect.unit (s := S4x7168x7168) ![3, 0, 0] S1x7168x7168.size inb_S4x7168x7168_S1x7168x7168_3_0_0).toLoadRect (harg3.unread x3) (ix3 0 k j) = x3 (ix3 3 k j) :=
    load_at arg3 harg3 x3 _ _ _ fun a => by match a with | 0 => rfl | 1 => exact (Nat.zero_add _).trans (Nat.one_mul _) | 2 => exact (Nat.zero_add _).trans (Nat.one_mul _)
  have l40 : View.readAt (Elt Ideal) arg4.view (Rect.unit (s := S4x7168) ![0, 0] S1x7168.size inb_S4x7168_S1x7168_0_0).toLoadRect (harg4.unread x4) (ix2 0 j) = x4 (ix2 0 j) :=
    load_at arg4 harg4 x4 _ _ _ fun a => by match a with | 0 => rfl | 1 => exact (Nat.zero_add _).trans (Nat.one_mul _)
  have l41 : View.readAt (Elt Ideal) arg4.view (Rect.unit (s := S4x7168) ![1, 0] S1x7168.size inb_S4x7168_S1x7168_1_0).toLoadRect (harg4.unread x4) (ix2 0 j) = x4 (ix2 1 j) :=
    load_at arg4 harg4 x4 _ _ _ fun a => by match a with | 0 => rfl | 1 => exact (Nat.zero_add _).trans (Nat.one_mul _)
  have l42 : View.readAt (Elt Ideal) arg4.view (Rect.unit (s := S4x7168) ![2, 0] S1x7168.size inb_S4x7168_S1x7168_2_0).toLoadRect (harg4.unread x4) (ix2 0 j) = x4 (ix2 2 j) :=
    load_at arg4 harg4 x4 _ _ _ fun a => by match a with | 0 => rfl | 1 => exact (Nat.zero_add _).trans (Nat.one_mul _)
  have l43 : View.readAt (Elt Ideal) arg4.view (Rect.unit (s := S4x7168) ![3, 0] S1x7168.size inb_S4x7168_S1x7168_3_0).toLoadRect (harg4.unread x4) (ix2 0 j) = x4 (ix2 3 j) :=
    load_at arg4 harg4 x4 _ _ _ fun a => by match a with | 0 => rfl | 1 => exact (Nat.zero_add _).trans (Nat.one_mul _)
  refine Eq.trans ?_ (pick f hf r (fun e => Spec.lin x1 x2 x3 x4 e r j) 0 e h h' (fun e => x0 (ix1 e)) hx)
  unfold acc kernelRun0_A.sl.r_5 kernelRun0_A.sl.r_6 kernelRun0_A.sl.v28 kernelRun0_A.sl.v12 kernelRun0_A.sl.v9 kernelRun0_A.sl.r_2 kernelRun0_A.sl.r_3 kernelRun0_A.sl.r_4
  rw [pay13_ap, pay10_ap, pay9_ap, w0, w1, w2, w3]
  unfold Spec.lin
  simp only [pay8_ap, l1, l2, l30, l31, l32, l33, l40, l41, l42, l43]

/-- The activation of row r in group g. -/
theorem act_ap (f : ℕ → ℕ) (hf : f 0 + f 1 + f 2 + f 3 = 24576) (hx : ∀ e : Fin 4, x0 (ix1 e) = BitVec.ofNat 32 (f e.val)) (r : Fin 24576) (g : Fin 28) (k : Fin 128) (e : Fin 4)
    (h : Plan.S f e.val ≤ r.val) (h' : r.val < Plan.E f e.val) :
    k0_pay17 (kernelRun0_A.sl.r_9 c arg0 harg0 arg1 harg1 arg2 harg2 arg3 harg3 arg4 harg4 x0 x1 x2 x3 x4) (kernelRun0_A.sl.r_10 c arg0 harg0 arg1 harg1 arg2 harg2 arg3 harg3 arg4 harg4 x0 x1 x2 x3 x4) k0_pay16 (ix3 r g k)
      = Spec.group x1 x2 x3 x4 e r g k := by
  unfold Spec.group
  rw [← acc_ap c arg0 harg0 arg1 harg1 arg2 harg2 arg3 harg3 arg4 harg4 x0 x1 x2 x3 x4 f hf hx r ⟨128 * g.val + k.val, by omega⟩ e h h',
    ← acc_ap c arg0 harg0 arg1 harg1 arg2 harg2 arg3 harg3 arg4 harg4 x0 x1 x2 x3 x4 f hf hx r ⟨3584 + (128 * g.val + k.val), by omega⟩ e h h']
  refine pay17_ap _ _ _ r g k ?_ ?_
  · unfold kernelRun0_A.sl.r_9 acc
    pointwise [k0_pay14]
  · unfold kernelRun0_A.sl.r_10 acc
    pointwise [k0_pay15]

end Cert.ReferenceIdeal.Hand

end
-- ==== Proof.ReferenceIdeal.Stores.lean ====
/- What the reference's stores leave in its two results. -/
module

public import proofs.«01_k».proof.Proof.ReferenceIdeal.Cell
public import Idealize.ShloMosaic.Lib.Pipeline.ValueKit
import all proofs.«01_k».proof.Proof.Gen.ReferenceIdeal.Frame.RunA

@[expose] public section

set_option maxRecDepth 16384

noncomputable section

namespace Cert.ReferenceIdeal.Hand

open Idealize.ShloMosaic Idealize.ShloMosaic.TcCoe Cert.ReferenceIdeal.Gen

theorem store0_ap (v : FVec Ideal S24576x28 .f32) (r : Fin 24576) (b : Fin 2) : k0_pay21 v (ix3 0 r b) = Ideal.exp2 (v (ix2 r ⟨0 + b.val, by omega⟩)) := by
  pointwise [k0_pay21, k0_pay20]
  rfl

theorem store1_ap (v : FVec Ideal S24576x28 .f32) (r : Fin 24576) (b : Fin 2) : k0_pay22 v (ix3 0 r b) = Ideal.exp2 (v (ix2 r ⟨2 + b.val, by omega⟩)) := by
  pointwise [k0_pay22, k0_pay20]
  rfl

theorem store2_ap (v : FVec Ideal S24576x28 .f32) (r : Fin 24576) (b : Fin 2) : k0_pay23 v (ix3 0 r b) = Ideal.exp2 (v (ix2 r ⟨4 + b.val, by omega⟩)) := by
  pointwise [k0_pay23, k0_pay20]
  rfl

theorem store3_ap (v : FVec Ideal S24576x28 .f32) (r : Fin 24576) (b : Fin 2) : k0_pay24 v (ix3 0 r b) = Ideal.exp2 (v (ix2 r ⟨6 + b.val, by omega⟩)) := by
  pointwise [k0_pay24, k0_pay20]
  rfl

theorem store4_ap (v : FVec Ideal S24576x28 .f32) (r : Fin 24576) (b : Fin 2) : k0_pay25 v (ix3 0 r b) = Ideal.exp2 (v (ix2 r ⟨8 + b.val, by omega⟩)) := by
  pointwise [k0_pay25, k0_pay20]
  rfl

theorem store5_ap (v : FVec Ideal S24576x28 .f32) (r : Fin 24576) (b : Fin 2) : k0_pay26 v (ix3 0 r b) = Ideal.exp2 (v (ix2 r ⟨10 + b.val, by omega⟩)) := by
  pointwise [k0_pay26, k0_pay20]
  rfl

theorem store6_ap (v : FVec Ideal S24576x28 .f32) (r : Fin 24576) (b : Fin 2) : k0_pay27 v (ix3 0 r b) = Ideal.exp2 (v (ix2 r ⟨12 + b.val, by omega⟩)) := by
  pointwise [k0_pay27, k0_pay20]
  rfl

theorem store7_ap (v : FVec Ideal S24576x28 .f32) (r : Fin 24576) (b : Fin 2) : k0_pay1 (k0_pay28 v) (ix3 0 r b) = Ideal.exp2 (v (ix2 r ⟨14 + b.val, by omega⟩)) := by
  pointwise [k0_pay1, k0_pay28, k0_pay20]
  rfl

theorem store8_ap (v : FVec Ideal S24576x28 .f32) (r : Fin 24576) (b : Fin 2) : k0_pay2 (k0_pay20 v) (ix3 0 r b) = Ideal.exp2 (v (ix2 r ⟨16 + b.val, by omega⟩)) := by
  pointwise [k0_pay2, k0_pay20]
  rfl

theorem store9_ap (v : FVec Ideal S24576x28 .f32) (r : Fin 24576) (b : Fin 2) : k0_pay3 (k0_pay20 v) (ix3 0 r b) = Ideal.exp2 (v (ix2 r ⟨18 + b.val, by omega⟩)) := by
  pointwise [k0_pay3, k0_pay20]
  rfl

theorem store10_ap (v : FVec Ideal S24576x28 .f32) (r : Fin 24576) (b : Fin 2) : k0_pay4 (k0_pay20 v) (ix3 0 r b) = Ideal.exp2 (v (ix2 r ⟨20 + b.val, by omega⟩)) := by
  pointwise [k0_pay4, k0_pay20]
  rfl

theorem store11_ap (v : FVec Ideal S24576x28 .f32) (r : Fin 24576) (b : Fin 2) : k0_pay5 (k0_pay20 v) (ix3 0 r b) = Ideal.exp2 (v (ix2 r ⟨22 + b.val, by omega⟩)) := by
  pointwise [k0_pay5, k0_pay20]
  rfl

theorem store12_ap (v : FVec Ideal S24576x28 .f32) (r : Fin 24576) (b : Fin 2) : k0_pay6 (k0_pay20 v) (ix3 0 r b) = Ideal.exp2 (v (ix2 r ⟨24 + b.val, by omega⟩)) := by
  pointwise [k0_pay6, k0_pay20]
  rfl

theorem store13_ap (v : FVec Ideal S24576x28 .f32) (r : Fin 24576) (b : Fin 2) : k0_pay7 (k0_pay20 v) (ix3 0 r b) = Ideal.exp2 (v (ix2 r ⟨26 + b.val, by omega⟩)) := by
  pointwise [k0_pay7, k0_pay20]
  rfl

variable (c : Dev nD) (arg0 : Memref sig .tc .smem S4 .i32) (harg0 : arg0.IsWhole) (arg1 : Memref sig .tc .vmem S24576x7168 .fp8e4m3) (harg1 : arg1.IsWhole) (arg2 : Memref sig .tc .vmem S24576x56 .f32) (harg2 : arg2.IsWhole) (arg3 : Memref sig .tc .vmem S4x7168x7168 .bf16) (harg3 : arg3.IsWhole) (arg4 : Memref sig .tc .vmem S4x7168 .f32) (harg4 : arg4.IsWhole) (arg5 : Memref sig .tc .vmem S24576x3584 .fp8e4m3) (harg5 : arg5.IsWhole) (arg6 : Memref sig .tc .vmem S14x24576x2 .f32) (harg6 : arg6.IsWhole)
variable (x0 : Vec Ideal S4 .i32) (x1 : Vec Ideal S24576x7168 .fp8e4m3) (x2 : Vec Ideal S24576x56 .f32) (x3 : Vec Ideal S4x7168x7168 .bf16) (x4 : Vec Ideal S4x7168 .f32)

/-- The codes that the body leaves. -/
theorem out5_ap (f : ℕ → ℕ) (hf : f 0 + f 1 + f 2 + f 3 = 24576) (hx : ∀ e : Fin 4, x0 (ix1 e) = BitVec.ofNat 32 (f e.val)) (r : Fin 24576) (q : Fin 3584) (g : Fin 28) (k : Fin 128) (e : Fin 4) (hq : q.val = 128 * g.val + k.val)
    (h : Plan.S f e.val ≤ r.val) (h' : r.val < Plan.E f e.val) :
    out0_A_5 c arg0 harg0 arg1 harg1 arg2 harg2 arg3 harg3 arg4 harg4 arg5 harg5 arg6 harg6 x0 x1 x2 x3 x4 (ix2 r q) = Spec.code (Spec.group x1 x2 x3 x4 e r g) k := by
  unfold out0_A_5 kernelRun0_A
  dsimp only
  rw [View.read_writes_cons_hit_of_coords _ _ _ _ _ (ix2 r q) (ix2 r q) (fun a => by match a with | 0 => exact ((Nat.zero_add _).trans (Nat.one_mul _)).symm | 1 => exact ((Nat.zero_add _).trans (Nat.one_mul _)).symm)]
  unfold kernelRun0_A.sl.r_12
  rw [pay19_ap _ _ _ r q g k hq, pay18_ap]
  simp only [act_ap c arg0 harg0 arg1 harg1 arg2 harg2 arg3 harg3 arg4 harg4 x0 x1 x2 x3 x4 f hf hx r g _ e h h']
  rw [Quant.exp2_neg_eC]
  rfl

/-- The exponents that the body computes. -/
theorem exponent_at (f : ℕ → ℕ) (hf : f 0 + f 1 + f 2 + f 3 = 24576) (hx : ∀ e : Fin 4, x0 (ix1 e) = BitVec.ofNat 32 (f e.val)) (r : Fin 24576) (g : Fin 28) (e : Fin 4)
    (h : Plan.S f e.val ≤ r.val) (h' : r.val < Plan.E f e.val) :
    Ideal.exp2 (kernelRun0_A.sl.r_11 c arg0 harg0 arg1 harg1 arg2 harg2 arg3 harg3 arg4 harg4 x0 x1 x2 x3 x4 (ix2 r g)) = Spec.scl (Spec.group x1 x2 x3 x4 e r g) := by
  unfold kernelRun0_A.sl.r_11
  rw [pay18_ap]
  simp only [act_ap c arg0 harg0 arg1 harg1 arg2 harg2 arg3 harg3 arg4 harg4 x0 x1 x2 x3 x4 f hf hx r g _ e h h']
  rw [Quant.exp2_eC]
  rfl

/-- The scales that the body leaves. -/
theorem out6_ap (f : ℕ → ℕ) (hf : f 0 + f 1 + f 2 + f 3 = 24576) (hx : ∀ e : Fin 4, x0 (ix1 e) = BitVec.ofNat 32 (f e.val)) (n : Fin 14) (r : Fin 24576) (b : Fin 2) (g : Fin 28) (e : Fin 4) (hg : g.val = 2 * n.val + b.val)
    (h : Plan.S f e.val ≤ r.val) (h' : r.val < Plan.E f e.val) :
    out0_A_6 c arg0 harg0 arg1 harg1 arg2 harg2 arg3 harg3 arg4 harg4 arg5 harg5 arg6 harg6 x0 x1 x2 x3 x4 (ix3 n r b) = Spec.scl (Spec.group x1 x2 x3 x4 e r g) := by
  rw [← exponent_at c arg0 harg0 arg1 harg1 arg2 harg2 arg3 harg3 arg4 harg4 x0 x1 x2 x3 x4 f hf hx r g e h h']
  unfold out0_A_6 kernelRun0_A
  dsimp only
  match n, hg with
  | 0, hg =>
    have hG : (⟨0 + b.val, by omega⟩ : Fin 28) = g := Fin.ext hg.symm
    rw [View.read_writes_cons_miss_of_axis _ _ _ _ (ix3 0 r b) 0 13 1 rfl rfl rfl (.inl (by show 0 < 13; omega))]
    rw [View.read_writes_cons_miss_of_axis _ _ _ _ (ix3 0 r b) 0 12 1 rfl rfl rfl (.inl (by show 0 < 12; omega))]
    rw [View.read_writes_cons_miss_of_axis _ _ _ _ (ix3 0 r b) 0 11 1 rfl rfl rfl (.inl (by show 0 < 11; omega))]
    rw [View.read_writes_cons_miss_of_axis _ _ _ _ (ix3 0 r b) 0 10 1 rfl rfl rfl (.inl (by show 0 < 10; omega))]
    rw [View.read_writes_cons_miss_of_axis _ _ _ _ (ix3 0 r b) 0 9 1 rfl rfl rfl (.inl (by show 0 < 9; omega))]
    rw [View.read_writes_cons_miss_of_axis _ _ _ _ (ix3 0 r b) 0 8 1 rfl rfl rfl (.inl (by show 0 < 8; omega))]
    rw [View.read_writes_cons_miss_of_axis _ _ _ _ (ix3 0 r b) 0 7 1 rfl rfl rfl (.inl (by show 0 < 7; omega))]
    rw [View.read_writes_cons_miss_of_axis _ _ _ _ (ix3 0 r b) 0 6 1 rfl rfl rfl (.inl (by show 0 < 6; omega))]
    rw [View.read_writes_cons_miss_of_axis _ _ _ _ (ix3 0 r b) 0 5 1 rfl rfl rfl (.inl (by show 0 < 5; omega))]
    rw [View.read_writes_cons_miss_of_axis _ _ _ _ (ix3 0 r b) 0 4 1 rfl rfl rfl (.inl (by show 0 < 4; omega))]
    rw [View.read_writes_cons_miss_of_axis _ _ _ _ (ix3 0 r b) 0 3 1 rfl rfl rfl (.inl (by show 0 < 3; omega))]
    rw [View.read_writes_cons_miss_of_axis _ _ _ _ (ix3 0 r b) 0 2 1 rfl rfl rfl (.inl (by show 0 < 2; omega))]
    rw [View.read_writes_cons_miss_of_axis _ _ _ _ (ix3 0 r b) 0 1 1 rfl rfl rfl (.inl (by show 0 < 1; omega))]
    rw [View.read_writes_cons_hit_of_coords _ _ _ _ _ (ix3 0 r b) (ix3 0 r b) (fun a => by match a with | 0 => rfl | 1 => exact ((Nat.zero_add _).trans (Nat.one_mul _)).symm | 2 => exact ((Nat.zero_add _).trans (Nat.one_mul _)).symm)]
    exact (store0_ap _ r b).trans (by rw [hG])
  | 1, hg =>
    have hG : (⟨2 + b.val, by omega⟩ : Fin 28) = g := Fin.ext hg.symm
    rw [View.read_writes_cons_miss_of_axis _ _ _ _ (ix3 1 r b) 0 13 1 rfl rfl rfl (.inl (by show 1 < 13; omega))]
    rw [View.read_writes_cons_miss_of_axis _ _ _ _ (ix3 1 r b) 0 12 1 rfl rfl rfl (.inl (by show 1 < 12; omega))]
    rw [View.read_writes_cons_miss_of_axis _ _ _ _ (ix3 1 r b) 0 11 1 rfl rfl rfl (.inl (by show 1 < 11; omega))]
    rw [View.read_writes_cons_miss_of_axis _ _ _ _ (ix3 1 r b) 0 10 1 rfl rfl rfl (.inl (by show 1 < 10; omega))]
    rw [View.read_writes_cons_miss_of_axis _ _ _ _ (ix3 1 r b) 0 9 1 rfl rfl rfl (.inl (by show 1 < 9; omega))]
    rw [View.read_writes_cons_miss_of_axis _ _ _ _ (ix3 1 r b) 0 8 1 rfl rfl rfl (.inl (by show 1 < 8; omega))]
    rw [View.read_writes_cons_miss_of_axis _ _ _ _ (ix3 1 r b) 0 7 1 rfl rfl rfl (.inl (by show 1 < 7; omega))]
    rw [View.read_writes_cons_miss_of_axis _ _ _ _ (ix3 1 r b) 0 6 1 rfl rfl rfl (.inl (by show 1 < 6; omega))]
    rw [View.read_writes_cons_miss_of_axis _ _ _ _ (ix3 1 r b) 0 5 1 rfl rfl rfl (.inl (by show 1 < 5; omega))]
    rw [View.read_writes_cons_miss_of_axis _ _ _ _ (ix3 1 r b) 0 4 1 rfl rfl rfl (.inl (by show 1 < 4; omega))]
    rw [View.read_writes_cons_miss_of_axis _ _ _ _ (ix3 1 r b) 0 3 1 rfl rfl rfl (.inl (by show 1 < 3; omega))]
    rw [View.read_writes_cons_miss_of_axis _ _ _ _ (ix3 1 r b) 0 2 1 rfl rfl rfl (.inl (by show 1 < 2; omega))]
    rw [View.read_writes_cons_hit_of_coords _ _ _ _ _ (ix3 0 r b) (ix3 1 r b) (fun a => by match a with | 0 => rfl | 1 => exact ((Nat.zero_add _).trans (Nat.one_mul _)).symm | 2 => exact ((Nat.zero_add _).trans (Nat.one_mul _)).symm)]
    exact (store1_ap _ r b).trans (by rw [hG])
  | 2, hg =>
    have hG : (⟨4 + b.val, by omega⟩ : Fin 28) = g := Fin.ext hg.symm
    rw [View.read_writes_cons_miss_of_axis _ _ _ _ (ix3 2 r b) 0 13 1 rfl rfl rfl (.inl (by show 2 < 13; omega))]
    rw [View.read_writes_cons_miss_of_axis _ _ _ _ (ix3 2 r b) 0 12 1 rfl rfl rfl (.inl (by show 2 < 12; omega))]
    rw [View.read_writes_cons_miss_of_axis _ _ _ _ (ix3 2 r b) 0 11 1 rfl rfl rfl (.inl (by show 2 < 11; omega))]
    rw [View.read_writes_cons_miss_of_axis _ _ _ _ (ix3 2 r b) 0 10 1 rfl rfl rfl (.inl (by show 2 < 10; omega))]
    rw [View.read_writes_cons_miss_of_axis _ _ _ _ (ix3 2 r b) 0 9 1 rfl rfl rfl (.inl (by show 2 < 9; omega))]
    rw [View.read_writes_cons_miss_of_axis _ _ _ _ (ix3 2 r b) 0 8 1 rfl rfl rfl (.inl (by show 2 < 8; omega))]
    rw [View.read_writes_cons_miss_of_axis _ _ _ _ (ix3 2 r b) 0 7 1 rfl rfl rfl (.inl (by show 2 < 7; omega))]
    rw [View.read_writes_cons_miss_of_axis _ _ _ _ (ix3 2 r b) 0 6 1 rfl rfl rfl (.inl (by show 2 < 6; omega))]
    rw [View.read_writes_cons_miss_of_axis _ _ _ _ (ix3 2 r b) 0 5 1 rfl rfl rfl (.inl (by show 2 < 5; omega))]
    rw [View.read_writes_cons_miss_of_axis _ _ _ _ (ix3 2 r b) 0 4 1 rfl rfl rfl (.inl (by show 2 < 4; omega))]
    rw [View.read_writes_cons_miss_of_axis _ _ _ _ (ix3 2 r b) 0 3 1 rfl rfl rfl (.inl (by show 2 < 3; omega))]
    rw [View.read_writes_cons_hit_of_coords _ _ _ _ _ (ix3 0 r b) (ix3 2 r b) (fun a => by match a with | 0 => rfl | 1 => exact ((Nat.zero_add _).trans (Nat.one_mul _)).symm | 2 => exact ((Nat.zero_add _).trans (Nat.one_mul _)).symm)]
    exact (store2_ap _ r b).trans (by rw [hG])
  | 3, hg =>
    have hG : (⟨6 + b.val, by omega⟩ : Fin 28) = g := Fin.ext hg.symm
    rw [View.read_writes_cons_miss_of_axis _ _ _ _ (ix3 3 r b) 0 13 1 rfl rfl rfl (.inl (by show 3 < 13; omega))]
    rw [View.read_writes_cons_miss_of_axis _ _ _ _ (ix3 3 r b) 0 12 1 rfl rfl rfl (.inl (by show 3 < 12; omega))]
    rw [View.read_writes_cons_miss_of_axis _ _ _ _ (ix3 3 r b) 0 11 1 rfl rfl rfl (.inl (by show 3 < 11; omega))]
    rw [View.read_writes_cons_miss_of_axis _ _ _ _ (ix3 3 r b) 0 10 1 rfl rfl rfl (.inl (by show 3 < 10; omega))]
    rw [View.read_writes_cons_miss_of_axis _ _ _ _ (ix3 3 r b) 0 9 1 rfl rfl rfl (.inl (by show 3 < 9; omega))]
    rw [View.read_writes_cons_miss_of_axis _ _ _ _ (ix3 3 r b) 0 8 1 rfl rfl rfl (.inl (by show 3 < 8; omega))]
    rw [View.read_writes_cons_miss_of_axis _ _ _ _ (ix3 3 r b) 0 7 1 rfl rfl rfl (.inl (by show 3 < 7; omega))]
    rw [View.read_writes_cons_miss_of_axis _ _ _ _ (ix3 3 r b) 0 6 1 rfl rfl rfl (.inl (by show 3 < 6; omega))]
    rw [View.read_writes_cons_miss_of_axis _ _ _ _ (ix3 3 r b) 0 5 1 rfl rfl rfl (.inl (by show 3 < 5; omega))]
    rw [View.read_writes_cons_miss_of_axis _ _ _ _ (ix3 3 r b) 0 4 1 rfl rfl rfl (.inl (by show 3 < 4; omega))]
    rw [View.read_writes_cons_hit_of_coords _ _ _ _ _ (ix3 0 r b) (ix3 3 r b) (fun a => by match a with | 0 => rfl | 1 => exact ((Nat.zero_add _).trans (Nat.one_mul _)).symm | 2 => exact ((Nat.zero_add _).trans (Nat.one_mul _)).symm)]
    exact (store3_ap _ r b).trans (by rw [hG])
  | 4, hg =>
    have hG : (⟨8 + b.val, by omega⟩ : Fin 28) = g := Fin.ext hg.symm
    rw [View.read_writes_cons_miss_of_axis _ _ _ _ (ix3 4 r b) 0 13 1 rfl rfl rfl (.inl (by show 4 < 13; omega))]
    rw [View.read_writes_cons_miss_of_axis _ _ _ _ (ix3 4 r b) 0 12 1 rfl rfl rfl (.inl (by show 4 < 12; omega))]
    rw [View.read_writes_cons_miss_of_axis _ _ _ _ (ix3 4 r b) 0 11 1 rfl rfl rfl (.inl (by show 4 < 11; omega))]
    rw [View.read_writes_cons_miss_of_axis _ _ _ _ (ix3 4 r b) 0 10 1 rfl rfl rfl (.inl (by show 4 < 10; omega))]
    rw [View.read_writes_cons_miss_of_axis _ _ _ _ (ix3 4 r b) 0 9 1 rfl rfl rfl (.inl (by show 4 < 9; omega))]
    rw [View.read_writes_cons_miss_of_axis _ _ _ _ (ix3 4 r b) 0 8 1 rfl rfl rfl (.inl (by show 4 < 8; omega))]
    rw [View.read_writes_cons_miss_of_axis _ _ _ _ (ix3 4 r b) 0 7 1 rfl rfl rfl (.inl (by show 4 < 7; omega))]
    rw [View.read_writes_cons_miss_of_axis _ _ _ _ (ix3 4 r b) 0 6 1 rfl rfl rfl (.inl (by show 4 < 6; omega))]
    rw [View.read_writes_cons_miss_of_axis _ _ _ _ (ix3 4 r b) 0 5 1 rfl rfl rfl (.inl (by show 4 < 5; omega))]
    rw [View.read_writes_cons_hit_of_coords _ _ _ _ _ (ix3 0 r b) (ix3 4 r b) (fun a => by match a with | 0 => rfl | 1 => exact ((Nat.zero_add _).trans (Nat.one_mul _)).symm | 2 => exact ((Nat.zero_add _).trans (Nat.one_mul _)).symm)]
    exact (store4_ap _ r b).trans (by rw [hG])
  | 5, hg =>
    have hG : (⟨10 + b.val, by omega⟩ : Fin 28) = g := Fin.ext hg.symm
    rw [View.read_writes_cons_miss_of_axis _ _ _ _ (ix3 5 r b) 0 13 1 rfl rfl rfl (.inl (by show 5 < 13; omega))]
    rw [View.read_writes_cons_miss_of_axis _ _ _ _ (ix3 5 r b) 0 12 1 rfl rfl rfl (.inl (by show 5 < 12; omega))]
    rw [View.read_writes_cons_miss_of_axis _ _ _ _ (ix3 5 r b) 0 11 1 rfl rfl rfl (.inl (by show 5 < 11; omega))]
    rw [View.read_writes_cons_miss_of_axis _ _ _ _ (ix3 5 r b) 0 10 1 rfl rfl rfl (.inl (by show 5 < 10; omega))]
    rw [View.read_writes_cons_miss_of_axis _ _ _ _ (ix3 5 r b) 0 9 1 rfl rfl rfl (.inl (by show 5 < 9; omega))]
    rw [View.read_writes_cons_miss_of_axis _ _ _ _ (ix3 5 r b) 0 8 1 rfl rfl rfl (.inl (by show 5 < 8; omega))]
    rw [View.read_writes_cons_miss_of_axis _ _ _ _ (ix3 5 r b) 0 7 1 rfl rfl rfl (.inl (by show 5 < 7; omega))]
    rw [View.read_writes_cons_miss_of_axis _ _ _ _ (ix3 5 r b) 0 6 1 rfl rfl rfl (.inl (by show 5 < 6; omega))]
    rw [View.read_writes_cons_hit_of_coords _ _ _ _ _ (ix3 0 r b) (ix3 5 r b) (fun a => by match a with | 0 => rfl | 1 => exact ((Nat.zero_add _).trans (Nat.one_mul _)).symm | 2 => exact ((Nat.zero_add _).trans (Nat.one_mul _)).symm)]
    exact (store5_ap _ r b).trans (by rw [hG])
  | 6, hg =>
    have hG : (⟨12 + b.val, by omega⟩ : Fin 28) = g := Fin.ext hg.symm
    rw [View.read_writes_cons_miss_of_axis _ _ _ _ (ix3 6 r b) 0 13 1 rfl rfl rfl (.inl (by show 6 < 13; omega))]
    rw [View.read_writes_cons_miss_of_axis _ _ _ _ (ix3 6 r b) 0 12 1 rfl rfl rfl (.inl (by show 6 < 12; omega))]
    rw [View.read_writes_cons_miss_of_axis _ _ _ _ (ix3 6 r b) 0 11 1 rfl rfl rfl (.inl (by show 6 < 11; omega))]
    rw [View.read_writes_cons_miss_of_axis _ _ _ _ (ix3 6 r b) 0 10 1 rfl rfl rfl (.inl (by show 6 < 10; omega))]
    rw [View.read_writes_cons_miss_of_axis _ _ _ _ (ix3 6 r b) 0 9 1 rfl rfl rfl (.inl (by show 6 < 9; omega))]
    rw [View.read_writes_cons_miss_of_axis _ _ _ _ (ix3 6 r b) 0 8 1 rfl rfl rfl (.inl (by show 6 < 8; omega))]
    rw [View.read_writes_cons_miss_of_axis _ _ _ _ (ix3 6 r b) 0 7 1 rfl rfl rfl (.inl (by show 6 < 7; omega))]
    rw [View.read_writes_cons_hit_of_coords _ _ _ _ _ (ix3 0 r b) (ix3 6 r b) (fun a => by match a with | 0 => rfl | 1 => exact ((Nat.zero_add _).trans (Nat.one_mul _)).symm | 2 => exact ((Nat.zero_add _).trans (Nat.one_mul _)).symm)]
    exact (store6_ap _ r b).trans (by rw [hG])
  | 7, hg =>
    have hG : (⟨14 + b.val, by omega⟩ : Fin 28) = g := Fin.ext hg.symm
    rw [View.read_writes_cons_miss_of_axis _ _ _ _ (ix3 7 r b) 0 13 1 rfl rfl rfl (.inl (by show 7 < 13; omega))]
    rw [View.read_writes_cons_miss_of_axis _ _ _ _ (ix3 7 r b) 0 12 1 rfl rfl rfl (.inl (by show 7 < 12; omega))]
    rw [View.read_writes_cons_miss_of_axis _ _ _ _ (ix3 7 r b) 0 11 1 rfl rfl rfl (.inl (by show 7 < 11; omega))]
    rw [View.read_writes_cons_miss_of_axis _ _ _ _ (ix3 7 r b) 0 10 1 rfl rfl rfl (.inl (by show 7 < 10; omega))]
    rw [View.read_writes_cons_miss_of_axis _ _ _ _ (ix3 7 r b) 0 9 1 rfl rfl rfl (.inl (by show 7 < 9; omega))]
    rw [View.read_writes_cons_miss_of_axis _ _ _ _ (ix3 7 r b) 0 8 1 rfl rfl rfl (.inl (by show 7 < 8; omega))]
    rw [View.read_writes_cons_hit_of_coords _ _ _ _ _ (ix3 0 r b) (ix3 7 r b) (fun a => by match a with | 0 => rfl | 1 => exact ((Nat.zero_add _).trans (Nat.one_mul _)).symm | 2 => exact ((Nat.zero_add _).trans (Nat.one_mul _)).symm)]
    unfold kernelRun0_A.sl.r_14
    exact (store7_ap _ r b).trans (by rw [hG])
  | 8, hg =>
    have hG : (⟨16 + b.val, by omega⟩ : Fin 28) = g := Fin.ext hg.symm
    rw [View.read_writes_cons_miss_of_axis _ _ _ _ (ix3 8 r b) 0 13 1 rfl rfl rfl (.inl (by show 8 < 13; omega))]
    rw [View.read_writes_cons_miss_of_axis _ _ _ _ (ix3 8 r b) 0 12 1 rfl rfl rfl (.inl (by show 8 < 12; omega))]
    rw [View.read_writes_cons_miss_of_axis _ _ _ _ (ix3 8 r b) 0 11 1 rfl rfl rfl (.inl (by show 8 < 11; omega))]
    rw [View.read_writes_cons_miss_of_axis _ _ _ _ (ix3 8 r b) 0 10 1 rfl rfl rfl (.inl (by show 8 < 10; omega))]
    rw [View.read_writes_cons_miss_of_axis _ _ _ _ (ix3 8 r b) 0 9 1 rfl rfl rfl (.inl (by show 8 < 9; omega))]
    rw [View.read_writes_cons_hit_of_coords _ _ _ _ _ (ix3 0 r b) (ix3 8 r b) (fun a => by match a with | 0 => rfl | 1 => exact ((Nat.zero_add _).trans (Nat.one_mul _)).symm | 2 => exact ((Nat.zero_add _).trans (Nat.one_mul _)).symm)]
    unfold kernelRun0_A.sl.r_13
    exact (store8_ap _ r b).trans (by rw [hG])
  | 9, hg =>
    have hG : (⟨18 + b.val, by omega⟩ : Fin 28) = g := Fin.ext hg.symm
    rw [View.read_writes_cons_miss_of_axis _ _ _ _ (ix3 9 r b) 0 13 1 rfl rfl rfl (.inl (by show 9 < 13; omega))]
    rw [View.read_writes_cons_miss_of_axis _ _ _ _ (ix3 9 r b) 0 12 1 rfl rfl rfl (.inl (by show 9 < 12; omega))]
    rw [View.read_writes_cons_miss_of_axis _ _ _ _ (ix3 9 r b) 0 11 1 rfl rfl rfl (.inl (by show 9 < 11; omega))]
    rw [View.read_writes_cons_miss_of_axis _ _ _ _ (ix3 9 r b) 0 10 1 rfl rfl rfl (.inl (by show 9 < 10; omega))]
    rw [View.read_writes_cons_hit_of_coords _ _ _ _ _ (ix3 0 r b) (ix3 9 r b) (fun a => by match a with | 0 => rfl | 1 => exact ((Nat.zero_add _).trans (Nat.one_mul _)).symm | 2 => exact ((Nat.zero_add _).trans (Nat.one_mul _)).symm)]
    unfold kernelRun0_A.sl.r_13
    exact (store9_ap _ r b).trans (by rw [hG])
  | 10, hg =>
    have hG : (⟨20 + b.val, by omega⟩ : Fin 28) = g := Fin.ext hg.symm
    rw [View.read_writes_cons_miss_of_axis _ _ _ _ (ix3 10 r b) 0 13 1 rfl rfl rfl (.inl (by show 10 < 13; omega))]
    rw [View.read_writes_cons_miss_of_axis _ _ _ _ (ix3 10 r b) 0 12 1 rfl rfl rfl (.inl (by show 10 < 12; omega))]
    rw [View.read_writes_cons_miss_of_axis _ _ _ _ (ix3 10 r b) 0 11 1 rfl rfl rfl (.inl (by show 10 < 11; omega))]
    rw [View.read_writes_cons_hit_of_coords _ _ _ _ _ (ix3 0 r b) (ix3 10 r b) (fun a => by match a with | 0 => rfl | 1 => exact ((Nat.zero_add _).trans (Nat.one_mul _)).symm | 2 => exact ((Nat.zero_add _).trans (Nat.one_mul _)).symm)]
    unfold kernelRun0_A.sl.r_13
    exact (store10_ap _ r b).trans (by rw [hG])
  | 11, hg =>
    have hG : (⟨22 + b.val, by omega⟩ : Fin 28) = g := Fin.ext hg.symm
    rw [View.read_writes_cons_miss_of_axis _ _ _ _ (ix3 11 r b) 0 13 1 rfl rfl rfl (.inl (by show 11 < 13; omega))]
    rw [View.read_writes_cons_miss_of_axis _ _ _ _ (ix3 11 r b) 0 12 1 rfl rfl rfl (.inl (by show 11 < 12; omega))]
    rw [View.read_writes_cons_hit_of_coords _ _ _ _ _ (ix3 0 r b) (ix3 11 r b) (fun a => by match a with | 0 => rfl | 1 => exact ((Nat.zero_add _).trans (Nat.one_mul _)).symm | 2 => exact ((Nat.zero_add _).trans (Nat.one_mul _)).symm)]
    unfold kernelRun0_A.sl.r_13
    exact (store11_ap _ r b).trans (by rw [hG])
  | 12, hg =>
    have hG : (⟨24 + b.val, by omega⟩ : Fin 28) = g := Fin.ext hg.symm
    rw [View.read_writes_cons_miss_of_axis _ _ _ _ (ix3 12 r b) 0 13 1 rfl rfl rfl (.inl (by show 12 < 13; omega))]
    rw [View.read_writes_cons_hit_of_coords _ _ _ _ _ (ix3 0 r b) (ix3 12 r b) (fun a => by match a with | 0 => rfl | 1 => exact ((Nat.zero_add _).trans (Nat.one_mul _)).symm | 2 => exact ((Nat.zero_add _).trans (Nat.one_mul _)).symm)]
    unfold kernelRun0_A.sl.r_13
    exact (store12_ap _ r b).trans (by rw [hG])
  | 13, hg =>
    have hG : (⟨26 + b.val, by omega⟩ : Fin 28) = g := Fin.ext hg.symm
    rw [View.read_writes_cons_hit_of_coords _ _ _ _ _ (ix3 0 r b) (ix3 13 r b) (fun a => by match a with | 0 => rfl | 1 => exact ((Nat.zero_add _).trans (Nat.one_mul _)).symm | 2 => exact ((Nat.zero_add _).trans (Nat.one_mul _)).symm)]
    unfold kernelRun0_A.sl.r_13
    exact (store13_ap _ r b).trans (by rw [hG])

end Cert.ReferenceIdeal.Hand

end
-- ==== Proof.ReferenceIdeal.Result.lean ====
/- The reference's two results at the end of its run. -/
module

public import proofs.«01_k».proof.Proof.ReferenceIdeal.Stores
public import Idealize.ShloMosaic.Lib.Pipeline.ValueKit

@[expose] public section

set_option maxRecDepth 16384

noncomputable section

namespace Cert.ReferenceIdeal.Hand

open Idealize.ShloMosaic Idealize.ShloMosaic.TcCoe Cert.ReferenceIdeal.Gen

/-! An index is its coordinates. -/
theorem ex1 {a : ℕ} (y : (⟨1, ![a]⟩ : Shape).Idx) : ∃ i : Fin a, y = ix1 i := ⟨y 0, funext fun x => by match x with | 0 => rfl⟩
theorem ex2 {a b : ℕ} (y : (⟨2, ![a, b]⟩ : Shape).Idx) : ∃ (i : Fin a) (j : Fin b), y = ix2 i j := ⟨y 0, y 1, funext fun x => by match x with | 0 => rfl | 1 => rfl⟩
theorem ex3 {a b c : ℕ} (y : (⟨3, ![a, b, c]⟩ : Shape).Idx) : ∃ (i : Fin a) (j : Fin b) (k : Fin c), y = ix3 i j k :=
  ⟨y 0, y 1, y 2, funext fun x => by match x with | 0 => rfl | 1 => rfl | 2 => rfl⟩

variable (m : (ℓ : Loc nD τ sig) → Buf (Elt Ideal) ℓ) (c : Dev nD)

/-- The one point of the grid. -/
def pt : Fin cfg0.N := ⟨0, by decide⟩

theorem idx0 : win0_0.index pt = ![0] := by decide +kernel
theorem idx1 : win0_1.index pt = ![0, 0] := by decide +kernel
theorem idx2 : win0_2.index pt = ![0, 0] := by decide +kernel
theorem idx3 : win0_3.index pt = ![0, 0, 0] := by decide +kernel
theorem idx4 : win0_4.index pt = ![0, 0] := by decide +kernel
theorem idx5 : win0_5.index pt = ![0, 0] := by decide +kernel
theorem idx6 : win0_6.index pt = ![0, 0, 0] := by decide +kernel

theorem in0 (e : Fin 4) : iblk m c 0 pt (ix1 e) = V m c main_arg4 (ix1 e) := by
  blk_ext [iblk, idx0]
theorem in1 (r : Fin 24576) (k : Fin 7168) : iblk m c 1 pt (ix2 r k) = V m c main_arg0 (ix2 r k) := by
  blk_ext [iblk, idx1]
theorem in2 (r : Fin 24576) (k : Fin 56) : iblk m c 2 pt (ix2 r k) = V m c main_arg1 (ix2 r k) := by
  blk_ext [iblk, idx2]
theorem in3 (e : Fin 4) (k q : Fin 7168) : iblk m c 3 pt (ix3 e k q) = V m c main_arg2 (ix3 e k q) := by
  blk_ext [iblk, idx3]
theorem in4 (e : Fin 4) (q : Fin 7168) : iblk m c 4 pt (ix2 e q) = V m c main_arg3 (ix2 e q) := by
  blk_ext [iblk, idx4]

theorem whole5 (A : S24576x3584.Idx → EReal) (r : Fin 24576) (q : Fin 3584) : View.read (Elt Ideal) ((cfg0.win 5).blk pt).view A (ix2 r q) = A (ix2 r q) := by
  blk_ext [idx5]
theorem whole6 (A : S14x24576x2.Idx → EReal) (n : Fin 14) (r : Fin 24576) (b : Fin 2) : View.read (Elt Ideal) ((cfg0.win 6).blk pt).view A (ix3 n r b) = A (ix3 n r b) := by
  blk_ext [idx6]

theorem in0_eq : (iblk m c 0 pt : S4.Idx → BitVec 32) = V m c main_arg4 := funext fun y => by
  obtain ⟨e, rfl⟩ := ex1 y
  exact in0 m c e
theorem in1_eq : (iblk m c 1 pt : S24576x7168.Idx → EReal) = V m c main_arg0 := funext fun y => by
  obtain ⟨r, k, rfl⟩ := ex2 y
  exact in1 m c r k
theorem in2_eq : (iblk m c 2 pt : S24576x56.Idx → EReal) = V m c main_arg1 := funext fun y => by
  obtain ⟨r, k, rfl⟩ := ex2 y
  exact in2 m c r k
theorem in3_eq : (iblk m c 3 pt : S4x7168x7168.Idx → EReal) = V m c main_arg2 := funext fun y => by
  obtain ⟨e, k, q, rfl⟩ := ex3 y
  exact in3 m c e k q
theorem in4_eq : (iblk m c 4 pt : S4x7168.Idx → EReal) = V m c main_arg3 := funext fun y => by
  obtain ⟨e, q, rfl⟩ := ex2 y
  exact in4 m c e q

/-- The codes at the end of the run. -/
theorem codes_at (f : ℕ → ℕ) (hf : f 0 + f 1 + f 2 + f 3 = 24576) (hx : ∀ e : Fin 4, V m c main_arg4 (ix1 e) = BitVec.ofNat 32 (f e.val))
    (r : Fin 24576) (q : Fin 3584) (g : Fin 28) (k : Fin 128) (e : Fin 4) (hq : q.val = 128 * g.val + k.val) (h : Plan.S f e.val ≤ r.val) (h' : r.val < Plan.E f e.val) :
    (dats m 0 c).arrAt 5 cfg0.N (ix2 r q) = Spec.code (Spec.group (V m c main_arg0) (V m c main_arg1) (V m c main_arg2) (V m c main_arg3) e r g) k := by
  refine (whole5 _ r q).symm.trans ((congrFun (Value.blocks5 m c pt (flush0_5 pt)) (ix2 r q)).trans ((congrFun (Value.flushed5_A m c pt) (ix2 r q)).trans ?_))
  refine Eq.trans ?_ ((out5_ap c (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) (V m c main_arg4) (V m c main_arg0) (V m c main_arg1) (V m c main_arg2) (V m c main_arg3) f hf hx r q g k e hq h h'))
  rw [← in0_eq m c, ← in1_eq m c, ← in2_eq m c, ← in3_eq m c, ← in4_eq m c]
  rfl

/-- The scales at the end of the run. -/
theorem scales_at (f : ℕ → ℕ) (hf : f 0 + f 1 + f 2 + f 3 = 24576) (hx : ∀ e : Fin 4, V m c main_arg4 (ix1 e) = BitVec.ofNat 32 (f e.val))
    (n : Fin 14) (r : Fin 24576) (b : Fin 2) (g : Fin 28) (e : Fin 4) (hg : g.val = 2 * n.val + b.val) (h : Plan.S f e.val ≤ r.val) (h' : r.val < Plan.E f e.val) :
    (dats m 0 c).arrAt 6 cfg0.N (ix3 n r b) = Spec.scl (Spec.group (V m c main_arg0) (V m c main_arg1) (V m c main_arg2) (V m c main_arg3) e r g) := by
  refine (whole6 _ n r b).symm.trans ((congrFun (Value.blocks6 m c pt (flush0_6 pt)) (ix3 n r b)).trans ((congrFun (Value.flushed6_A m c pt) (ix3 n r b)).trans ?_))
  refine Eq.trans ?_ ((out6_ap c (ms0_0 pt) (hs0_0 pt) (ms0_1 pt) (hs0_1 pt) (ms0_2 pt) (hs0_2 pt) (ms0_3 pt) (hs0_3 pt) (ms0_4 pt) (hs0_4 pt) (ms0_5 pt) (hs0_5 pt) (ms0_6 pt) (hs0_6 pt) (V m c main_arg4) (V m c main_arg0) (V m c main_arg1) (V m c main_arg2) (V m c main_arg3) f hf hx n r b g e hg h h'))
  rw [← in0_eq m c, ← in1_eq m c, ← in2_eq m c, ← in3_eq m c, ← in4_eq m c]
  rfl

end Cert.ReferenceIdeal.Hand

end
-- ==== Proof.Algebraic.lean ====
/- The kernel and the reference end with the same results. -/
module

public import proofs.«01_k».proof.Proof.KernelIdeal.Result
public import proofs.«01_k».proof.Proof.ReferenceIdeal.Result

@[expose] public section

noncomputable section

namespace Cert.Hand

open Idealize.ShloMosaic Idealize.ShloMosaic.TcCoe

/-- Every row belongs to an expert. -/
theorem expert (f : ℕ → ℕ) (hf : f 0 + f 1 + f 2 + f 3 = 24576) (r : Fin 24576) : ∃ e : Fin 4, Plan.S f e.val ≤ r.val ∧ r.val < Plan.E f e.val := by
  obtain ⟨v, -, -, h, h'⟩ := Plan.cover f hf r.val r.isLt
  exact ⟨⟨Plan.ve f v, Plan.ve_lt f hf v⟩, Plan.st_en f v r.val h h'⟩

variable (m : (ℓ : Loc KernelIdeal.nD KernelIdeal.τ KernelIdeal.sig) → Buf (Elt Ideal) ℓ) (m' : (ℓ : Loc ReferenceIdeal.nD ReferenceIdeal.τ ReferenceIdeal.sig) → Buf (Elt Ideal) ℓ)
variable (h : KernelIdeal.Hand.Fills m)
variable (h0 : m' (((0 : Dev ReferenceIdeal.nD).tc : Thread ReferenceIdeal.nD ReferenceIdeal.τ).loc ReferenceIdeal.main_arg0) = m (((0 : Dev KernelIdeal.nD).tc : Thread KernelIdeal.nD KernelIdeal.τ).loc KernelIdeal.main_arg0))
variable (h1 : m' (((0 : Dev ReferenceIdeal.nD).tc : Thread ReferenceIdeal.nD ReferenceIdeal.τ).loc ReferenceIdeal.main_arg1) = m (((0 : Dev KernelIdeal.nD).tc : Thread KernelIdeal.nD KernelIdeal.τ).loc KernelIdeal.main_arg1))
variable (h2 : m' (((0 : Dev ReferenceIdeal.nD).tc : Thread ReferenceIdeal.nD ReferenceIdeal.τ).loc ReferenceIdeal.main_arg2) = m (((0 : Dev KernelIdeal.nD).tc : Thread KernelIdeal.nD KernelIdeal.τ).loc KernelIdeal.main_arg2))
variable (h3 : m' (((0 : Dev ReferenceIdeal.nD).tc : Thread ReferenceIdeal.nD ReferenceIdeal.τ).loc ReferenceIdeal.main_arg3) = m (((0 : Dev KernelIdeal.nD).tc : Thread KernelIdeal.nD KernelIdeal.τ).loc KernelIdeal.main_arg3))
variable (h4 : m' (((0 : Dev ReferenceIdeal.nD).tc : Thread ReferenceIdeal.nD ReferenceIdeal.τ).loc ReferenceIdeal.main_arg4) = m (((0 : Dev KernelIdeal.nD).tc : Thread KernelIdeal.nD KernelIdeal.τ).loc KernelIdeal.main_arg4))
include h h0 h1 h2 h3 h4

/-- An array of codes that holds the kernel's results is the reference's. -/
theorem codes_eq (X : KernelIdeal.S24576x3584.Idx → EReal) (hX : KernelIdeal.Hand.IsCodes m X) :
    X = (ReferenceIdeal.Gen.dats m' 0 0).arrAt 5 ReferenceIdeal.cfg0.N := by
  funext y
  obtain ⟨r, q, rfl⟩ := ReferenceIdeal.Hand.ex2 y
  obtain ⟨e, he, he'⟩ := expert (KernelIdeal.Hand.nat m) h.total r
  have hq : q.val = 128 * (⟨q.val / 128, by omega⟩ : Fin 28).val + (⟨q.val % 128, by omega⟩ : Fin 128).val := by show q.val = 128 * (q.val / 128) + q.val % 128; omega
  refine (hX r q ⟨q.val / 128, by omega⟩ ⟨q.val % 128, by omega⟩ e hq he he').trans ?_
  refine Eq.symm ((ReferenceIdeal.Hand.codes_at m' 0 (KernelIdeal.Hand.nat m) h.total (fun e => ?_) r q ⟨q.val / 128, by omega⟩ ⟨q.val % 128, by omega⟩ e hq he he').trans ?_)
  · exact (congrFun h4 _).trans (h.sizes e)
  · unfold KernelIdeal.Hand.grpM ReferenceIdeal.Gen.V
    rw [← h0, ← h1, ← h2, ← h3]

/-- An array of scales that holds the kernel's results is the reference's. -/
theorem scales_eq (X : KernelIdeal.S14x24576x2.Idx → EReal) (hX : KernelIdeal.Hand.IsScales m X) :
    X = (ReferenceIdeal.Gen.dats m' 0 0).arrAt 6 ReferenceIdeal.cfg0.N := by
  funext y
  obtain ⟨n, r, b, rfl⟩ := ReferenceIdeal.Hand.ex3 y
  obtain ⟨e, he, he'⟩ := expert (KernelIdeal.Hand.nat m) h.total r
  refine (hX n r b ⟨2 * n.val + b.val, by omega⟩ e rfl he he').trans ?_
  refine Eq.symm ((ReferenceIdeal.Hand.scales_at m' 0 (KernelIdeal.Hand.nat m) h.total (fun e => ?_) n r b ⟨2 * n.val + b.val, by omega⟩ e rfl he he').trans ?_)
  · exact (congrFun h4 _).trans (h.sizes e)
  · unfold KernelIdeal.Hand.grpM ReferenceIdeal.Gen.V
    rw [← h0, ← h1, ← h2, ← h3]

end Cert.Hand

end
-- ==== Proof.Mxfp4.lean ====
/- The values of the 4-bit codes and of the 8-bit scales: the floats that the kernel composes bit by bit are those that the
   reference selects, and the powers of two that it raises. -/
module

public import proofs.«01_k».proof.Proof.Quant

@[expose] public section

set_option maxRecDepth 16384

noncomputable section

namespace Cert.Mxfp4

open Idealize.ShloMosaic

/-- The bits of a code's value, as the kernel composes them, -/
def bits (b : BitVec 32) : BitVec 32 :=
  IntOp.ori
    (Scalar.select (IntOp.cmpi .slt (IntOp.andi b 7#32) 2#32) (IntOp.muli (IntOp.andi b 7#32) 1056964608#32)
      (IntOp.ori (IntOp.shli .vector (IntOp.addi (IntOp.shrsi .vector (IntOp.andi b 7#32) 1#32) 126#32) 23#32)
        (IntOp.shli .vector (IntOp.andi (IntOp.andi b 7#32) 1#32) 22#32)))
    (IntOp.shli .vector (IntOp.shrsi .vector b 3#32) 31#32)
/-- the value, -/
def built (b : BitVec 32) : EReal := Ideal.ofBits .f32 (bits b)

/-- whether the code has the bit, -/
def has (b k : BitVec 32) : BitVec 1 := IntOp.cmpi .ne (IntOp.andi b k) 0#32
/-- and the magnitude and the value as the reference selects them. -/
def mag (b : BitVec 32) : EReal :=
  Scalar.select (has b 4#32)
    (Scalar.select (has b 2#32) (Scalar.select (has b 1#32) (Ideal.ofBits .bf16 0x40C0#16) (Ideal.ofBits .bf16 0x4080#16))
      (Scalar.select (has b 1#32) (Ideal.ofBits .bf16 0x4040#16) (Ideal.ofBits .bf16 0x4000#16)))
    (Scalar.select (has b 2#32) (Scalar.select (has b 1#32) (Ideal.ofBits .bf16 0x3FC0#16) (Ideal.ofBits .bf16 0x3F80#16))
      (Scalar.select (has b 1#32) (Ideal.ofBits .bf16 0x3F00#16) (Ideal.ofBits .bf16 0x0000#16)))
def value (b : BitVec 32) : EReal := Scalar.select (has b 8#32) (Ideal.ofBits .bf16 0x0000#16 - mag b) (mag b)

/-- The value of a normal f32 number. -/
theorem f32_eq {b : BitVec 32} (E T : ℕ) (neg : Bool) (h1 : (b.extractLsb' 23 8).toNat = E) (h2 : (b.extractLsb' 31 1 == 1#1) = neg) (h3 : (b.extractLsb' 0 23).toNat = T)
    (h : E ≠ 255) (h' : E ≠ 0) : Ideal.ofBits .f32 b = (((if neg then -1 else 1) * (2 ^ 23 + T : ℕ) * (2 : ℝ) ^ ((E : ℤ) - 150) : ℝ) : EReal) := by
  unfold Ideal.ofBits Ideal.ieee
  simp only [show 8 + 23 = 31 from rfl, h1, h2, h3]
  rw [if_neg (by norm_num; omega), if_neg h']
  norm_num [sub_sub]

/-- The value of a normal bf16 number. -/
theorem bf16_eq {b : BitVec 16} (E T : ℕ) (h1 : (b.extractLsb' 7 8).toNat = E) (h2 : (b.extractLsb' 15 1 == 1#1) = false) (h3 : (b.extractLsb' 0 7).toNat = T)
    (h : E ≠ 255) (h' : E ≠ 0) : Ideal.ofBits .bf16 b = (((2 ^ 7 + T : ℕ) * (2 : ℝ) ^ ((E : ℤ) - 134) : ℝ) : EReal) := by
  unfold Ideal.ofBits Ideal.ieee
  simp only [show 8 + 7 = 15 from rfl, h1, h2, h3]
  rw [if_neg (by norm_num; omega), if_neg h']
  norm_num [sub_sub]

theorem c6 : Ideal.ofBits .bf16 0x40C0#16 = ((6 : ℝ) : EReal) := by rw [bf16_eq 129 64 (by decide) (by decide) (by decide) (by decide) (by decide)]; norm_num
theorem c4 : Ideal.ofBits .bf16 0x4080#16 = ((4 : ℝ) : EReal) := by rw [bf16_eq 129 0 (by decide) (by decide) (by decide) (by decide) (by decide)]; norm_num
theorem c3 : Ideal.ofBits .bf16 0x4040#16 = ((3 : ℝ) : EReal) := by rw [bf16_eq 128 64 (by decide) (by decide) (by decide) (by decide) (by decide)]; norm_num
theorem c2 : Ideal.ofBits .bf16 0x4000#16 = ((2 : ℝ) : EReal) := by rw [bf16_eq 128 0 (by decide) (by decide) (by decide) (by decide) (by decide)]; norm_num
theorem c32 : Ideal.ofBits .bf16 0x3FC0#16 = ((3 / 2 : ℝ) : EReal) := by rw [bf16_eq 127 64 (by decide) (by decide) (by decide) (by decide) (by decide)]; norm_num
theorem c1 : Ideal.ofBits .bf16 0x3F80#16 = ((1 : ℝ) : EReal) := by rw [bf16_eq 127 0 (by decide) (by decide) (by decide) (by decide) (by decide)]; norm_num
theorem c12 : Ideal.ofBits .bf16 0x3F00#16 = ((1 / 2 : ℝ) : EReal) := by rw [bf16_eq 126 0 (by decide) (by decide) (by decide) (by decide) (by decide)]; norm_num

/-- The value of a code whose bits of the magnitude are not all zero, from the three fields of the float. -/
theorem built_at {n : ℕ} (E T : ℕ) (neg : Bool) (h1 : ((bits (BitVec.ofNat 32 n)).extractLsb' 23 8).toNat = E)
    (h2 : ((bits (BitVec.ofNat 32 n)).extractLsb' 31 1 == 1#1) = neg) (h3 : ((bits (BitVec.ofNat 32 n)).extractLsb' 0 23).toNat = T) (h : E ≠ 255) (h' : E ≠ 0) :
    built (BitVec.ofNat 32 n) = (((if neg then -1 else 1) * (2 ^ 23 + T : ℕ) * (2 : ℝ) ^ ((E : ℤ) - 150) : ℝ) : EReal) := f32_eq E T neg h1 h2 h3 h h'

/-- A selection between finite constants by a bit of a code. -/
theorem sel1 {α : Type} (x y : α) : Scalar.select 1#1 x y = x := rfl
theorem sel0 {α : Type} (x y : α) : Scalar.select 0#1 x y = y := rfl

theorem zero_built : built 0#32 = 0 := by
  have e : bits 0#32 = 0#32 := by decide +kernel
  unfold built; rw [e]; simp [Ideal.ofBits, Ideal.ieee]
theorem zero_built' : built 8#32 = 0 := by
  have e : bits 8#32 = 0x80000000#32 := by decide +kernel
  unfold built; rw [e]; simp [Ideal.ofBits, Ideal.ieee]

theorem neg_close {x y : ℝ} (h : x = -y) : ((x : ℝ) : EReal) = 0 - (y : EReal) := by
  rw [zero_sub, ← EReal.coe_neg, h]

/-- The composed value of each code is the selected one. -/
theorem built_eq (n : ℕ) (h : n < 16) : built (BitVec.ofNat 32 n) = value (BitVec.ofNat 32 n) := by
  unfold value mag
  rw [c6, c4, c3, c2, c32, c1, c12, Ideal.ofBits_zero_bf16]
  interval_cases n
  · simp only [show has (BitVec.ofNat 32 0) 1#32 = 0#1 by decide +kernel, show has (BitVec.ofNat 32 0) 2#32 = 0#1 by decide +kernel, show has (BitVec.ofNat 32 0) 4#32 = 0#1 by decide +kernel, show has (BitVec.ofNat 32 0) 8#32 = 0#1 by decide +kernel, sel0, sel1]; exact zero_built.trans (by norm_num)
  · simp only [show has (BitVec.ofNat 32 1) 1#32 = 1#1 by decide +kernel, show has (BitVec.ofNat 32 1) 2#32 = 0#1 by decide +kernel, show has (BitVec.ofNat 32 1) 4#32 = 0#1 by decide +kernel, show has (BitVec.ofNat 32 1) 8#32 = 0#1 by decide +kernel, sel0, sel1]
    rw [built_at 126 0 false (by decide +kernel) (by decide +kernel) (by decide +kernel) (by decide) (by decide)]
    exact congrArg _ (by norm_num)
  · simp only [show has (BitVec.ofNat 32 2) 1#32 = 0#1 by decide +kernel, show has (BitVec.ofNat 32 2) 2#32 = 1#1 by decide +kernel, show has (BitVec.ofNat 32 2) 4#32 = 0#1 by decide +kernel, show has (BitVec.ofNat 32 2) 8#32 = 0#1 by decide +kernel, sel0, sel1]
    rw [built_at 127 0 false (by decide +kernel) (by decide +kernel) (by decide +kernel) (by decide) (by decide)]
    exact congrArg _ (by norm_num)
  · simp only [show has (BitVec.ofNat 32 3) 1#32 = 1#1 by decide +kernel, show has (BitVec.ofNat 32 3) 2#32 = 1#1 by decide +kernel, show has (BitVec.ofNat 32 3) 4#32 = 0#1 by decide +kernel, show has (BitVec.ofNat 32 3) 8#32 = 0#1 by decide +kernel, sel0, sel1]
    rw [built_at 127 4194304 false (by decide +kernel) (by decide +kernel) (by decide +kernel) (by decide) (by decide)]
    exact congrArg _ (by norm_num)
  · simp only [show has (BitVec.ofNat 32 4) 1#32 = 0#1 by decide +kernel, show has (BitVec.ofNat 32 4) 2#32 = 0#1 by decide +kernel, show has (BitVec.ofNat 32 4) 4#32 = 1#1 by decide +kernel, show has (BitVec.ofNat 32 4) 8#32 = 0#1 by decide +kernel, sel0, sel1]
    rw [built_at 128 0 false (by decide +kernel) (by decide +kernel) (by decide +kernel) (by decide) (by decide)]
    exact congrArg _ (by norm_num)
  · simp only [show has (BitVec.ofNat 32 5) 1#32 = 1#1 by decide +kernel, show has (BitVec.ofNat 32 5) 2#32 = 0#1 by decide +kernel, show has (BitVec.ofNat 32 5) 4#32 = 1#1 by decide +kernel, show has (BitVec.ofNat 32 5) 8#32 = 0#1 by decide +kernel, sel0, sel1]
    rw [built_at 128 4194304 false (by decide +kernel) (by decide +kernel) (by decide +kernel) (by decide) (by decide)]
    exact congrArg _ (by norm_num)
  · simp only [show has (BitVec.ofNat 32 6) 1#32 = 0#1 by decide +kernel, show has (BitVec.ofNat 32 6) 2#32 = 1#1 by decide +kernel, show has (BitVec.ofNat 32 6) 4#32 = 1#1 by decide +kernel, show has (BitVec.ofNat 32 6) 8#32 = 0#1 by decide +kernel, sel0, sel1]
    rw [built_at 129 0 false (by decide +kernel) (by decide +kernel) (by decide +kernel) (by decide) (by decide)]
    exact congrArg _ (by norm_num)
  · simp only [show has (BitVec.ofNat 32 7) 1#32 = 1#1 by decide +kernel, show has (BitVec.ofNat 32 7) 2#32 = 1#1 by decide +kernel, show has (BitVec.ofNat 32 7) 4#32 = 1#1 by decide +kernel, show has (BitVec.ofNat 32 7) 8#32 = 0#1 by decide +kernel, sel0, sel1]
    rw [built_at 129 4194304 false (by decide +kernel) (by decide +kernel) (by decide +kernel) (by decide) (by decide)]
    exact congrArg _ (by norm_num)
  · simp only [show has (BitVec.ofNat 32 8) 1#32 = 0#1 by decide +kernel, show has (BitVec.ofNat 32 8) 2#32 = 0#1 by decide +kernel, show has (BitVec.ofNat 32 8) 4#32 = 0#1 by decide +kernel, show has (BitVec.ofNat 32 8) 8#32 = 1#1 by decide +kernel, sel0, sel1]; exact zero_built'.trans (by norm_num)
  · simp only [show has (BitVec.ofNat 32 9) 1#32 = 1#1 by decide +kernel, show has (BitVec.ofNat 32 9) 2#32 = 0#1 by decide +kernel, show has (BitVec.ofNat 32 9) 4#32 = 0#1 by decide +kernel, show has (BitVec.ofNat 32 9) 8#32 = 1#1 by decide +kernel, sel0, sel1]
    rw [built_at 126 0 true (by decide +kernel) (by decide +kernel) (by decide +kernel) (by decide) (by decide)]
    exact neg_close (by norm_num)
  · simp only [show has (BitVec.ofNat 32 10) 1#32 = 0#1 by decide +kernel, show has (BitVec.ofNat 32 10) 2#32 = 1#1 by decide +kernel, show has (BitVec.ofNat 32 10) 4#32 = 0#1 by decide +kernel, show has (BitVec.ofNat 32 10) 8#32 = 1#1 by decide +kernel, sel0, sel1]
    rw [built_at 127 0 true (by decide +kernel) (by decide +kernel) (by decide +kernel) (by decide) (by decide)]
    exact neg_close (by norm_num)
  · simp only [show has (BitVec.ofNat 32 11) 1#32 = 1#1 by decide +kernel, show has (BitVec.ofNat 32 11) 2#32 = 1#1 by decide +kernel, show has (BitVec.ofNat 32 11) 4#32 = 0#1 by decide +kernel, show has (BitVec.ofNat 32 11) 8#32 = 1#1 by decide +kernel, sel0, sel1]
    rw [built_at 127 4194304 true (by decide +kernel) (by decide +kernel) (by decide +kernel) (by decide) (by decide)]
    exact neg_close (by norm_num)
  · simp only [show has (BitVec.ofNat 32 12) 1#32 = 0#1 by decide +kernel, show has (BitVec.ofNat 32 12) 2#32 = 0#1 by decide +kernel, show has (BitVec.ofNat 32 12) 4#32 = 1#1 by decide +kernel, show has (BitVec.ofNat 32 12) 8#32 = 1#1 by decide +kernel, sel0, sel1]
    rw [built_at 128 0 true (by decide +kernel) (by decide +kernel) (by decide +kernel) (by decide) (by decide)]
    exact neg_close (by norm_num)
  · simp only [show has (BitVec.ofNat 32 13) 1#32 = 1#1 by decide +kernel, show has (BitVec.ofNat 32 13) 2#32 = 0#1 by decide +kernel, show has (BitVec.ofNat 32 13) 4#32 = 1#1 by decide +kernel, show has (BitVec.ofNat 32 13) 8#32 = 1#1 by decide +kernel, sel0, sel1]
    rw [built_at 128 4194304 true (by decide +kernel) (by decide +kernel) (by decide +kernel) (by decide) (by decide)]
    exact neg_close (by norm_num)
  · simp only [show has (BitVec.ofNat 32 14) 1#32 = 0#1 by decide +kernel, show has (BitVec.ofNat 32 14) 2#32 = 1#1 by decide +kernel, show has (BitVec.ofNat 32 14) 4#32 = 1#1 by decide +kernel, show has (BitVec.ofNat 32 14) 8#32 = 1#1 by decide +kernel, sel0, sel1]
    rw [built_at 129 0 true (by decide +kernel) (by decide +kernel) (by decide +kernel) (by decide) (by decide)]
    exact neg_close (by norm_num)
  · simp only [show has (BitVec.ofNat 32 15) 1#32 = 1#1 by decide +kernel, show has (BitVec.ofNat 32 15) 2#32 = 1#1 by decide +kernel, show has (BitVec.ofNat 32 15) 4#32 = 1#1 by decide +kernel, show has (BitVec.ofNat 32 15) 8#32 = 1#1 by decide +kernel, sel0, sel1]
    rw [built_at 129 4194304 true (by decide +kernel) (by decide +kernel) (by decide +kernel) (by decide) (by decide)]
    exact neg_close (by norm_num)

/-! ## The halves of a byte -/

/-- The code of row `r` in its byte: the low half at an even row, the high half at an odd one. -/
def half (b : BitVec 8) (r : ℕ) : BitVec 32 :=
  if r % 2 < 1 then IntOp.andi (b.setWidth 32) 15#32 else IntOp.shrsi .vector (b.setWidth 32) 4#32

theorem low_lt : ∀ k : Fin 256, (IntOp.andi ((BitVec.ofNat 8 k.val).setWidth 32) 15#32).toNat < 16 := by decide +kernel
theorem high_lt : ∀ k : Fin 256, (IntOp.shrsi .vector ((BitVec.ofNat 8 k.val).setWidth 32) 4#32).toNat < 16 := by decide +kernel

theorem byte_eq (b : BitVec 8) : ∃ k : Fin 256, b = BitVec.ofNat 8 k.val := ⟨⟨b.toNat, b.isLt⟩, BitVec.eq_of_toNat_eq (by simp)⟩

theorem half_lt (b : BitVec 8) (r : ℕ) : (half b r).toNat < 16 := by
  obtain ⟨k, rfl⟩ := byte_eq b
  unfold half
  split
  · exact low_lt k
  · exact high_lt k

theorem built_half (b : BitVec 8) (r : ℕ) : built (half b r) = value (half b r) := by
  have h := built_eq _ (half_lt b r)
  have e : BitVec.ofNat 32 (half b r).toNat = half b r := BitVec.eq_of_toNat_eq (by rw [BitVec.toNat_ofNat, Nat.mod_eq_of_lt (half b r).isLt])
  rwa [e] at h

/-! ## The scales -/

/-- The scale whose exponent field is the byte, -/
def scaleB (b : BitVec 8) : EReal := Ideal.ofBits .f32 (IntOp.shli .vector (b.setWidth 32) 23#32)
/-- and the power of two with the two ends. -/
def scale (b : BitVec 8) : EReal :=
  Scalar.select (IntOp.cmpi .eq (b.setWidth 32) 0#32) (Ideal.ofBits .f32 0x00000000#32)
    (Scalar.select (IntOp.cmpi .eq (b.setWidth 32) 255#32) (Ideal.ofBits .f32 0x7F800000#32)
      (Ideal.exp2 ((((IntOp.subi (b.setWidth 32) 127#32).toInt : ℝ)) : EReal)))

theorem scaleB_field (k : Fin 256) : scaleB (BitVec.ofNat 8 k.val) = Quant.field k.val := by
  have e : IntOp.shli .vector ((BitVec.ofNat 8 k.val).setWidth 32) 23#32 = BitVec.ofNat 32 k.val <<< 23 := by revert k; decide +kernel
  unfold scaleB Quant.field; rw [e]

theorem is_zero : ∀ k : Fin 256, IntOp.cmpi .eq ((BitVec.ofNat 8 k.val).setWidth 32) 0#32 = BitVec.ofBool (k.val == 0) := by decide +kernel
theorem is_top : ∀ k : Fin 256, IntOp.cmpi .eq ((BitVec.ofNat 8 k.val).setWidth 32) 255#32 = BitVec.ofBool (k.val == 255) := by decide +kernel
theorem diff : ∀ k : Fin 256, (IntOp.subi ((BitVec.ofNat 8 k.val).setWidth 32) 127#32).toInt = (k.val : ℤ) - 127 := by decide +kernel

theorem scale_eq (b : BitVec 8) : scaleB b = scale b := by
  obtain ⟨k, rfl⟩ := byte_eq b
  rw [scaleB_field]
  unfold scale
  rw [is_zero, is_top, diff]
  by_cases h0 : k.val = 0
  · rw [h0]; rfl
  by_cases h1 : k.val = 255
  · rw [h1]; rfl
  have hk := k.isLt
  rw [beq_eq_false_iff_ne.2 h0, beq_eq_false_iff_ne.2 h1]
  rw [show BitVec.ofBool false = 0#1 from rfl, sel0, sel0, Ideal.exp2_coe, Quant.field_eq (by omega) (by omega)]
  congr 1
  show _ = (2 : ℝ) ^ (((k.val : ℤ) - 127 : ℤ) : ℝ)
  rw [Real.rpow_intCast]

/-! ## A weight -/

/-- The weight of a row from the byte that holds its code and its scale's byte. -/
def weight (b : BitVec 8) (r : ℕ) (s : BitVec 8) : EReal := value (half b r) * scale s

theorem weight_eq (b : BitVec 8) (r : ℕ) (s : BitVec 8) : built (half b r) * scaleB s = weight b r s := by
  rw [built_half, scale_eq]; rfl

end Cert.Mxfp4

end
-- ==== Proof.DequantIdeal.Pay.lean ====
/- What the dequantiser's body computes at an element, over the extended reals. -/
module

public import proofs.«01_k».proof.Proof.Gen.DequantIdeal.Skeleton
public import proofs.«01_k».proof.Proof.Mxfp4
public import Idealize.ShloMosaic.Lib.Pointwise

@[expose] public section

noncomputable section

namespace Cert.DequantIdeal.Hand
open Idealize.ShloMosaic Cert.DequantIdeal.Gen

/-- The value of the code in a half of a byte. -/
theorem pay2_ap (w : Vec Ideal S1x512x1024 .i8) (r q : Fin 1024) :
    (k0_pay2 (F := Ideal) w (ix2 r q) : EReal) = Mxfp4.built (Mxfp4.half (w (ix3 0 ⟨r.val / 2, by omega⟩ q)) r.val) := by
  unfold Mxfp4.built Mxfp4.bits Mxfp4.half
  pointwise [k0_pay2]
  rfl

/-- The value times the scale of its 32 rows. -/
theorem pay1_ap (v : FVec Ideal S1024x1024 .bf16) (s : Vec Ideal S1x32x1024 .i8) (r q : Fin 1024) :
    (k0_pay1 (F := Ideal) v (k0_pay3 (F := Ideal) s) (ix3 0 r q) : EReal) = HMul.hMul (α := EReal) (β := EReal) (γ := EReal) (v (ix2 r q))
      (Mxfp4.scaleB (s (ix3 0 ⟨r.val / 32, by omega⟩ q))) := by
  unfold Mxfp4.scaleB
  pointwise [k0_pay1, k0_pay3]

end Cert.DequantIdeal.Hand

end
-- ==== Proof.DequantIdeal.Result.lean ====
/- The array of weights at the end of the dequantiser's run. -/
module

public import proofs.«01_k».proof.Proof.DequantIdeal.Pay
public import proofs.«01_k».proof.Proof.Gen.DequantIdeal.Value
public import Idealize.ShloMosaic.Lib.Pipeline.ValueKit

@[expose] public section

set_option maxRecDepth 16384

noncomputable section

namespace Cert.DequantIdeal.Hand

open Idealize.ShloMosaic Idealize.ShloMosaic.TcCoe Cert.DequantIdeal Cert.DequantIdeal.Gen

variable (m : (ℓ : Loc nD τ sig) → Buf (Elt Ideal) ℓ) (c : Dev nD)

/-! The block of each window at a point: the expert, then the block of rows, then the block of columns. -/
theorem index0 : ∀ t : Fin cfg0.N, win0_0.index t = ![t.val / 49, t.val / 7 % 7, t.val % 7] :=
  (by decide +kernel : ∀ t : Fin grid0.N, win0_0.index t = ![t.val / 49, t.val / 7 % 7, t.val % 7])
theorem index1 : ∀ t : Fin cfg0.N, win0_1.index t = ![t.val / 49, t.val / 7 % 7, t.val % 7] :=
  (by decide +kernel : ∀ t : Fin grid0.N, win0_1.index t = ![t.val / 49, t.val / 7 % 7, t.val % 7])
theorem index2 : ∀ t : Fin cfg0.N, win0_2.index t = ![t.val / 49, t.val / 7 % 7, t.val % 7] :=
  (by decide +kernel : ∀ t : Fin grid0.N, win0_2.index t = ![t.val / 49, t.val / 7 % 7, t.val % 7])

theorem N_eq : cfg0.N = 196 := by decide

/-- The codes of a block, -/
theorem in0 (t : Fin cfg0.N) (i : Fin 512) (q : Fin 1024) :
    iblk m c 0 t (ix3 0 i q) = V m c main_arg0 (ix3 ⟨t.val / 49, by have := t.isLt; have := N_eq; omega⟩ ⟨t.val / 7 % 7 * 512 + i.val, by omega⟩ ⟨t.val % 7 * 1024 + q.val, by omega⟩) := by
  blk_ext [iblk, index0]
/-- its scales, -/
theorem in1 (t : Fin cfg0.N) (g : Fin 32) (q : Fin 1024) :
    iblk m c 1 t (ix3 0 g q) = V m c main_arg1 (ix3 ⟨t.val / 49, by have := t.isLt; have := N_eq; omega⟩ ⟨t.val / 7 % 7 * 32 + g.val, by omega⟩ ⟨t.val % 7 * 1024 + q.val, by omega⟩) := by
  blk_ext [iblk, index1]
/-- and the place of its weights. -/
theorem in2 (A : S4x7168x7168.Idx → EReal) (t : Fin cfg0.N) (r q : Fin 1024) :
    View.read (Elt Ideal) ((cfg0.win 2).blk t).view A (ix3 0 r q) = A (ix3 ⟨t.val / 49, by have := t.isLt; have := N_eq; omega⟩ ⟨t.val / 7 % 7 * 1024 + r.val, by omega⟩ ⟨t.val % 7 * 1024 + q.val, by omega⟩) := by
  blk_ext [index2]

theorem out_ap (x : Vec Ideal S1x512x1024 .i8) (s : Vec Ideal S1x32x1024 .i8) (r q : Fin 1024) :
    (out0_2 (F := Ideal) x s (ix3 0 r q) : EReal) = Mxfp4.weight (x (ix3 0 ⟨r.val / 2, by omega⟩ q)) r.val (s (ix3 0 ⟨r.val / 32, by omega⟩ q)) := by
  have hz : (![0, 0, 0] : Fin 3 → Nat) = fun _ => 0 := funext fun a => by fin_cases a <;> rfl
  unfold out0_2
  rw [View.canon_unit_zero hz, View.ld_unit_zero (S := S1x512x1024) hz _ x, View.ld_unit_zero (S := S1x32x1024) hz _ s, pay1_ap, pay2_ap, Mxfp4.weight_eq]

/-- The weights at the end of the run. -/
theorem weights_at (e : Fin 4) (r q : Fin 7168) :
    ((dats m 0 c).arrAt 2 cfg0.N (ix3 e r q) : EReal)
      = Mxfp4.weight (V m c main_arg0 (ix3 e ⟨r.val / 2, by omega⟩ q)) r.val (V m c main_arg1 (ix3 e ⟨r.val / 32, by omega⟩ q)) := by
  have hN := N_eq
  have ht : e.val * 49 + r.val / 1024 * 7 + q.val / 1024 < cfg0.N := by omega
  have h1 : (e.val * 49 + r.val / 1024 * 7 + q.val / 1024) / 49 = e.val := by omega
  have h2 : (e.val * 49 + r.val / 1024 * 7 + q.val / 1024) / 7 % 7 = r.val / 1024 := by omega
  have h3 : (e.val * 49 + r.val / 1024 * 7 + q.val / 1024) % 7 = q.val / 1024 := by omega
  have ha := in2 ((dats m 0 c).arrAt 2 cfg0.N) ⟨_, ht⟩ ⟨r.val % 1024, by omega⟩ ⟨q.val % 1024, by omega⟩
  have hb := (congrFun (Value.blocks2 m c ⟨_, ht⟩ (flush0_2 _)) (ix3 0 ⟨r.val % 1024, by omega⟩ ⟨q.val % 1024, by omega⟩)).trans
    (congrFun (Value.flushed2 m c ⟨_, ht⟩) (ix3 0 ⟨r.val % 1024, by omega⟩ ⟨q.val % 1024, by omega⟩))
  have hc := out_ap (iblk m c 0 ⟨_, ht⟩) (iblk m c 1 ⟨_, ht⟩) ⟨r.val % 1024, by omega⟩ ⟨q.val % 1024, by omega⟩
  rw [in0, in1] at hc
  simp only [h1, h2, h3, show r.val / 1024 * 1024 + r.val % 1024 = r.val by omega, show q.val / 1024 * 1024 + q.val % 1024 = q.val by omega,
    show r.val / 1024 * 512 + r.val % 1024 / 2 = r.val / 2 by omega, show r.val / 1024 * 32 + r.val % 1024 / 32 = r.val / 32 by omega, Fin.eta] at ha hc
  refine ha.symm.trans (hb.trans (Eq.trans ?_ (hc.trans ?_)))
  · rfl
  · unfold Mxfp4.weight Mxfp4.half
    rw [show r.val % 1024 % 2 = r.val % 2 by omega]

end Cert.DequantIdeal.Hand

end
-- ==== Proof.WeightsIdeal.Pay.lean ====
/- What the dequantised weights' reference computes at an element, over the extended reals. -/
module

public import proofs.«01_k».proof.Proof.Gen.WeightsIdeal.Value
public import proofs.«01_k».proof.Proof.Mxfp4
public import Idealize.ShloMosaic.Lib.Pointwise

@[expose] public section

set_option maxRecDepth 16384

noncomputable section

namespace Cert.WeightsIdeal.Hand
open Idealize.ShloMosaic Cert.WeightsIdeal Cert.WeightsIdeal.Gen

/-- The scale of a byte. -/
theorem pay2_ap (s : Vec Ideal S4x224x7168 .i8) (e : Fin 4) (g : Fin 224) (q : Fin 7168) :
    (k0_pay2 (F := Ideal) s (ix3 e g q) : EReal) = Mxfp4.scale (s (ix3 e g q)) := by
  unfold Mxfp4.scale
  pointwise [k0_pay2]
  rfl

/-- The value of the code in the low half of a byte. -/
theorem pay10_ap (w : Vec Ideal S4x3584x7168 .i8) (e : Fin 4) (i : Fin 3584) (q : Fin 7168) :
    (k0_pay10 (F := Ideal) (k0_pay5 (F := Ideal) w) (k0_pay6 (F := Ideal) w) (k0_pay7 (F := Ideal) w) (k0_pay8 (F := Ideal) w) (k0_pay9 (F := Ideal) w) (ix3 e i q) : EReal)
      = Mxfp4.value (IntOp.andi ((w (ix3 e i q) : BitVec 8).setWidth 32) 15#32) := by
  unfold Mxfp4.value Mxfp4.mag Mxfp4.has
  pointwise [k0_pay10, k0_pay9, k0_pay8, k0_pay7, k0_pay6, k0_pay5, k0_pay4, k0_pay3]

/-- The values of the codes in the high halves, from the bits that the codes have, -/
def high (b1 b2 b4 b8 : IVec S4x3584x7168 1) (v : FVec Ideal S4x3584x7168 .bf16) : FVec Ideal S4x3584x7168 .bf16 :=
  have u : FVec Ideal S4x3584x7168 .bf16 := select b4 v (select b2 (select b1 (broadcast S4x3584x7168 (Scalar.ofBits .bf16 0x3FC0#16)) (broadcast S4x3584x7168 (Scalar.ofBits .bf16 0x3F80#16)))
    (select b1 (broadcast S4x3584x7168 (Scalar.ofBits .bf16 0x3F00#16)) (broadcast S4x3584x7168 (Scalar.ofBits .bf16 0x0000#16))))
  select b8 (subf (broadcast S4x3584x7168 (Scalar.ofBits .bf16 0x0000#16)) u) u
/-- the rows of the two halves, one after the other, -/
def pairs (lo hi : FVec Ideal S4x3584x7168 .bf16) : FVec Ideal S4x3584x2x7168 .bf16 :=
  concatenate S4x3584x2x7168 2 [⟨S4x3584x1x7168, shapeCast S4x3584x1x7168 lo shapeCasts_S4x3584x7168_S4x3584x1x7168⟩, ⟨S4x3584x1x7168, shapeCast S4x3584x1x7168 hi shapeCasts_S4x3584x7168_S4x3584x1x7168⟩] concatenates_S4x3584x1x7168_S4x3584x1x7168_S4x3584x2x7168_d2
/-- and these times their scales. -/
def scaled (s : FVec Ideal S4x224x7168 .bf16) (v : FVec Ideal S4x224x32x7168 .bf16) : FVec Ideal S4x224x32x7168 .bf16 :=
  mulf v (broadcastTo S4x224x32x7168 (shapeCast S4x224x1x7168 s shapeCasts_S4x224x7168_S4x224x1x7168) broadcasts_S4x224x1x7168_S4x224x32x7168)
def rows (s : FVec Ideal S4x224x7168 .bf16) (lo hi : FVec Ideal S4x3584x7168 .bf16) : FVec Ideal S4x7168x7168 .bf16 :=
  shapeCast S4x7168x7168 (scaled s (shapeCast S4x224x32x7168 (pairs lo hi) shapeCasts_S4x3584x2x7168_S4x224x32x7168)) shapeCasts_S4x224x32x7168_S4x7168x7168

theorem pay1_eq (s : FVec Ideal S4x224x7168 .bf16) (lo : FVec Ideal S4x3584x7168 .bf16) (b1 b2 b4 b8 : IVec S4x3584x7168 1) (v : FVec Ideal S4x3584x7168 .bf16) :
    k0_pay1 (F := Ideal) s lo b1 b2 b4 b8 v = rows s lo (high b1 b2 b4 b8 v) := rfl

/-- The value of the code in the high half of a byte. -/
theorem high_ap (w : IVec S4x3584x7168 32) (e : Fin 4) (i : Fin 3584) (q : Fin 7168) :
    (high (k0_pay12 w) (k0_pay13 w) (k0_pay14 w) (k0_pay15 w) (k0_pay16 (F := Ideal) w) (ix3 e i q) : EReal)
      = Mxfp4.value (IntOp.shrsi .vector (w (ix3 e i q)) 4#32) := by
  unfold Mxfp4.value Mxfp4.mag Mxfp4.has
  pointwise [high, k0_pay16, k0_pay15, k0_pay14, k0_pay13, k0_pay12, k0_pay11]

theorem pairs_ap (lo hi : FVec Ideal S4x3584x7168 .bf16) (e : Fin 4) (i : Fin 3584) (b : Fin 2) (q : Fin 7168) :
    (pairs lo hi (ix4 e i b q) : EReal) = if b.val < 1 then lo (ix3 e i q) else hi (ix3 e i q) := by
  pointwise [pairs]
  rfl

theorem scaled_ap (s : FVec Ideal S4x224x7168 .bf16) (v : FVec Ideal S4x224x32x7168 .bf16) (e : Fin 4) (g : Fin 224) (k : Fin 32) (q : Fin 7168) :
    (scaled s v (ix4 e g k q) : EReal) = HMul.hMul (α := EReal) (β := EReal) (γ := EReal) (v (ix4 e g k q)) (s (ix3 e g q)) := by
  pointwise [scaled]

/-! A reshape keeps an element's position in the order of rows. -/
theorem flat_ap (x : FVec Ideal S4x224x32x7168 .bf16) (e : Fin 4) (r q : Fin 7168) :
    shapeCast S4x7168x7168 x shapeCasts_S4x224x32x7168_S4x7168x7168 (ix3 e r q) = x (ix4 e ⟨r.val / 32, by omega⟩ ⟨r.val % 32, by omega⟩ q) :=
  congrArg x (Shape.reshapeEquiv_eq_of_vals _ _ _ (e.val * 51380224 + r.val / 32 * 229376 + r.val % 32 * 7168 + q.val) (e.val * 51380224 + r.val * 7168 + q.val)
    (rowMajor_val4 _ _ _ _ rfl rfl rfl) (rowMajor_val3 _ _ _ rfl rfl) (by omega))

theorem cut_ap (x : FVec Ideal S4x3584x2x7168 .bf16) (e : Fin 4) (g : Fin 224) (k : Fin 32) (q : Fin 7168) :
    shapeCast S4x224x32x7168 x shapeCasts_S4x3584x2x7168_S4x224x32x7168 (ix4 e g k q) = x (ix4 e ⟨16 * g.val + k.val / 2, by omega⟩ ⟨k.val % 2, by omega⟩ q) :=
  congrArg x (Shape.reshapeEquiv_eq_of_vals _ _ _ (e.val * 51380224 + (16 * g.val + k.val / 2) * 14336 + k.val % 2 * 7168 + q.val)
    (e.val * 51380224 + g.val * 229376 + k.val * 7168 + q.val)
    (rowMajor_val4 _ _ _ _ rfl rfl rfl) (rowMajor_val4 _ _ _ _ rfl rfl rfl) (by omega))

/-- The product of a row's value, of the low half at an even row and of the high half at an odd one, with its scale. -/
theorem rows_ap (s : FVec Ideal S4x224x7168 .bf16) (lo hi : FVec Ideal S4x3584x7168 .bf16) (e : Fin 4) (r q : Fin 7168) :
    (rows s lo hi (ix3 e r q) : EReal) = HMul.hMul (α := EReal) (β := EReal) (γ := EReal)
      (if r.val % 2 < 1 then lo (ix3 e ⟨r.val / 2, by omega⟩ q) else hi (ix3 e ⟨r.val / 2, by omega⟩ q)) (s (ix3 e ⟨r.val / 32, by omega⟩ q)) := by
  unfold rows
  rw [flat_ap, scaled_ap, cut_ap, pairs_ap]
  simp only [show 16 * (r.val / 32) + r.val % 32 / 2 = r.val / 2 by omega, show r.val % 32 % 2 = r.val % 2 by omega]

/-- The reference's array at an element is the weight. -/
theorem value_ap (w : Vec Ideal S4x3584x7168 .i8) (s : Vec Ideal S4x224x7168 .i8) (e : Fin 4) (r q : Fin 7168) :
    (Value.G2 (F := Ideal) w s (ix3 e r q) : EReal) = Mxfp4.weight (w (ix3 e ⟨r.val / 2, by omega⟩ q)) r.val (s (ix3 e ⟨r.val / 32, by omega⟩ q)) := by
  unfold Value.G2
  rw [pay1_eq, rows_ap, pay2_ap, pay10_ap, high_ap]
  unfold Mxfp4.weight Mxfp4.half
  split
  · rfl
  · have h17 : k0_pay17 (F := Ideal) w s (ix3 e ⟨r.val / 2, by omega⟩ q) = (w (ix3 e ⟨r.val / 2, by omega⟩ q) : BitVec 8).setWidth 32 := by
      pointwise [k0_pay17, k0_pay3]
    rw [h17]

end Cert.WeightsIdeal.Hand

end
-- ==== Proof.WeightsEqual.lean ====
/- The dequantiser's weights are the reference's. -/
module

public import proofs.«01_k».proof.Proof.DequantIdeal.Result
public import proofs.«01_k».proof.Proof.WeightsIdeal.Pay

@[expose] public section

namespace Cert.Hand

open Idealize.ShloMosaic Idealize.ShloMosaic.TcCoe

/-- An index of an array of rank three is its three coordinates. -/
theorem coords3 {a b c : ℕ} (y : (⟨3, ![a, b, c]⟩ : Shape).Idx) : ∃ (i : Fin a) (j : Fin b) (k : Fin c), y = ix3 i j k :=
  ⟨y 0, y 1, y 2, funext fun d => by fin_cases d <;> rfl⟩

/-- The array after the dequantiser's run is the one that the reference computes from the same codes and scales. -/
theorem weights_eq (m : (ℓ : Loc DequantIdeal.nD DequantIdeal.τ DequantIdeal.sig) → Buf (Elt Ideal) ℓ) (c : Dev DequantIdeal.nD) :
    (DequantIdeal.Gen.dats m 0 c).arrAt 2 DequantIdeal.cfg0.N
      = WeightsIdeal.Value.G2 (F := Ideal) (m ((c.tc : Thread DequantIdeal.nD DequantIdeal.τ).loc DequantIdeal.main_arg0))
          (m ((c.tc : Thread DequantIdeal.nD DequantIdeal.τ).loc DequantIdeal.main_arg1)) := by
  funext y
  obtain ⟨e, r, q, rfl⟩ := coords3 y
  exact (DequantIdeal.Hand.weights_at m c e r q).trans (WeightsIdeal.Hand.value_ap _ _ e r q).symm

end Cert.Hand
-- ==== Proof.lean ====
module

public import proofs.«01_k».proof.Defs
public import proofs.«01_k».proof.Proof.Kernel.Frame
public import proofs.«01_k».proof.Proof.Kernel.Admit
public import proofs.«01_k».proof.Proof.KernelIdeal.Frame
public import proofs.«01_k».proof.Proof.KernelIdeal.Admit
public import proofs.«01_k».proof.Proof.Gen.ReferenceIdeal.Frame
public import proofs.«01_k».proof.Proof.Gen.ReferenceIdeal.Value
public import proofs.«01_k».proof.Proof.Algebraic
public import proofs.«01_k».proof.Proof.Gen.Dequant.Frame
public import proofs.«01_k».proof.Proof.Gen.DequantIdeal.Frame
public import proofs.«01_k».proof.Proof.Gen.DequantIdeal.Value
public import proofs.«01_k».proof.Proof.Gen.WeightsIdeal.Value
public import proofs.«01_k».proof.Proof.Gen.WeightsIdeal.Frame
public import proofs.«01_k».proof.Proof.WeightsEqual

@[expose] public section

namespace Cert.Proof

open Idealize.ShloMosaic Idealize.ShloMosaic.TcCoe

/-- All the claims: the frames, the idealisation, and the equality of the results over the extended reals. -/
theorem claim : Cert.Claim :=
  ⟨Cert.Kernel.Gen.facts, Cert.KernelIdeal.Gen.facts, Cert.ReferenceIdeal.Gen.facts, Cert.Dequant.Gen.facts, Cert.DequantIdeal.Gen.facts, Cert.WeightsIdeal.Gen.facts,
    Cert.Pre_sizes_fill_the_rows.Gen.facts,
    fun m ρ h => Cert.Kernel.Hand.frame m ρ (Cert.Kernel.Hand.ok m (Cert.Kernel.Hand.fills m h)),
    fun m ρ h => Cert.KernelIdeal.Hand.frame m ρ (Cert.KernelIdeal.Hand.ok m (Cert.KernelIdeal.Hand.fills m h)),
    fun m ρ _ => Cert.ReferenceIdeal.Gen.frame m ρ,
    fun m ρ _ => Cert.ReferenceIdeal.Gen.frame m ρ,
    fun m ρ _ => Cert.Dequant.Gen.frame m ρ,
    fun m ρ _ => Cert.DequantIdeal.Gen.frame m ρ,
    fun m ρ _ => Cert.WeightsIdeal.Gen.frame m ρ,
    trivial,
    fun m ρ m' ρ' h he =>
      have hf := Cert.KernelIdeal.Hand.fills m h
      ⟨fun _ => (Cert.ReferenceIdeal.Gen.dats m' 0 0).arrAt 5 Cert.ReferenceIdeal.cfg0.N, fun _ => (Cert.ReferenceIdeal.Gen.dats m' 0 0).arrAt 6 Cert.ReferenceIdeal.cfg0.N,
        (θ_run _ _ _).mono (fun r hr c => ⟨Cert.Hand.codes_eq m m' hf (he 0).1 (he 0).2.1 (he 0).2.2.1 (he 0).2.2.2.1 (he 0).2.2.2.2 _ (hr c).1.1,
          Cert.Hand.scales_eq m m' hf (he 0).1 (he 0).2.1 (he 0).2.2.1 (he 0).2.2.2.1 (he 0).2.2.2.2 _ (hr c).1.2, (hr c).2⟩) (Cert.KernelIdeal.Hand.results m ρ hf),
        (θ_run _ _ _).mono (fun r hr c => by
          obtain rfl : c = 0 := Subsingleton.elim _ _
          exact hr 0) (Cert.ReferenceIdeal.Value.run_blocks m' ρ')⟩,
    trivial,
    fun m ρ m' ρ' _ he =>
      ⟨fun c => (Cert.DequantIdeal.Gen.dats m 0 c).arrAt 2 Cert.DequantIdeal.cfg0.N,
        Cert.DequantIdeal.Value.run_blocks m ρ,
        (θ_run _ _ _).mono (fun r hr c => ⟨(hr c).1.trans ((congrArg₂ (Cert.WeightsIdeal.Value.G2 (F := Ideal)) (he c).1 (he c).2).trans
          (Cert.Hand.weights_eq m c).symm), (hr c).2⟩) (Cert.WeightsIdeal.Value.run m' ρ')⟩⟩

end Cert.Proof
